-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_post [hPre_finite_post : Cert.Pre_finite_post.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_post.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8)) (m ((c.tc : Thread Cert.PostReferenceIdeal.nD Cert.PostReferenceIdeal.τ).loc Cert.PostReferenceIdeal.main_arg9)) (m ((c.tc : Thread Cert.PostReferenceIdeal.nD Cert.PostReferenceIdeal.τ).loc Cert.PostReferenceIdeal.main_arg10)) (m ((c.tc : Thread Cert.PostReferenceIdeal.nD Cert.PostReferenceIdeal.τ).loc Cert.PostReferenceIdeal.main_arg11)) (m ((c.tc : Thread Cert.PostReferenceIdeal.nD Cert.PostReferenceIdeal.τ).loc Cert.PostReferenceIdeal.main_arg12)) (m ((c.tc : Thread Cert.PostReferenceIdeal.nD Cert.PostReferenceIdeal.τ).loc Cert.PostReferenceIdeal.main_arg13)) (m ((c.tc : Thread Cert.PostReferenceIdeal.nD Cert.PostReferenceIdeal.τ).loc Cert.PostReferenceIdeal.main_arg14))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14))
      ∧ r.2.sem = fun _ => 0)

def quiescent_PostReferenceIdeal_pre_finite_post [hPostReferenceIdeal : Cert.PostReferenceIdeal.Facts] [hPre_finite_post : Cert.Pre_finite_post.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_post m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Post_PostIdeal : Prop :=
  True

def algebraic_PostIdeal_PostReferenceIdeal_pre_finite_post [hPostIdeal : Cert.PostIdeal.Facts] [hPostReferenceIdeal : Cert.PostReferenceIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite_post m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)
      ∧ m' ((c.tc : Thread Cert.PostReferenceIdeal.nD Cert.PostReferenceIdeal.τ).loc Cert.PostReferenceIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v83) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14))

def preserves_Inproj_InprojIdeal : Prop :=
  IdealRules.named_const.Statement Cert.InprojIdeal.κ "qscale" .f32 0x3E38AA3B#32 ((8⁻¹ * (Real.log 2)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v42_0)) (v1 : (c : Dev Cert.InprojIdeal.nD) → Buf (Elt Ideal) ((c.tc : Thread Cert.InprojIdeal.nD Cert.InprojIdeal.τ).loc Cert.InprojIdeal.main_v42_1)) (v2 : (c : Dev Cert.InprojIdeal.nD) → Buf (Elt Ideal) ((c.tc : Thread Cert.InprojIdeal.nD Cert.InprojIdeal.τ).loc Cert.InprojIdeal.main_v42_2)) (v3 : (c : Dev Cert.InprojIdeal.nD) → Buf (Elt Ideal) ((c.tc : Thread Cert.InprojIdeal.nD Cert.InprojIdeal.τ).loc Cert.InprojIdeal.main_v42_3)) (v4 : (c : Dev Cert.InprojIdeal.nD) → Buf (Elt Ideal) ((c.tc : Thread Cert.InprojIdeal.nD Cert.InprojIdeal.τ).loc Cert.InprojIdeal.main_v42_4)) (v5 : (c : Dev Cert.InprojIdeal.nD) → Buf (Elt Ideal) ((c.tc : Thread Cert.InprojIdeal.nD Cert.InprojIdeal.τ).loc Cert.InprojIdeal.main_v42_5)) (v6 : (c : Dev Cert.InprojIdeal.nD) → Buf (Elt Ideal) ((c.tc : Thread Cert.InprojIdeal.nD Cert.InprojIdeal.τ).loc Cert.InprojIdeal.main_v42_6)) (v7 : (c : Dev Cert.InprojIdeal.nD) → Buf (Elt Ideal) ((c.tc : Thread Cert.InprojIdeal.nD Cert.InprojIdeal.τ).loc Cert.InprojIdeal.main_v42_7)) (v8 : (c : Dev Cert.InprojIdeal.nD) → Buf (Elt Ideal) ((c.tc : Thread Cert.InprojIdeal.nD Cert.InprojIdeal.τ).loc Cert.InprojIdeal.main_v44)) (v9 : (c : Dev Cert.InprojIdeal.nD) → Buf (Elt Ideal) ((c.tc : Thread Cert.InprojIdeal.nD Cert.InprojIdeal.τ).loc Cert.InprojIdeal.main_v45)) (v10 : (c : Dev Cert.InprojIdeal.nD) → Buf (Elt Ideal) ((c.tc : Thread Cert.InprojIdeal.nD Cert.InprojIdeal.τ).loc Cert.InprojIdeal.main_v47)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v42_0) = v0 c
          ∧ r.2.mem ((c.tc : Thread Cert.InprojIdeal.nD Cert.InprojIdeal.τ).loc Cert.InprojIdeal.main_v42_1) = v1 c
          ∧ r.2.mem ((c.tc : Thread Cert.InprojIdeal.nD Cert.InprojIdeal.τ).loc Cert.InprojIdeal.main_v42_2) = v2 c
          ∧ r.2.mem ((c.tc : Thread Cert.InprojIdeal.nD Cert.InprojIdeal.τ).loc Cert.InprojIdeal.main_v42_3) = v3 c
          ∧ r.2.mem ((c.tc : Thread Cert.InprojIdeal.nD Cert.InprojIdeal.τ).loc Cert.InprojIdeal.main_v42_4) = v4 c
          ∧ r.2.mem ((c.tc : Thread Cert.InprojIdeal.nD Cert.InprojIdeal.τ).loc Cert.InprojIdeal.main_v42_5) = v5 c
          ∧ r.2.mem ((c.tc : Thread Cert.InprojIdeal.nD Cert.InprojIdeal.τ).loc Cert.InprojIdeal.main_v42_6) = v6 c
          ∧ r.2.mem ((c.tc : Thread Cert.InprojIdeal.nD Cert.InprojIdeal.τ).loc Cert.InprojIdeal.main_v42_7) = v7 c
          ∧ r.2.mem ((c.tc : Thread Cert.InprojIdeal.nD Cert.InprojIdeal.τ).loc Cert.InprojIdeal.main_v44) = v8 c
          ∧ r.2.mem ((c.tc : Thread Cert.InprojIdeal.nD Cert.InprojIdeal.τ).loc Cert.InprojIdeal.main_v45) = v9 c
          ∧ r.2.mem ((c.tc : Thread Cert.InprojIdeal.nD Cert.InprojIdeal.τ).loc Cert.InprojIdeal.main_v47) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v88) = v0 c
          ∧ r.2.mem ((c.tc : Thread Cert.InprojReferenceIdeal.nD Cert.InprojReferenceIdeal.τ).loc Cert.InprojReferenceIdeal.main_v84) = v1 c
          ∧ r.2.mem ((c.tc : Thread Cert.InprojReferenceIdeal.nD Cert.InprojReferenceIdeal.τ).loc Cert.InprojReferenceIdeal.main_v3) = v2 c
          ∧ r.2.mem ((c.tc : Thread Cert.InprojReferenceIdeal.nD Cert.InprojReferenceIdeal.τ).loc Cert.InprojReferenceIdeal.main_v4) = v3 c
          ∧ r.2.mem ((c.tc : Thread Cert.InprojReferenceIdeal.nD Cert.InprojReferenceIdeal.τ).loc Cert.InprojReferenceIdeal.main_v5) = v4 c
          ∧ r.2.mem ((c.tc : Thread Cert.InprojReferenceIdeal.nD Cert.InprojReferenceIdeal.τ).loc Cert.InprojReferenceIdeal.main_v87) = v5 c
          ∧ r.2.mem ((c.tc : Thread Cert.InprojReferenceIdeal.nD Cert.InprojReferenceIdeal.τ).loc Cert.InprojReferenceIdeal.main_v89) = v6 c
          ∧ r.2.mem ((c.tc : Thread Cert.InprojReferenceIdeal.nD Cert.InprojReferenceIdeal.τ).loc Cert.InprojReferenceIdeal.main_v90) = v7 c
          ∧ r.2.mem ((c.tc : Thread Cert.InprojReferenceIdeal.nD Cert.InprojReferenceIdeal.τ).loc Cert.InprojReferenceIdeal.main_v81) = v8 c
          ∧ r.2.mem ((c.tc : Thread Cert.InprojReferenceIdeal.nD Cert.InprojReferenceIdeal.τ).loc Cert.InprojReferenceIdeal.main_v91) = v9 c
          ∧ r.2.mem ((c.tc : Thread Cert.InprojReferenceIdeal.nD Cert.InprojReferenceIdeal.τ).loc Cert.InprojReferenceIdeal.main_v93) = v10 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1))

def preserves_Sample_SampleIdeal : Prop :=
  IdealRules.named_const.Statement Cert.SampleIdeal.κ "qscale" .f32 0x3E38AA3B#32 ((8⁻¹ * (Real.log 2)⁻¹ : ℝ) : EReal)

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v60)) (v1 : (c : Dev Cert.SampleIdeal.nD) → Buf (Elt Ideal) ((c.tc : Thread Cert.SampleIdeal.nD Cert.SampleIdeal.τ).loc Cert.SampleIdeal.main_v61)) (v2 : (c : Dev Cert.SampleIdeal.nD) → Buf (Elt Ideal) ((c.tc : Thread Cert.SampleIdeal.nD Cert.SampleIdeal.τ).loc Cert.SampleIdeal.main_v59)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v60) = v0 c
          ∧ r.2.mem ((c.tc : Thread Cert.SampleIdeal.nD Cert.SampleIdeal.τ).loc Cert.SampleIdeal.main_v61) = v1 c
          ∧ r.2.mem ((c.tc : Thread Cert.SampleIdeal.nD Cert.SampleIdeal.τ).loc Cert.SampleIdeal.main_v59) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v42) = v0 c
          ∧ r.2.mem ((c.tc : Thread Cert.SampleReferenceIdeal.nD Cert.SampleReferenceIdeal.τ).loc Cert.SampleReferenceIdeal.main_v43) = v1 c
          ∧ r.2.mem ((c.tc : Thread Cert.SampleReferenceIdeal.nD Cert.SampleReferenceIdeal.τ).loc Cert.SampleReferenceIdeal.main_v44) = v2 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hInproj : Cert.Inproj.Facts) (hInprojIdeal : Cert.InprojIdeal.Facts) (hInprojReferenceIdeal : Cert.InprojReferenceIdeal.Facts) (hSample : Cert.Sample.Facts) (hSampleIdeal : Cert.SampleIdeal.Facts) (hSampleReferenceIdeal : Cert.SampleReferenceIdeal.Facts) (hPre_finite : Cert.Pre_finite.Facts) (hPre_finite_post : Cert.Pre_finite_post.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostReferenceIdeal (hPostReferenceIdeal := hPostReferenceIdeal)
    ∧ quiescent_PostReferenceIdeal_pre_finite_post (hPostReferenceIdeal := hPostReferenceIdeal) (hPre_finite_post := hPre_finite_post)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal_pre_finite_post (hPostIdeal := hPostIdeal) (hPostReferenceIdeal := hPostReferenceIdeal) (hPre_finite_post := hPre_finite_post)
    ∧ preserves_Inproj_InprojIdeal
    ∧ algebraic_InprojIdeal_InprojReferenceIdeal (hInprojIdeal := hInprojIdeal) (hInprojReferenceIdeal := hInprojReferenceIdeal)
    ∧ preserves_Sample_SampleIdeal
    ∧ algebraic_SampleIdeal_SampleReferenceIdeal (hSampleIdeal := hSampleIdeal) (hSampleReferenceIdeal := hSampleReferenceIdeal)
-- ==== Pre_finite.lean ====
abbrev S16384x1024 : Shape := ⟨2, ![16384, 1024]⟩
abbrev S2x32x1024x256 : Shape := ⟨4, ![2, 32, 1024, 256]⟩
abbrev S1x64 : Shape := ⟨2, ![1, 64]⟩
abbrev S1x128 : Shape := ⟨2, ![1, 128]⟩
abbrev S_ : Shape := ⟨0, ![]⟩
abbrev S1 : Shape := ⟨1, ![1]⟩
abbrev S7 : Shape := ⟨1, ![7]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x32x1024x256 : S_.BroadcastsInDim S2x32x1024x256 (![] : Fin 0 → Fin S2x32x1024x256.rank)
  reducesTo_S2x32x1024x256_S_d0_1_2_3 : S2x32x1024x256.ReducesTo [0, 1, 2, 3] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  concatenates_S1_S1_S1_S1_S1_S1_S1_S7_d0 : Shape.Concatenates [S1, S1, S1, S1, S1, S1, S1] S7 0
  reducesTo_S7_S_d0 : S7.ReducesTo [0] S_

variable [Facts]

def fn_part2 {F : FTy → Type} [FloatOps F] (main_v18 : IVec S_ 1) (main_v22 : IVec S_ 1) (main_v26 : IVec S_ 1) (main_v30 : IVec S_ 1) (main_v31 : IVec S1 1) (main_v32 : IVec S1 1) (main_v33 : IVec S1 1) : IVec S_ 1 :=
  let main_v34 : IVec S1 1 := broadcastInDim S1 ![] bcast_S_S1 main_v18
  let main_v35 : IVec S1 1 := broadcastInDim S1 ![] bcast_S_S1 main_v22
  let main_v36 : IVec S1 1 := broadcastInDim S1 ![] bcast_S_S1 main_v26
  let main_v37 : IVec S1 1 := broadcastInDim S1 ![] bcast_S_S1 main_v30
  let main_v38 : IVec S7 1 := concatenate S7 0 [⟨S1, main_v31⟩, ⟨S1, main_v32⟩, ⟨S1, main_v33⟩, ⟨S1, main_v34⟩, ⟨S1, main_v35⟩, ⟨S1, main_v36⟩, ⟨S1, main_v37⟩] concatenates_S1_S1_S1_S1_S1_S1_S1_S7_d0
  let main_c_12 : IVec S_ 1 := constantI S_ 1 1#1
  let main_v39 : IVec S_ 1 := (fun x v => Host.reduce IntOp.andi x v reducesTo_S7_S_d0 h_S_) main_v38 main_c_12
  main_v39

def fn_part1 {F : FTy → Type} [FloatOps F] (main_arg4 : FVec F S1x64 .f32) (main_arg5 : FVec F S1x64 .f32) (main_arg6 : FVec F S1x64 .f32) (main_v4 : IVec S_ 1) (main_v9 : IVec S_ 1) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : FVec F S1x64 .f32 := Host.absf main_arg5
  let main_cst_8 : FVec F S_ .f32 := constant S_ .f32 0x7F800000#32
  let main_v24 : FVec F S1x64 .f32 := broadcastInDim S1x64 ![] bcast_S_S1x64 main_cst_8
  let main_v25 : IVec S1x64 1 := cmpf .olt main_v23 main_v24
  let main_c_9 : IVec S_ 1 := constantI S_ 1 1#1
  let main_v26 : IVec S_ 1 := (fun x v => Host.reduce IntOp.andi x v reducesTo_S1x64_S_d0_1 h_S_) main_v25 main_c_9
  let main_v27 : FVec F S1x64 .f32 := Host.absf main_arg6
  let main_cst_10 : FVec F S_ .f32 := constant S_ .f32 0x7F800000#32
  let main_v28 : FVec F S1x64 .f32 := broadcastInDim S1x64 ![] bcast_S_S1x64 main_cst_10
  let main_v29 : IVec S1x64 1 := cmpf .olt main_v27 main_v28
  let main_c_11 : IVec S_ 1 := constantI S_ 1 1#1
  let main_v30 : IVec S_ 1 := (fun x v => Host.reduce IntOp.andi x v reducesTo_S1x64_S_d0_1 h_S_) main_v29 main_c_11
  let main_v31 : IVec S1 1 := broadcastInDim S1 ![] bcast_S_S1 main_v4
  let main_v32 : IVec S1 1 := broadcastInDim S1 ![] bcast_S_S1 main_v9
  let main_v33 : IVec S1 1 := broadcastInDim S1 ![] bcast_S_S1 main_v14
  fn_part2 (F := F) main_v18 main_v22 main_v26 main_v30 main_v31 main_v32 main_v33

def fn {F : FTy → Type} [FloatOps F] (main_arg0 : FVec F S16384x1024 .bf16) (main_arg1 : FVec F S16384x1024 .bf16) (main_arg2 : FVec F S2x32x1024x256 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S2x32x1024x256 .f32 := (extf .f32 · bitsLt_bf16_f32) main_arg2
  let main_v11 : FVec F S2x32x1024x256 .f32 := Host.absf main_v10
  let main_cst_2 : FVec F S_ .f32 := constant S_ .f32 0x7F800000#32
  let main_v12 : FVec F S2x32x1024x256 .f32 := broadcastInDim S2x32x1024x256 ![] bcast_S_S2x32x1024x256 main_cst_2
  let main_v13 : IVec S2x32x1024x256 1 := cmpf .olt main_v11 main_v12
  let main_c_3 : IVec S_ 1 := constantI S_ 1 1#1
  let main_v14 : IVec S_ 1 := (fun x v => Host.reduce IntOp.andi x v reducesTo_S2x32x1024x256_S_d0_1_2_3 h_S_) main_v13 main_c_3
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_arg5 main_arg6 main_v4 main_v9 main_v14 main_v15 main_v16
-- ==== Pre_finite_post.lean ====
abbrev S16384x1024 : Shape := ⟨2, ![16384, 1024]⟩
abbrev S16384x256 : Shape := ⟨2, ![16384, 256]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S_ : Shape := ⟨0, ![]⟩
abbrev S1 : Shape := ⟨1, ![1]⟩
abbrev S8 : Shape := ⟨1, ![8]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0
  reducesTo_S8_S_d0 : S8.ReducesTo [0] S_

variable [Facts]

def fn_part2 {F : FTy → Type} [FloatOps F] (main_v4 : IVec S_ 1) (main_v9 : IVec S_ 1) (main_v13 : IVec S_ 1) (main_v18 : IVec S_ 1) (main_v23 : IVec S_ 1) (main_v28 : IVec S_ 1) (main_v32 : IVec S_ 1) (main_v33 : FVec F S1x1024 .f32) : IVec S_ 1 :=
  let main_cst_12 : FVec F S_ .f32 := constant S_ .f32 0x7F800000#32
  let main_v34 : FVec F S1x1024 .f32 := broadcastInDim S1x1024 ![] bcast_S_S1x1024 main_cst_12
  let main_v35 : IVec S1x1024 1 := cmpf .olt main_v33 main_v34
  let main_c_13 : IVec S_ 1 := constantI S_ 1 1#1
  let main_v36 : IVec S_ 1 := (fun x v => Host.reduce IntOp.andi x v reducesTo_S1x1024_S_d0_1 h_S_) main_v35 main_c_13
  let main_v37 : IVec S1 1 := broadcastInDim S1 ![] bcast_S_S1 main_v4
  let main_v38 : IVec S1 1 := broadcastInDim S1 ![] bcast_S_S1 main_v9
  let main_v39 : IVec S1 1 := broadcastInDim S1 ![] bcast_S_S1 main_v13
  let main_v40 : IVec S1 1 := broadcastInDim S1 ![] bcast_S_S1 main_v18
  let main_v41 : IVec S1 1 := broadcastInDim S1 ![] bcast_S_S1 main_v23
  let main_v42 : IVec S1 1 := broadcastInDim S1 ![] bcast_S_S1 main_v28
  let main_v43 : IVec S1 1 := broadcastInDim S1 ![] bcast_S_S1 main_v32
  let main_v44 : IVec S1 1 := broadcastInDim S1 ![] bcast_S_S1 main_v36
  let main_v45 : IVec S8 1 := concatenate S8 0 [⟨S1, main_v37⟩, ⟨S1, main_v38⟩, ⟨S1, main_v39⟩, ⟨S1, main_v40⟩, ⟨S1, main_v41⟩, ⟨S1, main_v42⟩, ⟨S1, main_v43⟩, ⟨S1, main_v44⟩] concatenates_S1_S1_S1_S1_S1_S1_S1_S1_S8_d0
  let main_c_14 : IVec S_ 1 := constantI S_ 1 1#1
  let main_v46 : IVec S_ 1 := (fun x v => Host.reduce IntOp.andi x v reducesTo_S8_S_d0 h_S_) main_v45 main_c_14
  main_v46

def fn_part1 {F : FTy → Type} [FloatOps F] (main_arg5 : FVec F S1024x1024 .bf16) (main_arg6 : FVec F S1024x2816 .bf16) (main_arg11 : FVec F S1x1024 .f32) (main_arg12 : FVec F S1x1024 .f32) (main_v4 : IVec S_ 1) (main_v9 : IVec S_ 1) (main_v13 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : FVec F S1024x1024 .f32 := (extf .f32 · bitsLt_bf16_f32) main_arg5
  let main_v20 : FVec F S1024x1024 .f32 := Host.absf main_v19
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : FVec F S1024x2816 .f32 := (extf .f32 · bitsLt_bf16_f32) main_arg6
  let main_v25 : FVec F S1024x2816 .f32 := Host.absf main_v24
  let main_cst_8 : FVec F S_ .f32 := constant S_ .f32 0x7F800000#32
  let main_v26 : FVec F S1024x2816 .f32 := broadcastInDim S1024x2816 ![] bcast_S_S1024x2816 main_cst_8
  let main_v27 : IVec S1024x2816 1 := cmpf .olt main_v25 main_v26
  let main_c_9 : IVec S_ 1 := constantI S_ 1 1#1
  let main_v28 : IVec S_ 1 := (fun x v => Host.reduce IntOp.andi x v reducesTo_S1024x2816_S_d0_1 h_S_) main_v27 main_c_9
  let main_v29 : FVec F S1x1024 .f32 := Host.absf main_arg11
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : FVec F S1x1024 .f32 := Host.absf main_arg12
  fn_part2 (F := F) main_v4 main_v9 main_v13 main_v18 main_v23 main_v28 main_v32 main_v33

def fn {F : FTy → Type} [FloatOps F] (main_arg0 : FVec F S16384x1024 .bf16) (main_arg1 : FVec F S16384x1024 .bf16) (main_arg2 : FVec F S16384x1024 .f32) (main_arg3 : FVec F S16384x256 .f32) (main_arg4 : FVec F S1024x1024 .bf16) (main_arg5 : FVec F S1024x1024 .bf16) (main_arg6 : FVec F S1024x2816 .bf16) (main_arg7 : FVec F S1024x2816 .bf16) (main_arg8 : FVec F S2816x1024 .bf16) (main_arg9 : FVec F S256x1024 .bf16) (main_arg10 : FVec F S1024x1024 .bf16) (main_arg11 : FVec F S1x1024 .f32) (main_arg12 : FVec F S1x1024 .f32) (main_arg13 : FVec F S1x1024 .f32) (main_arg14 : FVec F S1x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : FVec F S1024x1024 .f32 := (extf .f32 · bitsLt_bf16_f32) main_arg4
  let main_v15 : FVec F S1024x1024 .f32 := Host.absf main_v14
  let main_cst_4 : FVec F S_ .f32 := constant S_ .f32 0x7F800000#32
  let main_v16 : FVec F S1024x1024 .f32 := broadcastInDim S1024x1024 ![] bcast_S_S1024x1024 main_cst_4
  fn_part1 (F := F) main_arg5 main_arg6 main_arg11 main_arg12 main_v4 main_v9 main_v13 main_v15 main_v16
-- ==== Kernel.lean ====
abbrev S16384x1024 : Shape := ⟨2, ![16384, 1024]⟩
abbrev S2x32x1024x256 : Shape := ⟨4, ![2, 32, 1024, 256]⟩
abbrev S1x64 : Shape := ⟨2, ![1, 64]⟩
abbrev S1x128 : Shape := ⟨2, ![1, 128]⟩
abbrev S512x128 : Shape := ⟨2, ![512, 128]⟩
abbrev S8192x128 : Shape := ⟨2, ![8192, 128]⟩
abbrev S1x32x128x256 : Shape := ⟨4, ![1, 32, 128, 256]⟩
abbrev S256x1024 : Shape := ⟨2, ![256, 1024]⟩
abbrev S1x1024 : Shape := ⟨2, ![1, 1024]⟩
abbrev S144x1024 : Shape := ⟨2, ![144, 1024]⟩
abbrev S128x512 : Shape := ⟨2, ![128, 512]⟩
abbrev S128x1024 : Shape := ⟨2, ![128, 1024]⟩
abbrev S16x256 : Shape := ⟨2, ![16, 256]⟩
abbrev S256x128 : Shape := ⟨2, ![256, 128]⟩
abbrev S1024 : Shape := ⟨1, ![1024]⟩
abbrev S1x1x128x256 : Shape := ⟨4, ![1, 1, 128, 256]⟩
abbrev S128x256 : Shape := ⟨2, ![128, 256]⟩
abbrev S144x256 : Shape := ⟨2, ![144, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x512 : Shape := ⟨2, ![1, 512]⟩
abbrev S512 : Shape := ⟨1, ![512]⟩

abbrev nBuf : Space → Nat
  | .hbm => 9
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x32x1024x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S144x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
@[reducible] def k0_t1_loop (i : grid0.Coords) : Scf.Loop 32 :=
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_25 : BitVec 32 := 1#32
  ⟨c0_i32_23, v56, c1_i32_25⟩
def k0_mult2 (i : grid0.Coords) (k0_t1 : Fin (k0_t1_loop i).trips) : BitVec 32 :=
  let c2_i32_128 : BitVec 32 := 2#32
  let c2_i32_127 : BitVec 32 := 2#32
  let c0_i32_23 : BitVec 32 := 0#32
  let c1_i32_25 : BitVec 32 := 1#32
  let arg18 : BitVec 32 := Scf.iv c0_i32_23 c1_i32_25 k0_t1
  let v256 : BitVec 32 := Scalar.muli c2_i32_127 arg18
  let v257 : BitVec 32 := Scalar.muli c2_i32_128 v256
  let c1_i32_129 : BitVec 32 := 1#32
  let v258 : BitVec 32 := Scalar.addi v257 c1_i32_129
  let c256_i32_130 : BitVec 32 := 256#32
  let v259 : BitVec 32 := Scalar.muli v258 c256_i32_130
  v259
def k0_off1 (i : grid0.Coords) (k0_t1 : Fin (k0_t1_loop i).trips) (c1_i32_129 : BitVec 32) : Fin 2 → Nat :=
  let c2_i32_128 : BitVec 32 := 2#32
  let c2_i32_127 : BitVec 32 := 2#32
  let c0_i32_23 : BitVec 32 := 0#32
  let c1_i32_25 : BitVec 32 := 1#32
  let arg18 : BitVec 32 := Scf.iv c0_i32_23 c1_i32_25 k0_t1
  let v256 : BitVec 32 := Scalar.muli c2_i32_127 arg18
  let v257 : BitVec 32 := Scalar.muli c2_i32_128 v256
  let v258 : BitVec 32 := Scalar.addi v257 c1_i32_129
  let c256_i32_130 : BitVec 32 := 256#32
  let v259 : BitVec 32 := Scalar.muli v258 c256_i32_130
  let v260 : BitVec 32 := v259
  let v261 : Index := Scalar.indexCast v260
  let c0_131 : Index := 0#32
  ![v261.toNat, 0]
def k0_off2 (i : grid0.Coords) (k0_t1 : Fin (k0_t1_loop i).trips) : Fin 4 → Nat :=
  let c0_147 : Index := 0#32
  let c2_i32_138 : BitVec 32 := 2#32
  let c2_i32_127 : BitVec 32 := 2#32
  let c0_i32_23 : BitVec 32 := 0#32
  let c1_i32_25 : BitVec 32 := 1#32
  let arg18 : BitVec 32 := Scf.iv c0_i32_23 c1_i32_25 k0_t1
  let v256 : BitVec 32 := Scalar.muli c2_i32_127 arg18
  let v272 : BitVec 32 := Scalar.muli c2_i32_138 v256
  let v286 : Index := Scalar.indexCast v272
  let c0_148 : Index := 0#32
  let c0_149 : Index := 0#32
  ![0, v286.toNat, 0, 0]
def k0_mult3 (i : grid0.Coords) (k0_t1 : Fin (k0_t1_loop i).trips) : BitVec 32 :=
  let c2_i32_155 : BitVec 32 := 2#32
  let c2_i32_127 : BitVec 32 := 2#32
  let c0_i32_23 : BitVec 32 := 0#32
  let c1_i32_25 : BitVec 32 := 1#32
  let arg18 : BitVec 32 := Scf.iv c0_i32_23 c1_i32_25 k0_t1
  let v256 : BitVec 32 := Scalar.muli c2_i32_127 arg18
  let v298 : BitVec 32 := Scalar.muli c2_i32_155 v256
  let c2_i32_156 : BitVec 32 := 2#32
  let v299 : BitVec 32 := Scalar.addi v298 c2_i32_156
  let c256_i32_157 : BitVec 32 := 256#32
  let v300 : BitVec 32 := Scalar.muli v299 c256_i32_157
  v300
def k0_off3 (i : grid0.Coords) (k0_t1 : Fin (k0_t1_loop i).trips) : Fin 4 → Nat :=
  let c0_175 : Index := 0#32
  let c2_i32_165 : BitVec 32 := 2#32
  let c2_i32_127 : BitVec 32 := 2#32
  let c0_i32_23 : BitVec 32 := 0#32
  let c1_i32_25 : BitVec 32 := 1#32
  let arg18 : BitVec 32 := Scf.iv c0_i32_23 c1_i32_25 k0_t1
  let v256 : BitVec 32 := Scalar.muli c2_i32_127 arg18
  let v313 : BitVec 32 := Scalar.muli c2_i32_165 v256
  let c1_i32_166 : BitVec 32 := 1#32
  let v314 : BitVec 32 := Scalar.addi v313 c1_i32_166
  let v328 : Index := Scalar.indexCast v314
  let c0_176 : Index := 0#32
  let c0_177 : Index := 0#32
  ![0, v328.toNat, 0, 0]
def k0_mult4 (i : grid0.Coords) (k0_t1 : Fin (k0_t1_loop i).trips) : BitVec 32 :=
  let c2_i32_185 : BitVec 32 := 2#32
  let c2_i32_183 : BitVec 32 := 2#32
  let c0_i32_23 : BitVec 32 := 0#32
  let c1_i32_25 : BitVec 32 := 1#32
  let arg18 : BitVec 32 := Scf.iv c0_i32_23 c1_i32_25 k0_t1
  let v340 : BitVec 32 := Scalar.muli c2_i32_183 arg18
  let c1_i32_184 : BitVec 32 := 1#32
  let v341 : BitVec 32 := Scalar.addi v340 c1_i32_184
  let v342 : BitVec 32 := Scalar.muli c2_i32_185 v341
  let c1_i32_186 : BitVec 32 := 1#32
  let v343 : BitVec 32 := Scalar.addi v342 c1_i32_186
  let c256_i32_187 : BitVec 32 := 256#32
  let v344 : BitVec 32 := Scalar.muli v343 c256_i32_187
  v344
def k0_off4 (i : grid0.Coords) (k0_t1 : Fin (k0_t1_loop i).trips) (c1_i32_186 : BitVec 32) : Fin 2 → Nat :=
  let c2_i32_185 : BitVec 32 := 2#32
  let c2_i32_183 : BitVec 32 := 2#32
  let c0_i32_23 : BitVec 32 := 0#32
  let c1_i32_25 : BitVec 32 := 1#32
  let arg18 : BitVec 32 := Scf.iv c0_i32_23 c1_i32_25 k0_t1
  let v340 : BitVec 32 := Scalar.muli c2_i32_183 arg18
  let c1_i32_184 : BitVec 32 := 1#32
  let v341 : BitVec 32 := Scalar.addi v340 c1_i32_184
  let v342 : BitVec 32 := Scalar.muli c2_i32_185 v341
  let v343 : BitVec 32 := Scalar.addi v342 c1_i32_186
  let c256_i32_187 : BitVec 32 := 256#32
  let v344 : BitVec 32 := Scalar.muli v343 c256_i32_187
  let v345 : BitVec 32 := v344
  let v346 : Index := Scalar.indexCast v345
  let c0_188 : Index := 0#32
  ![v346.toNat, 0]
def k0_off5 (i : grid0.Coords) (k0_t1 : Fin (k0_t1_loop i).trips) : Fin 4 → Nat :=
  let c0_204 : Index := 0#32
  let c2_i32_195 : BitVec 32 := 2#32
  let c2_i32_183 : BitVec 32 := 2#32
  let c0_i32_23 : BitVec 32 := 0#32
  let c1_i32_25 : BitVec 32 := 1#32
  let arg18 : BitVec 32 := Scf.iv c0_i32_23 c1_i32_25 k0_t1
  let v340 : BitVec 32 := Scalar.muli c2_i32_183 arg18
  let c1_i32_184 : BitVec 32 := 1#32
  let v341 : BitVec 32 := Scalar.addi v340 c1_i32_184
  let v357 : BitVec 32 := Scalar.muli c2_i32_195 v341
  let v371 : Index := Scalar.indexCast v357
  let c0_205 : Index := 0#32
  let c0_206 : Index := 0#32
  ![0, v371.toNat, 0, 0]
def k0_mult5 (i : grid0.Coords) (k0_t1 : Fin (k0_t1_loop i).trips) : BitVec 32 :=
  let c2_i32_212 : BitVec 32 := 2#32
  let c2_i32_183 : BitVec 32 := 2#32
  let c0_i32_23 : BitVec 32 := 0#32
  let c1_i32_25 : BitVec 32 := 1#32
  let arg18 : BitVec 32 := Scf.iv c0_i32_23 c1_i32_25 k0_t1
  let v340 : BitVec 32 := Scalar.muli c2_i32_183 arg18
  let c1_i32_184 : BitVec 32 := 1#32
  let v341 : BitVec 32 := Scalar.addi v340 c1_i32_184
  let v383 : BitVec 32 := Scalar.muli c2_i32_212 v341
  let c2_i32_213 : BitVec 32 := 2#32
  let v384 : BitVec 32 := Scalar.addi v383 c2_i32_213
  let c256_i32_214 : BitVec 32 := 256#32
  let v385 : BitVec 32 := Scalar.muli v384 c256_i32_214
  v385
def k0_off6 (i : grid0.Coords) (k0_t1 : Fin (k0_t1_loop i).trips) : Fin 4 → Nat :=
  let c0_232 : Index := 0#32
  let c2_i32_222 : BitVec 32 := 2#32
  let c2_i32_183 : BitVec 32 := 2#32
  let c0_i32_23 : BitVec 32 := 0#32
  let c1_i32_25 : BitVec 32 := 1#32
  let arg18 : BitVec 32 := Scf.iv c0_i32_23 c1_i32_25 k0_t1
  let v340 : BitVec 32 := Scalar.muli c2_i32_183 arg18
  let c1_i32_184 : BitVec 32 := 1#32
  let v341 : BitVec 32 := Scalar.addi v340 c1_i32_184
  let v398 : BitVec 32 := Scalar.muli c2_i32_222 v341
  let c1_i32_223 : BitVec 32 := 1#32
  let v399 : BitVec 32 := Scalar.addi v398 c1_i32_223
  let v413 : Index := Scalar.indexCast v399
  let c0_233 : Index := 0#32
  let c0_234 : Index := 0#32
  ![0, v413.toNat, 0, 0]
@[reducible] def k0_t2_loop (i : grid0.Coords) : Scf.Loop 32 :=
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let v53 : BitVec 32 := Scalar.addi c0_i32_23 v52
  let c1_i32_26 : BitVec 32 := 1#32
  ⟨v56, v53, c1_i32_26⟩
def k0_mult6 (i : grid0.Coords) (k0_t2 : Fin (k0_t2_loop i).trips) : BitVec 32 :=
  let c2_i32_128 : BitVec 32 := 2#32
  let c2_i32_127 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v256 : BitVec 32 := Scalar.muli c2_i32_127 arg18
  let v257 : BitVec 32 := Scalar.muli c2_i32_128 v256
  let c1_i32_129 : BitVec 32 := 1#32
  let v258 : BitVec 32 := Scalar.addi v257 c1_i32_129
  let c256_i32_130 : BitVec 32 := 256#32
  let v259 : BitVec 32 := Scalar.muli v258 c256_i32_130
  v259
def k0_off7 (i : grid0.Coords) (k0_t2 : Fin (k0_t2_loop i).trips) (c1_i32_129 : BitVec 32) : Fin 2 → Nat :=
  let c2_i32_128 : BitVec 32 := 2#32
  let c2_i32_127 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v256 : BitVec 32 := Scalar.muli c2_i32_127 arg18
  let v257 : BitVec 32 := Scalar.muli c2_i32_128 v256
  let v258 : BitVec 32 := Scalar.addi v257 c1_i32_129
  let c256_i32_130 : BitVec 32 := 256#32
  let v259 : BitVec 32 := Scalar.muli v258 c256_i32_130
  let v260 : BitVec 32 := v259
  let v261 : Index := Scalar.indexCast v260
  let c0_131 : Index := 0#32
  ![v261.toNat, 0]
def k0_off8 (i : grid0.Coords) (k0_t2 : Fin (k0_t2_loop i).trips) : Fin 4 → Nat :=
  let c0_147 : Index := 0#32
  let c2_i32_138 : BitVec 32 := 2#32
  let c2_i32_127 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v256 : BitVec 32 := Scalar.muli c2_i32_127 arg18
  let v272 : BitVec 32 := Scalar.muli c2_i32_138 v256
  let v286 : Index := Scalar.indexCast v272
  let c0_148 : Index := 0#32
  let c0_149 : Index := 0#32
  ![0, v286.toNat, 0, 0]
def k0_mult7 (i : grid0.Coords) (k0_t2 : Fin (k0_t2_loop i).trips) : BitVec 32 :=
  let c2_i32_155 : BitVec 32 := 2#32
  let c2_i32_127 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v256 : BitVec 32 := Scalar.muli c2_i32_127 arg18
  let v298 : BitVec 32 := Scalar.muli c2_i32_155 v256
  let c2_i32_156 : BitVec 32 := 2#32
  let v299 : BitVec 32 := Scalar.addi v298 c2_i32_156
  let c256_i32_157 : BitVec 32 := 256#32
  let v300 : BitVec 32 := Scalar.muli v299 c256_i32_157
  v300
def k0_off9 (i : grid0.Coords) (k0_t2 : Fin (k0_t2_loop i).trips) : Fin 4 → Nat :=
  let c0_175 : Index := 0#32
  let c2_i32_165 : BitVec 32 := 2#32
  let c2_i32_127 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v256 : BitVec 32 := Scalar.muli c2_i32_127 arg18
  let v313 : BitVec 32 := Scalar.muli c2_i32_165 v256
  let c1_i32_166 : BitVec 32 := 1#32
  let v314 : BitVec 32 := Scalar.addi v313 c1_i32_166
  let v328 : Index := Scalar.indexCast v314
  let c0_176 : Index := 0#32
  let c0_177 : Index := 0#32
  ![0, v328.toNat, 0, 0]
def k0_mult8 (i : grid0.Coords) (k0_t2 : Fin (k0_t2_loop i).trips) : BitVec 32 :=
  let c2_i32_185 : BitVec 32 := 2#32
  let c2_i32_183 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v340 : BitVec 32 := Scalar.muli c2_i32_183 arg18
  let c1_i32_184 : BitVec 32 := 1#32
  let v341 : BitVec 32 := Scalar.addi v340 c1_i32_184
  let v342 : BitVec 32 := Scalar.muli c2_i32_185 v341
  let c1_i32_186 : BitVec 32 := 1#32
  let v343 : BitVec 32 := Scalar.addi v342 c1_i32_186
  let c256_i32_187 : BitVec 32 := 256#32
  let v344 : BitVec 32 := Scalar.muli v343 c256_i32_187
  v344
def k0_off10 (i : grid0.Coords) (k0_t2 : Fin (k0_t2_loop i).trips) (c1_i32_186 : BitVec 32) : Fin 2 → Nat :=
  let c2_i32_185 : BitVec 32 := 2#32
  let c2_i32_183 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v340 : BitVec 32 := Scalar.muli c2_i32_183 arg18
  let c1_i32_184 : BitVec 32 := 1#32
  let v341 : BitVec 32 := Scalar.addi v340 c1_i32_184
  let v342 : BitVec 32 := Scalar.muli c2_i32_185 v341
  let v343 : BitVec 32 := Scalar.addi v342 c1_i32_186
  let c256_i32_187 : BitVec 32 := 256#32
  let v344 : BitVec 32 := Scalar.muli v343 c256_i32_187
  let v345 : BitVec 32 := v344
  let v346 : Index := Scalar.indexCast v345
  let c0_188 : Index := 0#32
  ![v346.toNat, 0]
def k0_off11 (i : grid0.Coords) (k0_t2 : Fin (k0_t2_loop i).trips) : Fin 4 → Nat :=
  let c0_204 : Index := 0#32
  let c2_i32_195 : BitVec 32 := 2#32
  let c2_i32_183 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v340 : BitVec 32 := Scalar.muli c2_i32_183 arg18
  let c1_i32_184 : BitVec 32 := 1#32
  let v341 : BitVec 32 := Scalar.addi v340 c1_i32_184
  let v357 : BitVec 32 := Scalar.muli c2_i32_195 v341
  let v371 : Index := Scalar.indexCast v357
  let c0_205 : Index := 0#32
  let c0_206 : Index := 0#32
  ![0, v371.toNat, 0, 0]
def k0_mult9 (i : grid0.Coords) (k0_t2 : Fin (k0_t2_loop i).trips) : BitVec 32 :=
  let c2_i32_212 : BitVec 32 := 2#32
  let c2_i32_183 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v340 : BitVec 32 := Scalar.muli c2_i32_183 arg18
  let c1_i32_184 : BitVec 32 := 1#32
  let v341 : BitVec 32 := Scalar.addi v340 c1_i32_184
  let v383 : BitVec 32 := Scalar.muli c2_i32_212 v341
  let c2_i32_213 : BitVec 32 := 2#32
  let v384 : BitVec 32 := Scalar.addi v383 c2_i32_213
  let c256_i32_214 : BitVec 32 := 256#32
  let v385 : BitVec 32 := Scalar.muli v384 c256_i32_214
  v385
def k0_off12 (i : grid0.Coords) (k0_t2 : Fin (k0_t2_loop i).trips) : Fin 4 → Nat :=
  let c0_232 : Index := 0#32
  let c2_i32_222 : BitVec 32 := 2#32
  let c2_i32_183 : BitVec 32 := 2#32
  let c0_i32_23 : BitVec 32 := 0#32
  let arg2 : BitVec 32 := BitVec.ofNat 32 (i 2).val
  let c0_i32_17 : BitVec 32 := 0#32
  let v36 : BitVec 1 := Scalar.cmpi .sgt arg2 c0_i32_17
  let v37 : BitVec 32 := Scalar.extui v36
  let c0_i32_18 : BitVec 32 := 0#32
  let v38 : BitVec 1 := Scalar.cmpi .slt arg2 c0_i32_18
  let v39 : BitVec 32 := Scalar.extui v38
  let v40 : BitVec 32 := Scalar.subi v37 v39
  let c2_i32 : BitVec 32 := 2#32
  let c0_i32_19 : BitVec 32 := 0#32
  let v41 : BitVec 1 := Scalar.cmpi .sgt c2_i32 c0_i32_19
  let v42 : BitVec 32 := Scalar.extui v41
  let c0_i32_20 : BitVec 32 := 0#32
  let v43 : BitVec 1 := Scalar.cmpi .slt c2_i32 c0_i32_20
  let v44 : BitVec 32 := Scalar.extui v43
  let v45 : BitVec 32 := Scalar.subi v42 v44
  let v46 : BitVec 1 := Scalar.cmpi .ne v40 v45
  let v47 : BitVec 32 := Scalar.remsi arg2 c2_i32
  let c0_i32_21 : BitVec 32 := 0#32
  let v48 : BitVec 1 := Scalar.cmpi .ne v47 c0_i32_21
  let v49 : BitVec 1 := Scalar.andi v46 v48
  let v35 : BitVec 32 := Scalar.divsi arg2 c2_i32
  let c1_i32 : BitVec 32 := 1#32
  let v50 : BitVec 32 := Scalar.subi v35 c1_i32
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg18 : BitVec 32 := Scf.iv v56 c1_i32_26 k0_t2
  let v340 : BitVec 32 := Scalar.muli c2_i32_183 arg18
  let c1_i32_184 : BitVec 32 := 1#32
  let v341 : BitVec 32 := Scalar.addi v340 c1_i32_184
  let v398 : BitVec 32 := Scalar.muli c2_i32_222 v341
  let c1_i32_223 : BitVec 32 := 1#32
  let v399 : BitVec 32 := Scalar.addi v398 c1_i32_223
  let v413 : Index := Scalar.indexCast v399
  let c0_233 : Index := 0#32
  let c0_234 : Index := 0#32
  ![0, v413.toNat, 0, 0]
def k0_cond1 (i : grid0.Coords) : BitVec 1 :=
  let arg2 : BitVec 32 := BitVec.ofNat 32 (i 2).val
  let c2_i32_27 : BitVec 32 := 2#32
  let c0_i32_28 : BitVec 32 := 0#32
  let v57 : BitVec 1 := Scalar.cmpi .eq c2_i32_27 c0_i32_28
  let c1_i32_29 : BitVec 32 := 1#32
  let v58 : BitVec 32 := Scalar.select v57 c1_i32_29 c2_i32_27
  let v59 : BitVec 32 := Scalar.remsi arg2 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_33 : BitVec 32 := 1#32
  let v67 : BitVec 1 := Scalar.cmpi .eq v66 c1_i32_33
  let v68 : BitVec 32 := Scalar.extui v67
  let c0_i32_34 : BitVec 32 := 0#32
  let v69 : BitVec 1 := Scalar.cmpi .ne v68 c0_i32_34
  v69

def k0_mult10 (i : grid0.Coords) : BitVec 32 :=
  let c2_i32_128 : BitVec 32 := 2#32
  let arg2 : BitVec 32 := BitVec.ofNat 32 (i 2).val
  let c1_i32_127 : BitVec 32 := 1#32
  let v256 : BitVec 32 := Scalar.subi arg2 c1_i32_127
  let v257 : BitVec 32 := Scalar.muli c2_i32_128 v256
  let c1_i32_129 : BitVec 32 := 1#32
  let v258 : BitVec 32 := Scalar.addi v257 c1_i32_129
  let c256_i32_130 : BitVec 32 := 256#32
  let v259 : BitVec 32 := Scalar.muli v258 c256_i32_130
  v259
def k0_off13 (i : grid0.Coords) (c1_i32_129 : BitVec 32) : Fin 2 → Nat :=
  let c2_i32_128 : BitVec 32 := 2#32
  let arg2 : BitVec 32 := BitVec.ofNat 32 (i 2).val
  let c1_i32_127 : BitVec 32 := 1#32
  let v256 : BitVec 32 := Scalar.subi arg2 c1_i32_127
  let v257 : BitVec 32 := Scalar.muli c2_i32_128 v256
  let v258 : BitVec 32 := Scalar.addi v257 c1_i32_129
  let c256_i32_130 : BitVec 32 := 256#32
  let v259 : BitVec 32 := Scalar.muli v258 c256_i32_130
  let v260 : BitVec 32 := v259
  let v261 : Index := Scalar.indexCast v260
  let c0_131 : Index := 0#32
  ![v261.toNat, 0]
def k0_off14 (i : grid0.Coords) : Fin 4 → Nat :=
  let c0_147 : Index := 0#32
  let c2_i32_138 : BitVec 32 := 2#32
  let arg2 : BitVec 32 := BitVec.ofNat 32 (i 2).val
  let c1_i32_127 : BitVec 32 := 1#32
  let v256 : BitVec 32 := Scalar.subi arg2 c1_i32_127
  let v272 : BitVec 32 := Scalar.muli c2_i32_138 v256
  let v286 : Index := Scalar.indexCast v272
  let c0_148 : Index := 0#32
  let c0_149 : Index := 0#32
  ![0, v286.toNat, 0, 0]
def k0_mult11 (i : grid0.Coords) : BitVec 32 :=
  let c2_i32_155 : BitVec 32 := 2#32
  let arg2 : BitVec 32 := BitVec.ofNat 32 (i 2).val
  let c1_i32_127 : BitVec 32 := 1#32
  let v256 : BitVec 32 := Scalar.subi arg2 c1_i32_127
  let v298 : BitVec 32 := Scalar.muli c2_i32_155 v256
  let c2_i32_156 : BitVec 32 := 2#32
  let v299 : BitVec 32 := Scalar.addi v298 c2_i32_156
  let c256_i32_157 : BitVec 32 := 256#32
  let v300 : BitVec 32 := Scalar.muli v299 c256_i32_157
  v300
def k0_off15 (i : grid0.Coords) : Fin 4 → Nat :=
  let c0_175 : Index := 0#32
  let c2_i32_165 : BitVec 32 := 2#32
  let arg2 : BitVec 32 := BitVec.ofNat 32 (i 2).val
  let c1_i32_127 : BitVec 32 := 1#32
  let v256 : BitVec 32 := Scalar.subi arg2 c1_i32_127
  let v313 : BitVec 32 := Scalar.muli c2_i32_165 v256
  let c1_i32_166 : BitVec 32 := 1#32
  let v314 : BitVec 32 := Scalar.addi v313 c1_i32_166
  let v328 : Index := Scalar.indexCast v314
  let c0_176 : Index := 0#32
  let c0_177 : Index := 0#32
  ![0, v328.toNat, 0, 0]
def k0_mult12 (i : grid0.Coords) : BitVec 32 :=
  let c2_i32_35 : BitVec 32 := 2#32
  let arg2 : BitVec 32 := BitVec.ofNat 32 (i 2).val
  let v70 : BitVec 32 := Scalar.muli c2_i32_35 arg2
  let c1_i32_36 : BitVec 32 := 1#32
  let v71 : BitVec 32 := Scalar.addi v70 c1_i32_36
  let c256_i32 : BitVec 32 := 256#32
  let v72 : BitVec 32 := Scalar.muli v71 c256_i32
  v72
def k0_off16 (i : grid0.Coords) : Fin 2 → Nat :=
  let c2_i32_35 : BitVec 32 := 2#32
  let arg2 : BitVec 32 := BitVec.ofNat 32 (i 2).val
  let v70 : BitVec 32 := Scalar.muli c2_i32_35 arg2
  let c1_i32_36 : BitVec 32 := 1#32
  let v71 : BitVec 32 := Scalar.addi v70 c1_i32_36
  let c256_i32 : BitVec 32 := 256#32
  let v72 : BitVec 32 := Scalar.muli v71 c256_i32
  let v73 : BitVec 32 := v72
  let v74 : Index := Scalar.indexCast v73
  let c0_37 : Index := 0#32
  ![v74.toNat, 0]
def k0_off17 (i : grid0.Coords) : Fin 4 → Nat :=
  let c0_56 : Index := 0#32
  let c2_i32_44 : BitVec 32 := 2#32
  let arg2 : BitVec 32 := BitVec.ofNat 32 (i 2).val
  let v85 : BitVec 32 := Scalar.muli c2_i32_44 arg2
  let v114 : Index := Scalar.indexCast v85
  let c0_57 : Index := 0#32
  let c0_58 : Index := 0#32
  ![0, v114.toNat, 0, 0]
def k0_off18 (i : grid0.Coords) : Fin 4 → Nat :=
  let c0_77 : Index := 0#32
  let c2_i32_64 : BitVec 32 := 2#32
  let arg2 : BitVec 32 := BitVec.ofNat 32 (i 2).val
  let v126 : BitVec 32 := Scalar.muli c2_i32_64 arg2
  let c1_i32_65 : BitVec 32 := 1#32
  let v127 : BitVec 32 := Scalar.addi v126 c1_i32_65
  let v156 : Index := Scalar.indexCast v127
  let c0_78 : Index := 0#32
  let c0_79 : Index := 0#32
  ![0, v156.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S2x32x1024x256 : Shape := ⟨4, ![2, 32, 1024, 256]⟩
abbrev S1x64 : Shape := ⟨2, ![1, 64]⟩
abbrev S1x128 : Shape := ⟨2, ![1, 128]⟩
abbrev S2x8192x16x64 : Shape := ⟨4, ![2, 8192, 16, 64]⟩
abbrev S2x32x256x1024 : Shape := ⟨4, ![2, 32, 256, 1024]⟩
abbrev S2x8192x8x128 : Shape := ⟨4, ![2, 8192, 8, 128]⟩
abbrev S8192 : Shape := ⟨1, ![8192]⟩
abbrev S2x16x8192x8192 : Shape := ⟨4, ![2, 16, 8192, 8192]⟩
abbrev S_ : Shape := ⟨0, ![]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x8x2x8192x8192 : Shape := ⟨5, ![2, 8, 2, 8192, 8192]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x32x1024x256, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .f32⟩
  | .hbm, ⟨9, _⟩ => ⟨S2x8192x16x64, .f32⟩
  | .hbm, ⟨10, _⟩ => ⟨S16384x1024, .f32⟩
  | .hbm, ⟨11, _⟩ => ⟨S2x8192x16x64, .f32⟩
  | .hbm, ⟨12, _⟩ => ⟨S2x32x1024x256, .f32⟩
  | .hbm, ⟨13, _⟩ => ⟨S2x32x256x1024, .f32⟩
  | .hbm, ⟨14, _⟩ => ⟨S2x8192x8x128, .f32⟩
  | .hbm, ⟨15, _⟩ => ⟨S8192, .i32⟩
  | .hbm, ⟨16, _⟩ => ⟨S2x16x8192x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x16x8192x8192, .f32⟩
  | .hbm, ⟨21, _⟩ => ⟨S2x16x8192x8192, .f32⟩
  | .hbm, ⟨22, _⟩ => ⟨S1x1x1x8192, .i32⟩
  | .hbm, ⟨23, _⟩ => ⟨S1x1x8192x1, .i32⟩
  | .hbm, ⟨24, _⟩ => ⟨S1x1x8192x8192, .i32⟩
  | .hbm, ⟨25, _⟩ => ⟨S1x1x8192x8192, .i32⟩
  | .hbm, ⟨26, _⟩ => ⟨S1x1x8192x8192, .i1⟩
  | .hbm, ⟨27, _⟩ => ⟨S_, .f32⟩
  | .hbm, ⟨28, _⟩ => ⟨S_, .f32⟩
  | .hbm, ⟨29, _⟩ => ⟨S2x16x8192x8192, .i1⟩
  | .hbm, ⟨30, _⟩ => ⟨S2x16x8192x8192, .f32⟩
  | .hbm, ⟨31, _⟩ => ⟨S2x16x8192x8192, .f32⟩
  | .hbm, ⟨32, _⟩ => ⟨S_, .f32⟩
  | .hbm, ⟨33, _⟩ => ⟨S2x16x8192, .f32⟩
  | .hbm, ⟨34, _⟩ => ⟨S_, .f32⟩
  | .hbm, ⟨35, _⟩ => ⟨S2x16x8192, .f32⟩
  | .hbm, ⟨36, _⟩ => ⟨S2x16x8192, .f32⟩
  | .hbm, ⟨37, _⟩ => ⟨S2x16x8192x1, .f32⟩
  | .hbm, ⟨38, _⟩ => ⟨S2x16x8192x8192, .f32⟩
  | .hbm, ⟨39, _⟩ => ⟨S2x16x8192x8192, .f32⟩
  | .hbm, ⟨40, _⟩ => ⟨S2x16x8192x8192, .f32⟩
  | .hbm, ⟨41, _⟩ => ⟨S_, .f32⟩
  | .hbm, ⟨42, _⟩ => ⟨S2x16x8192, .f32⟩
  | .hbm, ⟨43, _⟩ => ⟨S2x16x8192x1, .f32⟩
  | .hbm, ⟨44, _⟩ => ⟨S2x16x8192x8192, .f32⟩
  | .hbm, ⟨45, _⟩ => ⟨S2x16x8192x8192, .f32⟩
  | .hbm, ⟨46, _⟩ => ⟨S2x8x2x8192x8192, .f32⟩
  | .hbm, ⟨47, _⟩ => ⟨S1x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x8x1x8192x8192, .f32⟩
  | .hbm, ⟨59, _⟩ => ⟨S2x8x8192x8192, .f32⟩
  | .hbm, ⟨60, _⟩ => ⟨S2x8x1x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x128x8192, .f32⟩
  | .hbm, ⟨66, _⟩ => ⟨S2x8192x8x128, .f32⟩
  | .hbm, ⟨67, _⟩ => ⟨S2x8192x8x128, .f32⟩
  | .hbm, ⟨68, _⟩ => ⟨S_, .f32⟩
  | .hbm, ⟨69, _⟩ => ⟨S2x8192x8, .f32⟩
  | .hbm, ⟨70, _⟩ => ⟨S2x8192x8x1, .f32⟩
  | .hbm, ⟨71, _⟩ => ⟨S_, .f32⟩
  | .hbm, ⟨72, _⟩ => ⟨S2x8192x8x1, .f32⟩
  | .hbm, ⟨73, _⟩ => ⟨S2x8192x8x1, .f32⟩
  | .hbm, ⟨74, _⟩ => ⟨S_, .f32⟩
  | .hbm, ⟨75, _⟩ => ⟨S2x8192x8x1, .f32⟩
  | .hbm, ⟨76, _⟩ => ⟨S2x8192x8x1, .f32⟩
  | .hbm, ⟨77, _⟩ => ⟨S2x8192x8x1, .f32⟩
  | .hbm, ⟨78, _⟩ => ⟨S2x8192x8x128, .f32⟩
  | .hbm, ⟨79, _⟩ => ⟨S2x8192x8x128, .f32⟩
  | .hbm, ⟨80, _⟩ => ⟨S128, .f32⟩
  | .hbm, ⟨81, _⟩ => ⟨S1x1x1x128, .f32⟩
  | .hbm, ⟨82, _⟩ => ⟨S2x8192x8x128, .f32⟩
  | .hbm, ⟨83, _⟩ => ⟨S2x8192x8x128, .f32⟩
  | .hbm, ⟨84, _⟩ => ⟨S_, .f32⟩
  | .hbm, ⟨85, _⟩ => ⟨S2x8192x8x128, .f32⟩
  | .hbm, ⟨86, _⟩ => ⟨S2x8192x8x128, .f32⟩
  | .hbm, ⟨87, _⟩ => ⟨S16384x1024, .f32⟩
  | .hbm, ⟨88, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Post.lean ====
abbrev S16384x1024 : Shape := ⟨2, ![16384, 1024]⟩
abbrev S16384x256 : Shape := ⟨2, ![16384, 256]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x256, .f32⟩
  | .hbm, ⟨4, _⟩ => ⟨S1024x1024, .bf16⟩
  | .hbm, ⟨5, _⟩ => ⟨S1024x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1024x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostReferenceIdeal.lean ====
abbrev S16384x1024 : Shape := ⟨2, ![16384, 1024]⟩
abbrev S16384x256 : Shape := ⟨2, ![16384, 256]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S2048x1024 : Shape := ⟨2, ![2048, 1024]⟩
abbrev S1024x5632 : Shape := ⟨2, ![1024, 5632]⟩
abbrev S16384x2048 : Shape := ⟨2, ![16384, 2048]⟩
abbrev S_ : Shape := ⟨0, ![]⟩
abbrev S1024 : Shape := ⟨1, ![1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x256, .f32⟩
  | .hbm, ⟨4, _⟩ => ⟨S1024x1024, .bf16⟩
  | .hbm, ⟨5, _⟩ => ⟨S1024x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S2048x1024, .bf16⟩
  | .hbm, ⟨16, _⟩ => ⟨S1024x5632, .bf16⟩
  | .hbm, ⟨17, _⟩ => ⟨S2048x1024, .f32⟩
  | .hbm, ⟨18, _⟩ => ⟨S1024x5632, .f32⟩
  | .hbm, ⟨19, _⟩ => ⟨S2816x1024, .f32⟩
  | .hbm, ⟨20, _⟩ => ⟨S256x1024, .f32⟩
  | .hbm, ⟨21, _⟩ => ⟨S1024x1024, .f32⟩
  | .hbm, ⟨22, _⟩ => ⟨S16384x2048, .bf16⟩
  | .hbm, ⟨23, _⟩ => ⟨S16384x2048, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x5632, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S_, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S16384, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384, .f32⟩
  | .hbm, ⟨103, _⟩ => ⟨S16384x1, .f32⟩
  | .hbm, ⟨104, _⟩ => ⟨S_, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x1024, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | .hbm, ⟨118, _⟩ => ⟨S1x1024, .f32⟩
  | .hbm, ⟨119, _⟩ => ⟨S16384x1024, .f32⟩
  | .hbm, ⟨120, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Inproj.lean ====
abbrev S16384x1024 : Shape := ⟨2, ![16384, 1024]⟩
abbrev S1024x5648 : Shape := ⟨2, ![1024, 5648]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x1024x8192 : Shape := ⟨3, ![2, 1024, 8192]⟩
abbrev S16384x1536 : Shape := ⟨2, ![16384, 1536]⟩
abbrev S16384x128 : Shape := ⟨2, ![16384, 128]⟩
abbrev S2x32x1024x256 : Shape := ⟨4, ![2, 32, 1024, 256]⟩
abbrev S256x1024 : Shape := ⟨2, ![256, 1024]⟩
abbrev S256x128 : Shape := ⟨2, ![256, 128]⟩
abbrev S1x1024x256 : Shape := ⟨3, ![1, 1024, 256]⟩
abbrev S256x1536 : Shape := ⟨2, ![256, 1536]⟩
abbrev S1x1x1024x256 : Shape := ⟨4, ![1, 1, 1024, 256]⟩
abbrev S128x256 : Shape := ⟨2, ![128, 256]⟩
abbrev S1x128x256 : Shape := ⟨3, ![1, 128, 256]⟩
abbrev S1x1x128x256 : Shape := ⟨4, ![1, 1, 128, 256]⟩
abbrev S2x16x64x8192 : Shape := ⟨4, ![2, 16, 64, 8192]⟩
abbrev S2x8192x16x64 : Shape := ⟨4, ![2, 8192, 16, 64]⟩
abbrev S2x8192x8x128 : Shape := ⟨4, ![2, 8192, 8, 128]⟩
abbrev S2x8192x1536 : Shape := ⟨3, ![2, 8192, 1536]⟩
abbrev S2x3x1536 : Shape := ⟨3, ![2, 3, 1536]⟩

abbrev nBuf : Space → Nat
  | .hbm => 66
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024x5648, .f32⟩
  | .hbm, ⟨2, _⟩ => ⟨S1024x5648, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1536, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S8192, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8192, .f32⟩
  | .hbm, ⟨25, _⟩ => ⟨S8192x1, .f32⟩
  | .hbm, ⟨26, _⟩ => ⟨S1x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S_, .f32⟩
  | .hbm, ⟨33, _⟩ => ⟨S8192x48, .f32⟩
  | .hbm, ⟨34, _⟩ => ⟨S_, .f32⟩
  | .hbm, ⟨35, _⟩ => ⟨S8192x48, .f32⟩
  | .hbm, ⟨36, _⟩ => ⟨S8192x64, .f32⟩
  | .hbm, ⟨37, _⟩ => ⟨S8192x8, .f32⟩
  | .hbm, ⟨38, _⟩ => ⟨S_, .f32⟩
  | .hbm, ⟨39, _⟩ => ⟨S8192x8, .f32⟩
  | .hbm, ⟨40, _⟩ => ⟨S8192x64, .f32⟩
  | .hbm, ⟨41, _⟩ => ⟨S_, .f32⟩
  | .hbm, ⟨42, _⟩ => ⟨S8192x8, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S1x8192x1x64, .f32⟩
  | .hbm, ⟨51, _⟩ => ⟨S1x8192x2x64, .f32⟩
  | .hbm, ⟨52, _⟩ => ⟨S8192x128, .f32⟩
  | .hbm, ⟨53, _⟩ => ⟨S16384x1024, .bf16⟩
  | .hbm, ⟨54, _⟩ => ⟨S2x1024x8192, .f32⟩
  | .hbm, ⟨55, _⟩ => ⟨S16384x1024, .f32⟩
  | .hbm, ⟨56, _⟩ => ⟨S16384x1024, .f32⟩
  | .hbm, ⟨57, _⟩ => ⟨S16384x1536, .f32⟩
  | .hbm, ⟨58, _⟩ => ⟨S16384x128, .f32⟩
  | .hbm, ⟨59, _⟩ => ⟨S16384x1024, .bf16⟩
  | .hbm, ⟨60, _⟩ => ⟨S2x32x1024x256, .bf16⟩
  | .hbm, ⟨61, _⟩ => ⟨S2x16x64x8192, .f32⟩
  | .hbm, ⟨62, _⟩ => ⟨S2x8192x16x64, .f32⟩
  | .hbm, ⟨63, _⟩ => ⟨S2x8192x8x128, .f32⟩
  | .hbm, ⟨64, _⟩ => ⟨S2x8192x1536, .f32⟩
  | .hbm, ⟨65, _⟩ => ⟨S2x3x1536, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S1x1024x256, .f32⟩
  | .local _ .vmem, ⟨17, _⟩ => ⟨S1x1024x256, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1536, .f32⟩
  | .local _ .vmem, ⟨23, _⟩ => ⟨S256x1536, .f32⟩
  | .local _ .vmem, ⟨24, _⟩ => ⟨S256x128, .f32⟩
  | .local _ .vmem, ⟨25, _⟩ => ⟨S256x128, .f32⟩
  | .local _ .vmem, ⟨26, _⟩ => ⟨S256x1024, .bf16⟩
  | .local _ .vmem, ⟨27, _⟩ => ⟨S256x1024, .bf16⟩
  | .local _ .vmem, ⟨28, _⟩ => ⟨S1x1x1024x256, .bf16⟩
  | .local _ .vmem, ⟨29, _⟩ => ⟨S1x1x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev main_v42_5 : Ref sig .tc := ⟨.hbm, 58, rfl⟩
abbrev main_v42_6 : Ref sig .tc := ⟨.hbm, 59, rfl⟩
abbrev main_v42_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojIdeal.lean ====
variable {F : FTy → Type} [FloatOps F] [Named F]
def κ : String → Option EReal := fun
  | "qscale" => some ((8⁻¹ * (Real.log 2)⁻¹ : ℝ) : EReal)
  | _ => none
-- ==== InprojReferenceIdeal.lean ====
abbrev S16384x1024 : Shape := ⟨2, ![16384, 1024]⟩
abbrev S1024x5648 : Shape := ⟨2, ![1024, 5648]⟩
abbrev S16384x5648 : Shape := ⟨2, ![16384, 5648]⟩
abbrev S16384x1536 : Shape := ⟨2, ![16384, 1536]⟩
abbrev S16384x16 : Shape := ⟨2, ![16384, 16]⟩
abbrev S2x8192x16x64 : Shape := ⟨4, ![2, 8192, 16, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x16x8 : Shape := ⟨4, ![2, 8192, 16, 8]⟩
abbrev S2x8192x16x48 : Shape := ⟨4, ![2, 8192, 16, 48]⟩
abbrev S2x8192x1024 : Shape := ⟨3, ![2, 8192, 1024]⟩
abbrev S2x1024x8192 : Shape := ⟨3, ![2, 1024, 8192]⟩
abbrev S2x32x256x1024 : Shape := ⟨4, ![2, 32, 256, 1024]⟩
abbrev S2x32x1024x256 : Shape := ⟨4, ![2, 32, 1024, 256]⟩
abbrev S16384x128 : Shape := ⟨2, ![16384, 128]⟩
abbrev S2x8192x8x128 : Shape := ⟨4, ![2, 8192, 8, 128]⟩
abbrev S2x8192x1536 : Shape := ⟨3, ![2, 8192, 1536]⟩
abbrev S2x3x1536 : Shape := ⟨3, ![2, 3, 1536]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5648, .f32⟩
  | .hbm, ⟨2, _⟩ => ⟨S16384x5648, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1536, .f32⟩
  | .hbm, ⟨8, _⟩ => ⟨S16384x16, .f32⟩
  | .hbm, ⟨9, _⟩ => ⟨S2x8192x16x64, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .i32⟩
  | .hbm, ⟨22, _⟩ => ⟨S8192, .f32⟩
  | .hbm, ⟨23, _⟩ => ⟨S8192x1, .f32⟩
  | .hbm, ⟨24, _⟩ => ⟨S1x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S1x8192x1x8, .f32⟩
  | .hbm, ⟨30, _⟩ => ⟨S8192x8, .f32⟩
  | .hbm, ⟨31, _⟩ => ⟨S1x8192x1x8, .f32⟩
  | .hbm, ⟨32, _⟩ => ⟨S2x8192x16x8, .f32⟩
  | .hbm, ⟨33, _⟩ => ⟨S2x8192x16x8, .f32⟩
  | .hbm, ⟨34, _⟩ => ⟨S2x8192x16x8, .f32⟩
  | .hbm, ⟨35, _⟩ => ⟨S2x8192x16x8, .f32⟩
  | .hbm, ⟨36, _⟩ => ⟨S2x8192x16x8, .f32⟩
  | .hbm, ⟨37, _⟩ => ⟨S2x8192x16x8, .f32⟩
  | .hbm, ⟨38, _⟩ => ⟨S2x8192x16x8, .f32⟩
  | .hbm, ⟨39, _⟩ => ⟨S2x8192x16x8, .f32⟩
  | .hbm, ⟨40, _⟩ => ⟨S2x8192x16x8, .f32⟩
  | .hbm, ⟨41, _⟩ => ⟨S2x8192x16x8, .f32⟩
  | .hbm, ⟨42, _⟩ => ⟨S2x8192x16x8, .f32⟩
  | .hbm, ⟨43, _⟩ => ⟨S2x8192x16x8, .f32⟩
  | .hbm, ⟨44, _⟩ => ⟨S2x8192x16x48, .f32⟩
  | .hbm, ⟨45, _⟩ => ⟨S2x8192x16x64, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S2x8192x16x64, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8192, .i32⟩
  | .hbm, ⟨68, _⟩ => ⟨S8192, .f32⟩
  | .hbm, ⟨69, _⟩ => ⟨S8192x1, .f32⟩
  | .hbm, ⟨70, _⟩ => ⟨S1x8, .f32⟩
  | .hbm, ⟨71, _⟩ => ⟨S8192x8, .f32⟩
  | .hbm, ⟨72, _⟩ => ⟨S8192x8, .f32⟩
  | .hbm, ⟨73, _⟩ => ⟨S8192x8, .f32⟩
  | .hbm, ⟨74, _⟩ => ⟨S8192x8, .f32⟩
  | .hbm, ⟨75, _⟩ => ⟨S1x8192x1x8, .f32⟩
  | .hbm, ⟨76, _⟩ => ⟨S8192x8, .f32⟩
  | .hbm, ⟨77, _⟩ => ⟨S1x8192x1x8, .f32⟩
  | .hbm, ⟨78, _⟩ => ⟨S2x8192x16x8, .f32⟩
  | .hbm, ⟨79, _⟩ => ⟨S2x8192x16x8, .f32⟩
  | .hbm, ⟨80, _⟩ => ⟨S2x8192x16x8, .f32⟩
  | .hbm, ⟨81, _⟩ => ⟨S2x8192x16x8, .f32⟩
  | .hbm, ⟨82, _⟩ => ⟨S2x8192x16x8, .f32⟩
  | .hbm, ⟨83, _⟩ => ⟨S2x8192x16x8, .f32⟩
  | .hbm, ⟨84, _⟩ => ⟨S2x8192x16x8, .f32⟩
  | .hbm, ⟨85, _⟩ => ⟨S2x8192x16x8, .f32⟩
  | .hbm, ⟨86, _⟩ => ⟨S2x8192x16x8, .f32⟩
  | .hbm, ⟨87, _⟩ => ⟨S2x8192x16x8, .f32⟩
  | .hbm, ⟨88, _⟩ => ⟨S2x8192x16x8, .f32⟩
  | .hbm, ⟨89, _⟩ => ⟨S2x8192x16x8, .f32⟩
  | .hbm, ⟨90, _⟩ => ⟨S2x8192x16x48, .f32⟩
  | .hbm, ⟨91, _⟩ => ⟨S2x8192x16x64, .f32⟩
  | .hbm, ⟨92, _⟩ => ⟨S16384x1024, .f32⟩
  | .hbm, ⟨93, _⟩ => ⟨S2x8192x1024, .f32⟩
  | .hbm, ⟨94, _⟩ => ⟨S2x1024x8192, .f32⟩
  | .hbm, ⟨95, _⟩ => ⟨S2x32x256x1024, .f32⟩
  | .hbm, ⟨96, _⟩ => ⟨S2x32x1024x256, .f32⟩
  | .hbm, ⟨97, _⟩ => ⟨S_, .i32⟩
  | .hbm, ⟨98, _⟩ => ⟨S_, .f32⟩
  | .hbm, ⟨99, _⟩ => ⟨S16384x128, .f32⟩
  | .hbm, ⟨100, _⟩ => ⟨S16384x1024, .bf16⟩
  | .hbm, ⟨101, _⟩ => ⟨S16384x1024, .bf16⟩
  | .hbm, ⟨102, _⟩ => ⟨S2x32x1024x256, .bf16⟩
  | .hbm, ⟨103, _⟩ => ⟨S2x8192x8x128, .f32⟩
  | .hbm, ⟨104, _⟩ => ⟨S2x8192x1536, .f32⟩
  | .hbm, ⟨105, _⟩ => ⟨S2x3x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_cst_5 : Ref sig .tc := ⟨.hbm, 61, rfl⟩
abbrev main_v53 : Ref sig .tc := ⟨.hbm, 62, rfl⟩
abbrev main_v54 : Ref sig .tc := ⟨.hbm, 63, rfl⟩
abbrev main_cst_6 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_c : Ref sig .tc := ⟨.hbm, 97, rfl⟩
abbrev main_call0_v0 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== Sample.lean ====
abbrev S128x4x1024 : Shape := ⟨3, ![128, 4, 1024]⟩
abbrev S1024x5648 : Shape := ⟨2, ![1024, 5648]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S128x8x1024 : Shape := ⟨3, ![128, 8, 1024]⟩
abbrev S8 : Shape := ⟨1, ![8]⟩
abbrev S1x8 : Shape := ⟨2, ![1, 8]⟩
abbrev S128x8 : Shape := ⟨2, ![128, 8]⟩
abbrev S1024 : Shape := ⟨1, ![1024]⟩
abbrev S1024x1 : Shape := ⟨2, ![1024, 1]⟩
abbrev S1024x8 : Shape := ⟨2, ![1024, 8]⟩
abbrev S1024x48 : Shape := ⟨2, ![1024, 48]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S256x1024 : Shape := ⟨2, ![256, 1024]⟩
abbrev S256x128 : Shape := ⟨2, ![256, 128]⟩
abbrev S256x1536 : Shape := ⟨2, ![256, 1536]⟩
abbrev S128x8x1536 : Shape := ⟨3, ![128, 8, 1536]⟩
abbrev S128x4x1536 : Shape := ⟨3, ![128, 4, 1536]⟩
abbrev S128x3x1536 : Shape := ⟨3, ![128, 3, 1536]⟩
abbrev S128x4x16x64 : Shape := ⟨4, ![128, 4, 16, 64]⟩
abbrev S128x4x8x128 : Shape := ⟨4, ![128, 4, 8, 128]⟩

abbrev nBuf : Space → Nat
  | .hbm => 89
  | .vmem => 26
  | .smem => 0
  | _ => 0

abbrev bufTy : (tb : Table) → Fin (tcTables nBuf tb) → BufTy
  | .hbm, ⟨0, _⟩ => ⟨S128x4x1024, .f32⟩
  | .hbm, ⟨1, _⟩ => ⟨S1024x5648, .f32⟩
  | .hbm, ⟨2, _⟩ => ⟨S1024x5648, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1536, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128x8x1024, .f32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S1x8, .i32⟩
  | .hbm, ⟨31, _⟩ => ⟨S128x8, .i32⟩
  | .hbm, ⟨32, _⟩ => ⟨S1024, .i32⟩
  | .hbm, ⟨33, _⟩ => ⟨S1024x1024, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S1024, .f32⟩
  | .hbm, ⟨46, _⟩ => ⟨S1024x1, .f32⟩
  | .hbm, ⟨47, _⟩ => ⟨S1x8, .f32⟩
  | .hbm, ⟨48, _⟩ => ⟨S1024x8, .f32⟩
  | .hbm, ⟨49, _⟩ => ⟨S1024x8, .f32⟩
  | .hbm, ⟨50, _⟩ => ⟨S1024x8, .f32⟩
  | .hbm, ⟨51, _⟩ => ⟨S1024x8, .f32⟩
  | .hbm, ⟨52, _⟩ => ⟨S1024x8, .f32⟩
  | .hbm, ⟨53, _⟩ => ⟨S_, .f32⟩
  | .hbm, ⟨54, _⟩ => ⟨S1024x48, .f32⟩
  | .hbm, ⟨55, _⟩ => ⟨S_, .f32⟩
  | .hbm, ⟨56, _⟩ => ⟨S1024x48, .f32⟩
  | .hbm, ⟨57, _⟩ => ⟨S1024x64, .f32⟩
  | .hbm, ⟨58, _⟩ => ⟨S1024x8, .f32⟩
  | .hbm, ⟨59, _⟩ => ⟨S_, .f32⟩
  | .hbm, ⟨60, _⟩ => ⟨S1024x8, .f32⟩
  | .hbm, ⟨61, _⟩ => ⟨S1024x64, .f32⟩
  | .hbm, ⟨62, _⟩ => ⟨S_, .f32⟩
  | .hbm, ⟨63, _⟩ => ⟨S1024x8, .f32⟩
  | .hbm, ⟨64, _⟩ => ⟨S1024x64, .f32⟩
  | .hbm, ⟨65, _⟩ => ⟨S1x1024x1x64, .f32⟩
  | .hbm, ⟨66, _⟩ => ⟨S1x1024x2x64, .f32⟩
  | .hbm, ⟨67, _⟩ => ⟨S1024x128, .f32⟩
  | .hbm, ⟨68, _⟩ => ⟨S1x1024x1x64, .f32⟩
  | .hbm, ⟨69, _⟩ => ⟨S1x1024x2x64, .f32⟩
  | .hbm, ⟨70, _⟩ => ⟨S1024x128, .f32⟩
  | .hbm, ⟨71, _⟩ => ⟨S1x1024x1x64, .f32⟩
  | .hbm, ⟨72, _⟩ => ⟨S1x1024x2x64, .f32⟩
  | .hbm, ⟨73, _⟩ => ⟨S1024x128, .f32⟩
  | .hbm, ⟨74, _⟩ => ⟨S1024x1024, .bf16⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S1024x1536, .f32⟩
  | .hbm, ⟨79, _⟩ => ⟨S1024x128, .f32⟩
  | .hbm, ⟨80, _⟩ => ⟨S128x8x1024, .f32⟩
  | .hbm, ⟨81, _⟩ => ⟨S128x4x1024, .f32⟩
  | .hbm, ⟨82, _⟩ => ⟨S128x8x1024, .f32⟩
  | .hbm, ⟨83, _⟩ => ⟨S128x4x1024, .f32⟩
  | .hbm, ⟨84, _⟩ => ⟨S128x8x1536, .f32⟩
  | .hbm, ⟨85, _⟩ => ⟨S128x4x1536, .f32⟩
  | .hbm, ⟨86, _⟩ => ⟨S128x3x1536, .f32⟩
  | .hbm, ⟨87, _⟩ => ⟨S128x4x16x64, .f32⟩
  | .hbm, ⟨88, _⟩ => ⟨S128x4x8x128, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1536, .f32⟩
  | .local _ .vmem, ⟨23, _⟩ => ⟨S256x1536, .f32⟩
  | .local _ .vmem, ⟨24, _⟩ => ⟨S256x128, .f32⟩
  | .local _ .vmem, ⟨25, _⟩ => ⟨S256x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_c_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev main_v52_3 : Ref sig .tc := ⟨.hbm, 77, rfl⟩
abbrev main_v52_4 : Ref sig .tc := ⟨.hbm, 78, rfl⟩
abbrev main_v52_5 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SampleIdeal.lean ====
variable {F : FTy → Type} [FloatOps F] [Named F]
def κ : String → Option EReal := fun
  | "qscale" => some ((8⁻¹ * (Real.log 2)⁻¹ : ℝ) : EReal)
  | _ => none
-- ==== SampleReferenceIdeal.lean ====
abbrev S128x4x1024 : Shape := ⟨3, ![128, 4, 1024]⟩
abbrev S1024x5648 : Shape := ⟨2, ![1024, 5648]⟩
abbrev S128x4x5648 : Shape := ⟨3, ![128, 4, 5648]⟩
abbrev S128x4x1536 : Shape := ⟨3, ![128, 4, 1536]⟩
abbrev S128x4x16 : Shape := ⟨3, ![128, 4, 16]⟩
abbrev S128x4x16x64 : Shape := ⟨4, ![128, 4, 16, 64]⟩
abbrev S4 : Shape := ⟨1, ![4]⟩
abbrev S_ : Shape := ⟨0, ![]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S128x4x16x8 : Shape := ⟨4, ![128, 4, 16, 8]⟩
abbrev S128x4x16x48 : Shape := ⟨4, ![128, 4, 16, 48]⟩
abbrev S128x4x8x128 : Shape := ⟨4, ![128, 4, 8, 128]⟩
abbrev S128x3x1536 : Shape := ⟨3, ![128, 3, 1536]⟩

abbrev nBuf : Space → Nat
  | .hbm => 51
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024x5648, .f32⟩
  | .hbm, ⟨2, _⟩ => ⟨S128x4x5648, .f32⟩
  | .hbm, ⟨3, _⟩ => ⟨S128x4x1024, .f32⟩
  | .hbm, ⟨4, _⟩ => ⟨S128x4x1024, .f32⟩
  | .hbm, ⟨5, _⟩ => ⟨S128x4x1024, .f32⟩
  | .hbm, ⟨6, _⟩ => ⟨S128x4x1024, .f32⟩
  | .hbm, ⟨7, _⟩ => ⟨S128x4x1536, .f32⟩
  | .hbm, ⟨8, _⟩ => ⟨S128x4x16, .f32⟩
  | .hbm, ⟨9, _⟩ => ⟨S128x4x16x64, .f32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4, .f32⟩
  | .hbm, ⟨26, _⟩ => ⟨S4x1, .f32⟩
  | .hbm, ⟨27, _⟩ => ⟨S1x8, .f32⟩
  | .hbm, ⟨28, _⟩ => ⟨S4x8, .f32⟩
  | .hbm, ⟨29, _⟩ => ⟨S4x8, .f32⟩
  | .hbm, ⟨30, _⟩ => ⟨S4x8, .f32⟩
  | .hbm, ⟨31, _⟩ => ⟨S4x8, .f32⟩
  | .hbm, ⟨32, _⟩ => ⟨S1x4x1x8, .f32⟩
  | .hbm, ⟨33, _⟩ => ⟨S4x8, .f32⟩
  | .hbm, ⟨34, _⟩ => ⟨S1x4x1x8, .f32⟩
  | .hbm, ⟨35, _⟩ => ⟨S128x4x16x8, .f32⟩
  | .hbm, ⟨36, _⟩ => ⟨S128x4x16x8, .f32⟩
  | .hbm, ⟨37, _⟩ => ⟨S128x4x16x8, .f32⟩
  | .hbm, ⟨38, _⟩ => ⟨S128x4x16x8, .f32⟩
  | .hbm, ⟨39, _⟩ => ⟨S128x4x16x8, .f32⟩
  | .hbm, ⟨40, _⟩ => ⟨S128x4x16x8, .f32⟩
  | .hbm, ⟨41, _⟩ => ⟨S128x4x16x8, .f32⟩
  | .hbm, ⟨42, _⟩ => ⟨S128x4x16x8, .f32⟩
  | .hbm, ⟨43, _⟩ => ⟨S128x4x16x8, .f32⟩
  | .hbm, ⟨44, _⟩ => ⟨S128x4x16x8, .f32⟩
  | .hbm, ⟨45, _⟩ => ⟨S128x4x16x8, .f32⟩
  | .hbm, ⟨46, _⟩ => ⟨S128x4x16x8, .f32⟩
  | .hbm, ⟨47, _⟩ => ⟨S128x4x16x48, .f32⟩
  | .hbm, ⟨48, _⟩ => ⟨S128x4x16x64, .f32⟩
  | .hbm, ⟨49, _⟩ => ⟨S128x4x8x128, .f32⟩
  | .hbm, ⟨50, _⟩ => ⟨S128x3x1536, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Proof.Ref.lean ====
module

public import proofs.«01_k».proof.Defs
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
-- ==== Proof.Pre.lean ====
module

public import proofs.«01_k».proof.Proof.Ref
public import Idealize.ShloMosaic.Lib.Pointwise
public import Idealize.ShloMosaic.Lib.IdealHost

@[expose] public section

set_option maxRecDepth 16384

noncomputable section

namespace Cert.Proof.Pre

open Cert.Pre_finite Cert.Pre_finite.Gen
open Idealize.ShloMosaic Idealize.ShloMosaic.TcCoe Idealize.ShloMosaic.Tactic

/-! ## What the precondition says -/

theorem andi_one : ∀ a b : BitVec 1, IntOp.andi a b = 1#1 → a = 1#1 ∧ b = 1#1 := by decide

theorem fold_and {ι : Type} [DecidableEq ι] (S : Finset ι) (f : ι → BitVec 1) (b : BitVec 1) (h : S.fold IntOp.andi b f = 1#1) : ∀ i ∈ S, f i = 1#1 := by
  induction S using Finset.cons_induction with
  | empty => intro i hi; simp at hi
  | cons a S ha ih =>
    rw [Finset.fold_cons] at h
    obtain ⟨h1, h2⟩ := andi_one _ _ h
    intro i hi
    rcases Finset.mem_cons.1 hi with rfl | hi
    · exact h1
    · exact ih h2 i hi

/-- A conjunction of every element says each. -/
theorem all_of_reduce {s u : Shape} {axes : List (Fin s.rank)} (x : IVec s 1) (init : IVec u 1) (h : s.ReducesTo axes S_) (hu : 0 < u.numel) (j : S_.Idx)
    (hx : Host.reduce IntOp.andi x init h hu j = 1#1) (i : s.Idx) : x i = 1#1 := by
  rw [Host.reduce_eq_fold] at hx
  exact fold_and _ _ _ hx i (Finset.mem_filter.2 ⟨Finset.mem_univ _, funext fun a => a.elim0⟩)

theorem top_word : (Ideal.ofBits .f32 0x7F800000#32 : EReal) = ⊤ := by
  simp [Ideal.ofBits, Ideal.ieee, -EReal.coe_mul]

/-- A value whose size is below the upper infinity is a real number. -/
theorem real_of_lt (x : EReal) (h : BitVec.ofBool (decide (max x (-x) < (Ideal.ofBits .f32 0x7F800000#32 : EReal))) = 1#1) : ∃ r : ℝ, x = (r : EReal) := by
  rw [top_word] at h
  have h1 : max x (-x) < ⊤ := by
    by_contra hn
    rw [decide_eq_false hn] at h
    exact absurd h (by decide)
  induction x using EReal.rec with
  | bot => simp at h1
  | top => simp at h1
  | coe r => exact ⟨r, rfl⟩

theorem seven (v0 v1 v2 v3 v4 v5 v6 : IVec S1 1) (h : Host.reduce IntOp.andi (concatenate S7 0 [⟨S1, v0⟩, ⟨S1, v1⟩, ⟨S1, v2⟩, ⟨S1, v3⟩, ⟨S1, v4⟩, ⟨S1, v5⟩, ⟨S1, v6⟩] concatenates_S1_S1_S1_S1_S1_S1_S1_S7_d0)
      (constantI S_ 1 1#1) reducesTo_S7_S_d0 h_S_ ix0 = 1#1) :
    v0 (ix1 0) = 1#1 ∧ v1 (ix1 0) = 1#1 ∧ v2 (ix1 0) = 1#1 ∧ v3 (ix1 0) = 1#1 ∧ v4 (ix1 0) = 1#1 ∧ v5 (ix1 0) = 1#1 ∧ v6 (ix1 0) = 1#1 := by
  have hk := all_of_reduce _ _ _ _ _ h
  have e : ∀ (k : Fin 7) (w : IVec S1 1), concatenate S7 0 [⟨S1, v0⟩, ⟨S1, v1⟩, ⟨S1, v2⟩, ⟨S1, v3⟩, ⟨S1, v4⟩, ⟨S1, v5⟩, ⟨S1, v6⟩] concatenates_S1_S1_S1_S1_S1_S1_S1_S7_d0 (ix1 k) = w (ix1 0) → w (ix1 0) = 1#1 :=
    fun k w hw => hw ▸ hk (ix1 k)
  refine ⟨e 0 v0 ?_, e 1 v1 ?_, e 2 v2 ?_, e 3 v3 ?_, e 4 v4 ?_, e 5 v5 ?_, e 6 v6 ?_⟩ <;> pointwise []

/-- The precondition says that each of the first seven arguments holds real numbers alone. -/
theorem real_args (a0 a1 : FVec Ideal S16384x1024 .bf16) (a2 : FVec Ideal S2x32x1024x256 .bf16) (a3 a4 a5 a6 : FVec Ideal S1x64 .f32) (a7 : FVec Ideal S1x128 .f32)
    (h : Cert.Pre_finite.fn (F := Ideal) a0 a1 a2 a3 a4 a5 a6 a7 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
      ∧ (∀ i, ∃ r : ℝ, (a3 i : EReal) = (r : EReal)) ∧ (∀ i, ∃ r : ℝ, (a4 i : EReal) = (r : EReal)) ∧ (∀ i, ∃ r : ℝ, (a5 i : EReal) = (r : EReal)) ∧ (∀ i, ∃ r : ℝ, (a6 i : EReal) = (r : EReal)) := by
  have h0 := congrFun h ix0
  obtain ⟨h0, h1, h2, h3, h4, h5, h6⟩ := seven _ _ _ _ _ _ _ h0
  refine ⟨fun i => ?_, fun i => ?_, fun i => ?_, fun i => ?_, fun i => ?_, fun i => ?_, fun i => ?_⟩
  · exact real_of_lt _ (all_of_reduce _ _ _ _ _ h0 i)
  · exact real_of_lt _ (all_of_reduce _ _ _ _ _ h1 i)
  · exact real_of_lt _ (all_of_reduce _ _ _ _ _ h2 i)
  · exact real_of_lt _ (all_of_reduce _ _ _ _ _ h3 i)
  · exact real_of_lt _ (all_of_reduce _ _ _ _ _ h4 i)
  · exact real_of_lt _ (all_of_reduce _ _ _ _ _ h5 i)
  · exact real_of_lt _ (all_of_reduce _ _ _ _ _ h6 i)

end Cert.Proof.Pre

end
-- ==== Proof.TripKernelIdeal.lean ====
module

public import proofs.«01_k».proof.Proof.Gen.KernelIdeal.Frame
public import proofs.«01_k».proof.Proof.Gen.KernelIdeal.Loops
public import Idealize.ShloMosaic.Lib.Pipeline.ValueKit
public import Idealize.ShloMosaic.Lib.Pipeline.ReadBack
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a view reads after a store of its whole shape is the payload stored, whatever the earlier stores were. -/
theorem read_whole {sig : RefSig} {κ : Kind} {sp : Space} {S : Shape} {e : EltTy} (v : View sig κ sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off S.size inb, w⟩ : View.Piece (Elt F) S e) :: L)) = w := by
  obtain rfl : off = fun _ => 0 := funext h
  funext y
  have e := View.read_writes_cons_emb v f (Rect.whole S) w L y
  rw [Rect.emb_whole_apply] at e
  exact e

/-! ## The kernel's running state

Six scratch buffers carry the running softmax: two score tiles with their column maxima (one is consumed while the
other is produced), the running maximum, and the accumulator, whose last sixteen rows are the running normalizer. -/

/-- The contents of the six scratch buffers. -/
structure St (F : FTy → Type) where
  sa : Vec F S256x1024 .f32
  sb : Vec F S256x1024 .f32
  bma : Vec F S1x1024 .f32
  bmb : Vec F S1x1024 .f32
  mx : Vec F S1x1024 .f32
  acc : Vec F S144x1024 .f32

/-- The keys' tile at given offsets. -/
abbrev kt (x1 : Vec F S8192x128 .bf16) (off : Fin 2 → Nat) (inb : ∀ a, off a + S256x128.size a ≤ S8192x128.size a) : Vec F S256x128 .bf16 :=
  View.ld x1 (Rect.unit (s := S8192x128) off S256x128.size inb)

/-- The transposed values' tile at given offsets. -/
abbrev vt (x2 : Vec F S1x32x128x256 .bf16) (off : Fin 4 → Nat) (inb : ∀ a, off a + S1x1x128x256.size a ≤ S1x32x128x256.size a) : Vec F S1x1x128x256 .bf16 :=
  View.ld x2 (Rect.unit (s := S1x32x128x256) off S1x1x128x256.size inb)

/-- A tile of scores and its column maxima, written to the first pair of buffers. -/
def St.prodA (s : St F) (v13 : FVec F S128x1024 .bf16) (kb : Vec F S256x128 .bf16) : St F :=
  { s with sa := k0_pay2 v13 kb, bma := k0_pay3 v13 kb }

/-- A tile of scores and its column maxima, written to the second pair of buffers. -/
def St.prodB (s : St F) (v13 : FVec F S128x1024 .bf16) (kb : Vec F S256x128 .bf16) : St F :=
  { s with sb := k0_pay2 v13 kb, bmb := k0_pay3 v13 kb }

/-- The first tile absorbed into the running maximum and accumulator. -/
def St.conA (s : St F) (v14 : FVec F S16x256 .bf16) (vb : Vec F S1x1x128x256 .bf16) : St F :=
  { s with mx := k0_pay7 s.bma s.mx, acc := k0_pay23 v14 s.sa s.bma s.mx vb s.acc }

/-- The second tile absorbed into the running maximum and accumulator. -/
def St.conB (s : St F) (v14 : FVec F S16x256 .bf16) (vb : Vec F S1x1x128x256 .bf16) : St F :=
  { s with mx := k0_pay7 s.bmb s.mx, acc := k0_pay23 v14 s.sb s.bmb s.mx vb s.acc }

/-- Two tiles in turn: the next is produced before the current one is absorbed. -/
def St.pair (s : St F) (v13 : FVec F S128x1024 .bf16) (v14 : FVec F S16x256 .bf16) (k1 k2 : Vec F S256x128 .bf16) (v1 v2 : Vec F S1x1x128x256 .bf16) : St F :=
  ((((s.prodB v13 k1).conA v14 v1).prodA v13 k2).conB v14 v2)

/-- One trip of the main loop: two pairs of tiles. -/
def St.trip (s : St F) (i : grid0.Coords) (v13 : FVec F S128x1024 .bf16) (v14 : FVec F S16x256 .bf16) (x1 : Vec F S8192x128 .bf16)
    (x2 : Vec F S1x32x128x256 .bf16) (k : Fin (k0_t1_loop i).trips) : St F :=
  ((s.pair v13 v14 (kt x1 (k0_off1 i k 1#32) (k0_off1_inb i k 0)) (kt x1 (k0_off1 i k 2#32) (k0_off1_inb i k 1)) (vt x2 _ (k0_off2_inb i k)) (vt x2 _ (k0_off3_inb i k))).pair
    v13 v14 (kt x1 (k0_off4 i k 1#32) (k0_off4_inb i k 0)) (kt x1 (k0_off4 i k 2#32) (k0_off4_inb i k 1)) (vt x2 _ (k0_off5_inb i k)) (vt x2 _ (k0_off6_inb i k)))

set_option maxHeartbeats 2000000 in
/-- One trip of the main loop, run: from the keys, the values and the scratch at state `s` to the scratch at `s.trip`. -/
theorem tripRun (c : Dev nD) (i : grid0.Coords) (arg2 : BitVec 32) (arg3 : Memref sig .tc .vmem S512x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S144x1024 .f32) (harg17 : arg17.IsWhole) (v13 : FVec F S128x1024 .bf16) (v14 : FVec F S16x256 .bf16) (v31 : FVec F S1x1024 .f32) (v32 : Vec F S1x1024 .f32)
    (x1 : Vec F S8192x128 .bf16) (x2 : Vec F S1x32x128x256 .bf16) (k : Fin (k0_t1_loop i).trips)
    (s : St F) (Q : Unit → sProp 𝕄) :
    iprop(owns (c : Thread nD τ) arg4 fullShare x1 ∗ owns (c : Thread nD τ) arg5 fullShare x2 ∗ owns (c : Thread nD τ) arg12 fullShare (s).sa ∗ owns (c : Thread nD τ) arg13 fullShare (s).sb ∗ owns (c : Thread nD τ) arg14 fullShare (s).bma ∗ owns (c : Thread nD τ) arg15 fullShare (s).bmb ∗ owns (c : Thread nD τ) arg16 fullShare (s).mx ∗ owns (c : Thread nD τ) arg17 fullShare (s).acc ∗ (iprop(owns (c : Thread nD τ) arg4 fullShare x1 ∗ owns (c : Thread nD τ) arg5 fullShare x2 ∗ owns (c : Thread nD τ) arg12 fullShare (s.trip i v13 v14 x1 x2 k).sa ∗ owns (c : Thread nD τ) arg13 fullShare (s.trip i v13 v14 x1 x2 k).sb ∗ owns (c : Thread nD τ) arg14 fullShare (s.trip i v13 v14 x1 x2 k).bma ∗ owns (c : Thread nD τ) arg15 fullShare (s.trip i v13 v14 x1 x2 k).bmb ∗ owns (c : Thread nD τ) arg16 fullShare (s.trip i v13 v14 x1 x2 k).mx ∗ owns (c : Thread nD τ) arg17 fullShare (s.trip i v13 v14 x1 x2 k).acc) -∗ Q ()))
      ⊢ wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v13 v14 v31 v32 k ()) Q := by
  obtain ⟨sa, sb, bma, bmb, mm, acc⟩ := s
  dsimp only
  unfold owns
  iintro ⟨⟨%f4, %hf4, H4⟩, ⟨%f5, %hf5, H5⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf4 hf5 hf12 hf13 hf14 hf15 hf16 hf17
  sl_unfold [k0_t1_body]
  sl_exec
  sl_step
  iapply Hk
  isplitl [H4]; · iexists _; isplitr; · ipureintro; rfl
                  iexact H4
  isplitl [H5]; · iexists _; isplitr; · ipureintro; rfl
                  iexact H5
  isplitl [H12]
  · iexists _; isplitr; swap; · iexact H12
    ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl
  isplitl [H13]
  · iexists _; isplitr; swap; · iexact H13
    ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl
  isplitl [H14]
  · iexists _; isplitr; swap; · iexact H14
    ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl
  isplitl [H15]
  · iexists _; isplitr; swap; · iexact H15
    ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl
  isplitl [H16]
  · iexists _; isplitr; swap; · iexact H16
    ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl
  iexists _; isplitr; swap; · iexact H17
  ipureintro; refine (read_whole _ _ _ _ _ (by decide)).trans ?_; sl_unfold_run_names; simp (disch := decide) only [View.readCov_cons_unit_lit', View.readCov_unit_lit', View.readAt_eq_ld, View.ld_unit_lit']; dsimp only [St.trip, St.pair, St.prodA, St.prodB, St.conA, St.conB, kt, vt, View.readAt_eq_ld, k0_pay1, k0_pay2, k0_pay3, k0_pay4, k0_pay7, k0_pay21, k0_pay23]; try rfl

end Cert.Proof.KernelIdeal
-- ==== Proof.BodyKernelIdeal.lean ====
module

public import proofs.«01_k».proof.Proof.TripKernelIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The whole body -/

/-- The state as the main loop finds it: the first tile's scores and column maxima, the maximum and accumulator at their initial values. -/
def s0 (x0 : Vec F S512x128 .bf16) (x1 : Vec F S8192x128 .bf16) : St F where
  sa := k0_pay79 x0 (kt x1 ![0, 0] inb_S8192x128_S256x128_0_0)
  sb := k0_pay79 x0 (kt x1 ![0, 0] inb_S8192x128_S256x128_0_0)
  bma := k0_pay81 (k0_pay80 x0 (kt x1 ![0, 0] inb_S8192x128_S256x128_0_0))
  bmb := k0_pay81 (k0_pay80 x0 (kt x1 ![0, 0] inb_S8192x128_S256x128_0_0))
  mx := k0_pay76
  acc := k0_pay77

/-- The state before trip `k` of the main loop. -/
def stAt (s : St F) (i : grid0.Coords) (v13 : FVec F S128x1024 .bf16) (v14 : FVec F S16x256 .bf16) (x1 : Vec F S8192x128 .bf16)
    (x2 : Vec F S1x32x128x256 .bf16) : ℕ → St F
  | 0 => s
  | k + 1 => if h : k < (k0_t1_loop i).trips then (stAt s i v13 v14 x1 x2 k).trip i v13 v14 x1 x2 ⟨k, h⟩ else stAt s i v13 v14 x1 x2 k

theorem stAt_succ (s : St F) (i : grid0.Coords) (v13 : FVec F S128x1024 .bf16) (v14 : FVec F S16x256 .bf16) (x1 : Vec F S8192x128 .bf16)
    (x2 : Vec F S1x32x128x256 .bf16) (k : Fin (k0_t1_loop i).trips) :
    stAt s i v13 v14 x1 x2 (k.val + 1) = (stAt s i v13 v14 x1 x2 k.val).trip i v13 v14 x1 x2 k := by
  show (if h : k.val < (k0_t1_loop i).trips then _ else _) = _
  rw [dif_pos k.isLt]

/-- The odd pair of tiles that the main loop leaves over, when there is one. -/
def St.odd (s : St F) (i : grid0.Coords) (v13 : FVec F S128x1024 .bf16) (v14 : FVec F S16x256 .bf16) (x1 : Vec F S8192x128 .bf16)
    (x2 : Vec F S1x32x128x256 .bf16) : St F :=
  if h : k0_cond1 i = 1#1 then
    s.pair v13 v14 (kt x1 (k0_off13 i 1#32) (k0_off13_inb i h 0)) (kt x1 (k0_off13 i 2#32) (k0_off13_inb i h 1)) (vt x2 _ (k0_off14_inb i h)) (vt x2 _ (k0_off15_inb i h))
  else s

open Idealize.ShloMosaic.VecWindow in
/-- The last pair of tiles, masked on the diagonal; the second tile meets only the right halves of the two column groups. -/
def accT (s : St F) (i : grid0.Coords) (v13 : FVec F S128x1024 .bf16) (v14 : FVec F S16x256 .bf16) (x1 : Vec F S8192x128 .bf16)
    (x2 : Vec F S1x32x128x256 .bf16) : Vec F S144x1024 .f32 :=
  let sbT : Vec F S256x1024 .f32 := k0_pay87 v13 (kt x1 (k0_off16 i) (k0_off16_inb i))
  let mx1 : Vec F S1x1024 .f32 := k0_pay92 (k0_pay90 s.sa s.mx)
  let acc1 : Vec F S144x1024 .f32 := k0_pay93 v14 (k0_pay89 s.sa) (k0_pay90 s.sa s.mx) (k0_pay91 s.sa s.mx) (vt x2 (k0_off17 i) (k0_off17_inb i))
    (window s.acc ![0, 0] S144x1024.size inb_S144x1024_S144x1024_0_0)
  let w1 : Vec F S256x256 .f32 := window sbT ![0, 256] S256x256.size inb_S256x1024_S256x256_0_256
  let w2 : Vec F S256x256 .f32 := window sbT ![0, 768] S256x256.size inb_S256x1024_S256x256_0_768
  let acc2 : Vec F S144x1024 .f32 := put acc1 ![0, 256] S144x256.size (k0_pay98 v14 (k0_pay94 w1) (k0_pay95 w1) (window mx1 ![0, 256] S1x256.size inb_S1x1024_S1x256_0_256)
    (vt x2 (k0_off18 i) (k0_off18_inb i)) (window acc1 ![0, 256] S144x256.size inb_S144x1024_S144x256_0_256))
  let mx2 : Vec F S1x1024 .f32 := put mx1 ![0, 256] S1x256.size (k0_pay97 (k0_pay95 w1) (window mx1 ![0, 256] S1x256.size inb_S1x1024_S1x256_0_256))
  put acc2 ![0, 768] S144x256.size (k0_pay104 v14 w2 k0_pay99 k0_pay100 (window mx2 ![0, 768] S1x256.size inb_S1x1024_S1x256_0_768)
    (vt x2 (k0_off18 i) (k0_off18_inb i)) (window acc2 ![0, 768] S144x256.size inb_S144x1024_S144x256_0_768))

open Idealize.ShloMosaic.VecWindow in
/-- The block written, from the final accumulator. -/
def fin (acc : Vec F S144x1024 .f32) (x6 x7 x8 x9 : Vec F S1x64 .f32) (x10 : Vec F S1x128 .f32) : Vec F S512x128 .bf16 :=
  k0_pay106 (k0_pay105 (window x6 ![0, 0] S1x64.size inb_S1x64_S1x64_0_0) (window x7 ![0, 0] S1x64.size inb_S1x64_S1x64_0_0)) (window x8 ![0, 0] S1x64.size inb_S1x64_S1x64_0_0) (window x9 ![0, 0] S1x64.size inb_S1x64_S1x64_0_0) (window acc ![0, 0] S128x1024.size inb_S144x1024_S128x1024_0_0) (window acc ![128, 0] S1x1024.size inb_S144x1024_S1x1024_128_0)
    (window x10 ![0, 0] S1x128.size inb_S1x128_S1x128_0_0)

/-- The block a point writes, from the blocks it reads. -/
def outF (i : grid0.Coords) (x0 : Vec F S512x128 .bf16) (x1 : Vec F S8192x128 .bf16) (x2 : Vec F S1x32x128x256 .bf16) (x6 x7 x8 x9 : Vec F S1x64 .f32) (x10 : Vec F S1x128 .f32) : Vec F S512x128 .bf16 :=
  fin (accT ((stAt (s0 x0 x1) i (k0_pay74 x0) k0_pay75 x1 x2 (k0_t1_loop i).trips).odd i (k0_pay74 x0) k0_pay75 x1 x2) i (k0_pay74 x0) k0_pay75 x1 x2) x6 x7 x8 x9 x10

/-- Holding a buffer by value is holding it at some contents that read as the value. -/
theorem owns_open (c : Dev nD) {sp : Space} {sh : Shape} {e : EltTy} (m : Memref sig .tc sp sh e) (X : sh.Idx → Elt F e) :
    owns (c : Thread nD τ) m fullShare X ⊢ (iprop(∃ f, ⌜m.view.read (Elt F) f = X⌝ ∗ (m.view.loc (c : Thread nD τ) ↦[m.view.set]{fullShare} f)) : sProp 𝕄) := by
  unfold owns; exact .rfl

/-- The second counted loop makes no trip. -/
theorem trips2 : ∀ i : grid0.Coords, (k0_t2_loop i).trips = 0 := by decide +kernel

set_option maxHeartbeats 2000000 in
/-- The opening: the maximum and accumulator set to their initial values, the first tile's scores produced. -/
theorem openRun (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S144x1024 .f32) (harg17 : arg17.IsWhole) (x0 : Vec F S512x128 .bf16) (x1 : Vec F S8192x128 .bf16)
    (d12 : Vec F S256x1024 .f32) (d14 : Vec F S1x1024 .f32) (d16 : Vec F S1x1024 .f32) (d17 : Vec F S144x1024 .f32)
    (Q : (Σ' (_ : BitVec 32) (_ : FVec F S128x1024 .bf16) (_ : FVec F S16x256 .bf16) (_ : FVec F S1x1024 .f32), Vec F S1x1024 .f32) → sProp 𝕄) :
    iprop(owns (c : Thread nD τ) arg3 fullShare x0 ∗ owns (c : Thread nD τ) arg4 fullShare x1 ∗ owns (c : Thread nD τ) arg12 fullShare d12 ∗ owns (c : Thread nD τ) arg14 fullShare d14 ∗ owns (c : Thread nD τ) arg16 fullShare d16 ∗ owns (c : Thread nD τ) arg17 fullShare d17 ∗
      (∀ v32, iprop(owns (c : Thread nD τ) arg3 fullShare x0 ∗ owns (c : Thread nD τ) arg4 fullShare x1 ∗ owns (c : Thread nD τ) arg12 fullShare (s0 x0 x1).sa ∗ owns (c : Thread nD τ) arg14 fullShare d14 ∗ owns (c : Thread nD τ) arg16 fullShare (s0 x0 x1).mx ∗ owns (c : Thread nD τ) arg17 fullShare (s0 x0 x1).acc) -∗
        Q ⟨BitVec.ofNat 32 (i 2).val, k0_pay74 x0, k0_pay75, k0_pay80 x0 (kt x1 ![0, 0] inb_S8192x128_S256x128_0_0), v32⟩))
      ⊢ wp frame (wpE (defs₀ (F := F)) Variants.none c none) Set.univ (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  unfold owns
  iintro ⟨⟨%f3, %hf3, H3⟩, ⟨%f4, %hf4, H4⟩, ⟨%f12, %hf12, H12⟩, ⟨%f14, %hf14, H14⟩, ⟨%f16, %hf16, H16⟩, ⟨%f17, %hf17, H17⟩, Hk⟩
  subst hf3 hf4 hf12 hf14 hf16 hf17
  rw [k0_part13_eq_skeleton]
  unfold k0_part13_skel
  sl_exec
  sl_step
  rw [View.readAt_full (e := .bf16) arg3.view f3 (off := ![0, 0]) inb_S512x128_S512x128_0_0]
  rw [show View.readAt (Elt F) arg4.view (Rect.unit (s := S8192x128) ![0, 0] S256x128.size inb_S8192x128_S256x128_0_0).toLoadRect f4
    = kt (View.read (Elt F) arg4.view f4) ![0, 0] inb_S8192x128_S256x128_0_0 from rfl]
  iapply Hk
  isplitl [H3]; · iexists _; isplitr; · ipureintro; rfl
                  iexact H3
  isplitl [H4]; · iexists _; isplitr; · ipureintro; rfl
                  iexact H4
  isplitl [H12]
  · iexists _; isplitr; swap; · iexact H12
    ipureintro; refine (read_whole _ _ _ _ _ (by decide)).trans ?_; sl_unfold_run_names; simp (disch := decide) only [View.readAt_eq_ld, View.ld_unit_lit']; dsimp only [s0, kt, k0_pay79, k0_pay78, k0_pay74]; try rfl
  isplitl [H14]; · iexists _; isplitr; · ipureintro; rfl
                   iexact H14
  isplitl [H16]
  · iexists _; isplitr; swap; · iexact H16
    ipureintro; refine (read_whole _ _ _ _ _ (by decide)).trans ?_; rfl
  iexists _; isplitr; swap; · iexact H17
  ipureintro; refine (read_whole _ _ _ _ _ (by decide)).trans ?_; rfl

set_option maxHeartbeats 2000000 in
/-- The main loop: two pairs of tiles a trip, to the state after the last trip. -/
theorem midRun (c : Dev nD) (i : grid0.Coords) (arg2 : BitVec 32) (arg3 : Memref sig .tc .vmem S512x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S144x1024 .f32) (harg17 : arg17.IsWhole) (v13 : FVec F S128x1024 .bf16) (v14 : FVec F S16x256 .bf16) (v31 : FVec F S1x1024 .f32) (v32 : Vec F S1x1024 .f32)
    (x1 : Vec F S8192x128 .bf16) (x2 : Vec F S1x32x128x256 .bf16) (s : St F) (hb : s.bma = k0_pay81 v31)
    (d13 : Vec F S256x1024 .f32) (d14 d15 : Vec F S1x1024 .f32) (Q : PUnit → sProp 𝕄) :
    iprop(owns (c : Thread nD τ) arg4 fullShare x1 ∗ owns (c : Thread nD τ) arg5 fullShare x2 ∗ owns (c : Thread nD τ) arg12 fullShare s.sa ∗ owns (c : Thread nD τ) arg13 fullShare d13 ∗ owns (c : Thread nD τ) arg14 fullShare d14 ∗ owns (c : Thread nD τ) arg15 fullShare d15 ∗ owns (c : Thread nD τ) arg16 fullShare s.mx ∗ owns (c : Thread nD τ) arg17 fullShare s.acc ∗
      ((∃ sb bmb, owns (c : Thread nD τ) arg4 fullShare x1 ∗ owns (c : Thread nD τ) arg5 fullShare x2 ∗ owns (c : Thread nD τ) arg12 fullShare (stAt s i v13 v14 x1 x2 (k0_t1_loop i).trips).sa ∗ owns (c : Thread nD τ) arg13 fullShare sb ∗ owns (c : Thread nD τ) arg14 fullShare (stAt s i v13 v14 x1 x2 (k0_t1_loop i).trips).bma ∗ owns (c : Thread nD τ) arg15 fullShare bmb ∗ owns (c : Thread nD τ) arg16 fullShare (stAt s i v13 v14 x1 x2 (k0_t1_loop i).trips).mx ∗ owns (c : Thread nD τ) arg17 fullShare (stAt s i v13 v14 x1 x2 (k0_t1_loop i).trips).acc) -∗ Q ⟨⟩))
      ⊢ wp frame (wpE (defs₀ (F := F)) Variants.none c none) Set.univ (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v13 v14 v31 v32) Q := by
  iintro ⟨H4, H5, H12, H13, HX14, H15, H16, H17, Hk⟩
  rw [k0_part14_eq_skeleton]
  unfold k0_part14_skel
  ihave HX14 := (owns_open c arg14 d14) $$ HX14
  icases HX14 with ⟨%f14, %hf14, H14⟩
  simp only [Prog.lift, Prog.bind_op, Prog.bind_ret, Prog.pure_eq_ret, Prog.bind_assoc]
  sl_step
  sl_for (fun k _ => iprop(∃ sb bmb, owns (c : Thread nD τ) arg4 fullShare x1 ∗ owns (c : Thread nD τ) arg5 fullShare x2 ∗ owns (c : Thread nD τ) arg12 fullShare (stAt s i v13 v14 x1 x2 k).sa ∗ owns (c : Thread nD τ) arg13 fullShare sb ∗ owns (c : Thread nD τ) arg14 fullShare (stAt s i v13 v14 x1 x2 k).bma ∗ owns (c : Thread nD τ) arg15 fullShare bmb ∗ owns (c : Thread nD τ) arg16 fullShare (stAt s i v13 v14 x1 x2 k).mx ∗ owns (c : Thread nD τ) arg17 fullShare (stAt s i v13 v14 x1 x2 k).acc)) $$ [H4 H5 H12 H13 H14 H15 H16 H17]
  · intro k acc
    dsimp only
    iintro ⟨%sb, %bmb, H4, H5, H12, H13, H14, H15, H16, H17⟩
    iapply (tripRun c i arg2 arg3 harg3 arg4 harg4 arg5 harg5 arg6 harg6 arg7 harg7 arg8 harg8 arg9 harg9 arg10 harg10 arg11 harg11 arg12 harg12 arg13 harg13 arg14 harg14 arg15 harg15 arg16 harg16 arg17 harg17 v13 v14 v31 v32 x1 x2 k { stAt s i v13 v14 x1 x2 k.val with sb := sb, bmb := bmb }) $$ [H4 H5 H12 H13 H14 H15 H16 H17]
    isplitl [H4]; · iexact H4
    isplitl [H5]; · iexact H5
    isplitl [H12]; · iexact H12
    isplitl [H13]; · iexact H13
    isplitl [H14]; · iexact H14
    isplitl [H15]; · iexact H15
    isplitl [H16]; · iexact H16
    isplitl [H17]; · iexact H17
    iintro ⟨H4, H5, H12, H13, H14, H15, H16, H17⟩
    iexists _, _
    rw [stAt_succ]
    isplitl [H4]; · iexact H4
    isplitl [H5]; · iexact H5
    isplitl [H12]; · iexact H12
    isplitl [H13]; · iexact H13
    isplitl [H14]; · iexact H14
    isplitl [H15]; · iexact H15
    isplitl [H16]; · iexact H16
    iexact H17
  · iexists d13, d15
    isplitl [H4]; · iexact H4
    isplitl [H5]; · iexact H5
    isplitl [H12]; · iexact H12
    isplitl [H13]; · iexact H13
    isplitl [H14]
    · unfold owns
      iexists _; isplitr; swap; · iexact H14
      ipureintro; exact (read_whole (S := S1x1024) (e := .f32) arg14.view f14 (off := ![0, 0]) inb_S1x1024_S1x1024_0_0 (k0_pay81 v31) [] (by decide)).trans hb.symm
    isplitl [H15]; · iexact H15
    isplitl [H16]; · iexact H16
    iexact H17
  iintro %acc H
  sl_for (fun _ _ => iprop(∃ sb bmb, owns (c : Thread nD τ) arg4 fullShare x1 ∗ owns (c : Thread nD τ) arg5 fullShare x2 ∗ owns (c : Thread nD τ) arg12 fullShare (stAt s i v13 v14 x1 x2 (k0_t1_loop i).trips).sa ∗ owns (c : Thread nD τ) arg13 fullShare sb ∗ owns (c : Thread nD τ) arg14 fullShare (stAt s i v13 v14 x1 x2 (k0_t1_loop i).trips).bma ∗ owns (c : Thread nD τ) arg15 fullShare bmb ∗ owns (c : Thread nD τ) arg16 fullShare (stAt s i v13 v14 x1 x2 (k0_t1_loop i).trips).mx ∗ owns (c : Thread nD τ) arg17 fullShare (stAt s i v13 v14 x1 x2 (k0_t1_loop i).trips).acc)) $$ [H]
  · intro k acc
    exact (Nat.not_lt_zero _ (Nat.lt_of_lt_of_eq k.isLt (trips2 i))).elim
  · iexact H
  iintro %acc2 H
  sl_step
  iapply Hk
  iexact H

end Cert.Proof.KernelIdeal
-- ==== Proof.Maths.lean ====
module

public import Idealize.ShloMosaic.PureOps.Ideal
public import Idealize.ShloMosaic.PureOps.Ideal.Laws

@[expose] public section

noncomputable section

namespace Cert.Proof.Maths

open Idealize.ShloMosaic Finset

/-- A finite sum of real numbers, taken among the extended reals. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The maximum of finitely many extended reals, none of them the upper infinity and one of them not the lower, is a real number. -/
theorem fold_real {N : ℕ} (f : Fin N → EReal) (h : ∀ k, f k ≠ ⊤) (k0 : Fin N) (h0 : f k0 ≠ ⊥) :
    ∃ B : ℝ, Finset.univ.fold max ⊥ f = (B : EReal) := by
  have h1 : Finset.univ.fold max ⊥ f < ⊤ := by
    rw [Finset.fold_max_lt]
    exact ⟨bot_lt_top, fun k _ => lt_top_iff_ne_top.2 (h k)⟩
  have h2 : ⊥ < Finset.univ.fold max ⊥ f := by
    rw [Finset.lt_fold_max]
    exact .inr ⟨k0, Finset.mem_univ _, bot_lt_iff_ne_bot.2 h0⟩
  exact ⟨(Finset.univ.fold max ⊥ f).toReal, (EReal.coe_toReal h1.ne h2.ne').symm⟩

/-- The weighted sum of the values at the first `n` keys, those past the query left out. -/
def part (n q : ℕ) (S V : ℕ → ℝ) : ℝ := ∑ k ∈ range n, if k ≤ q then V k * (2 : ℝ) ^ S k else 0

/-- What the running maximum and one running sum hold after the first `n` keys. -/
def Inv (n q : ℕ) (S V : ℕ → ℝ) (m a : EReal) : Prop :=
  (n = 0 ∧ m = ⊥ ∧ a = 0) ∨ ∃ M : ℝ, m = (M : EReal) ∧ a = (((2 : ℝ) ^ (-M) * part n q S V : ℝ) : EReal)

theorem part_add (n N q : ℕ) (S V : ℕ → ℝ) :
    part (n + N) q S V = part n q S V + ∑ k : Fin N, if n + k.val ≤ q then V (n + k.val) * (2 : ℝ) ^ S (n + k.val) else 0 := by
  unfold part
  rw [Finset.sum_range_add, Finset.sum_range]
  congr 1
  rw [Finset.sum_range]

theorem part_full {n q : ℕ} (S V : ℕ → ℝ) (h : q < n) : part n q S V = ∑ k ∈ range (q + 1), V k * (2 : ℝ) ^ S k := by
  unfold part
  rw [← Finset.sum_filter]
  apply Finset.sum_congr _ fun _ _ => rfl
  ext k; simp only [mem_filter, mem_range]; omega

/-- A tile of keys absorbed. -/
theorem Inv.step {n q : ℕ} {S V : ℕ → ℝ} {m a : EReal} (h : Inv n q S V m a) {N : ℕ} (t v : Fin N → EReal)
    (ht : ∀ k, t k = if n + k.val ≤ q then ((S (n + k.val) : ℝ) : EReal) else ⊥) (hv : ∀ k, v k = ((V (n + k.val) : ℝ) : EReal))
    {bm : EReal} (hbm : ∃ B : ℝ, bm = (B : EReal)) :
    Inv (n + N) q S V (max m bm) (Ideal.exp2 (m - max m bm) * a + ∑ k, v k * Ideal.exp2 (t k - max m bm)) := by
  obtain ⟨B, rfl⟩ := hbm
  obtain ⟨M', hM'⟩ : ∃ M' : ℝ, max m (B : EReal) = (M' : EReal) := by
    rcases h with ⟨-, rfl, -⟩ | ⟨M, rfl, -⟩
    · exact ⟨B, by simp⟩
    · rcases le_total M B with h | h
      · exact ⟨B, max_eq_right (EReal.coe_le_coe_iff.2 h)⟩
      · exact ⟨M, max_eq_left (EReal.coe_le_coe_iff.2 h)⟩
  rw [hM']
  refine .inr ⟨M', rfl, ?_⟩
  have hs : ∑ k, v k * Ideal.exp2 (t k - (M' : EReal))
      = (((2 : ℝ) ^ (-M') * ∑ k : Fin N, (if n + k.val ≤ q then V (n + k.val) * (2 : ℝ) ^ S (n + k.val) else 0) : ℝ) : EReal) := by
    rw [Finset.mul_sum, coe_sum]
    refine Finset.sum_congr rfl fun k _ => ?_
    rw [ht, hv]
    split_ifs with hk
    · rw [← EReal.coe_sub, Ideal.exp2_coe, ← EReal.coe_mul]
      congr 1
      show V _ * (2 : ℝ) ^ (S _ - M') = _
      rw [sub_eq_add_neg, Real.rpow_add (by norm_num)]; ring
    · rw [EReal.bot_sub, Ideal.exp2_bot]; simp
  rw [hs, part_add]
  rcases h with ⟨rfl, rfl, rfl⟩ | ⟨M, rfl, rfl⟩
  · rw [mul_zero, zero_add, mul_add]
    simp [part]
  · rw [← EReal.coe_sub, Ideal.exp2_coe, ← EReal.coe_mul, ← EReal.coe_add]
    congr 1
    show (2 : ℝ) ^ (M - M') * _ + _ = _
    rw [sub_eq_add_neg, Real.rpow_add (by norm_num), Real.rpow_neg (by norm_num) M]
    have : (2 : ℝ) ^ M ≠ 0 := (Real.rpow_pos_of_pos (by norm_num) M).ne'
    field_simp

/-- A tile wholly past the query changes nothing that the statement sees. -/
theorem Inv.skip {n q : ℕ} {S V : ℕ → ℝ} {m a : EReal} (h : Inv n q S V m a) (N : ℕ) (hq : q < n) : Inv (n + N) q S V m a := by
  rcases h with ⟨rfl, -, -⟩ | ⟨M, hm, ha⟩
  · omega
  · exact .inr ⟨M, hm, by rw [ha, part_full S V hq, part_full S V (by omega : q < n + N)]⟩

/-- The average of the values under the weights of one query. -/
def attn (q : ℕ) (S V : ℕ → ℝ) : ℝ := (∑ k ∈ range (q + 1), V k * (2 : ℝ) ^ S k) / ∑ k ∈ range (q + 1), (2 : ℝ) ^ S k

theorem weights_pos (q : ℕ) (S : ℕ → ℝ) : 0 < ∑ k ∈ range (q + 1), (2 : ℝ) ^ S k :=
  Finset.sum_pos (fun k _ => Real.rpow_pos_of_pos (by norm_num) _) ⟨0, by simp⟩

theorem div_coe_coe (x y : ℝ) (hy : y ≠ 0) : Ideal.div (x : EReal) (y : EReal) = ((x / y : ℝ) : EReal) := by
  rw [Ideal.div_coe hy, ← EReal.coe_mul]; congr 1; ring

/-- The running sums after every key up to the query, divided. -/
theorem Inv.div {n q : ℕ} {S V : ℕ → ℝ} {m a l : EReal} (h : Inv n q S V m a) (h1 : Inv n q S (fun _ => 1) m l) (hq : q < n) :
    Ideal.div a l = ((attn q S V : ℝ) : EReal) := by
  rcases h with ⟨rfl, -, -⟩ | ⟨M, rfl, rfl⟩
  · omega
  rcases h1 with ⟨rfl, -, -⟩ | ⟨M', hM, rfl⟩
  · omega
  obtain rfl := EReal.coe_injective hM
  have hp := weights_pos q S
  have h2 : (0 : ℝ) < 2 ^ (-M) := Real.rpow_pos_of_pos (by norm_num) _
  rw [part_full S V hq, part_full S _ hq]
  simp only [one_mul]
  rw [div_coe_coe _ _ (by positivity)]
  congr 1
  rw [attn, mul_div_mul_left _ _ h2.ne']

/-- One query's weights, as the reference computes them, are the powers of two over their sum. -/
theorem softmax {N q : ℕ} (hq : q < N) (S : ℕ → ℝ) (s : Fin N → EReal)
    (hs : ∀ k, s k = if k.val ≤ q then ((S k.val * Real.log 2 : ℝ) : EReal) else ⊥) (M : EReal) (hM : ∃ B : ℝ, M = (B : EReal)) (k : Fin N) :
    Ideal.div (Ideal.exp (s k - M)) (∑ k, Ideal.exp (s k - M))
      = (((if k.val ≤ q then (2 : ℝ) ^ S k.val else 0) / ∑ k ∈ range (q + 1), (2 : ℝ) ^ S k : ℝ) : EReal) := by
  obtain ⟨B, rfl⟩ := hM
  have he : ∀ k, Ideal.exp (s k - (B : EReal)) = ((Real.exp (-B) * if k.val ≤ q then (2 : ℝ) ^ S k.val else 0 : ℝ) : EReal) := by
    intro k
    rw [hs]
    split_ifs
    · rw [← EReal.coe_sub, Ideal.exp_coe]
      congr 1
      rw [sub_eq_neg_add, Real.exp_add, Real.rpow_def_of_pos (by norm_num), mul_comm (S _)]
    · rw [EReal.bot_sub, Ideal.exp_bot]; simp
  have hsum : ∑ k : Fin N, (if k.val ≤ q then (2 : ℝ) ^ S k.val else 0) = ∑ k ∈ range (q + 1), (2 : ℝ) ^ S k := by
    rw [← Finset.sum_range (fun k => if k ≤ q then (2 : ℝ) ^ S k else 0), ← Finset.sum_filter]
    apply Finset.sum_congr _ fun _ _ => rfl
    ext k; simp only [mem_filter, mem_range]; omega
  simp only [he]
  rw [← coe_sum, ← Finset.mul_sum, hsum]
  have hp := weights_pos q S
  have h2 := Real.exp_pos (-B)
  rw [div_coe_coe _ _ (by positivity), mul_div_mul_left _ _ h2.ne']

/-- The values summed under the difference of two weightings, as the reference computes it. -/
theorem combine {N q : ℕ} (hq : q < N) (S1 S2 V : ℕ → ℝ) (lam : ℝ) (v p1 p2 : Fin N → EReal) (hv : ∀ k, v k = ((V k.val : ℝ) : EReal))
    (h1 : ∀ k, p1 k = (((if k.val ≤ q then (2 : ℝ) ^ S1 k.val else 0) / ∑ k ∈ range (q + 1), (2 : ℝ) ^ S1 k : ℝ) : EReal))
    (h2 : ∀ k, p2 k = (((if k.val ≤ q then (2 : ℝ) ^ S2 k.val else 0) / ∑ k ∈ range (q + 1), (2 : ℝ) ^ S2 k : ℝ) : EReal)) :
    ∑ k, v k * (p1 k - (lam : EReal) * p2 k) = ((attn q S1 V - lam * attn q S2 V : ℝ) : EReal) := by
  have hx : ∀ S : ℕ → ℝ, attn q S V = ∑ k : Fin N, V k.val * ((if k.val ≤ q then (2 : ℝ) ^ S k.val else 0) / ∑ k ∈ range (q + 1), (2 : ℝ) ^ S k) := by
    intro S
    rw [attn, ← Finset.sum_range (fun k => V k * ((if k ≤ q then (2 : ℝ) ^ S k else 0) / ∑ k ∈ range (q + 1), (2 : ℝ) ^ S k)), Finset.sum_div,
      ← Finset.sum_subset (s₁ := range (q + 1)) (s₂ := range N)]
    · refine Finset.sum_congr rfl fun k hk => ?_
      rw [if_pos (by simp at hk; omega), mul_div_assoc]
    · intro k; simp only [mem_range]; omega
    · intro k _ hk; rw [if_neg (by simp at hk; omega)]; simp
  rw [hx S1, hx S2, Finset.mul_sum, ← Finset.sum_sub_distrib, coe_sum]
  refine Finset.sum_congr rfl fun k _ => ?_
  rw [hv, h1, h2, ← EReal.coe_mul, ← EReal.coe_sub, ← EReal.coe_mul]
  congr 1; ring

end Cert.Proof.Maths

end
-- ==== Proof.KerRead.lean ====
module

public import proofs.«01_k».proof.Proof.BodyKernelIdeal
public import proofs.«01_k».proof.Proof.Maths
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Cert.Proof.Maths

/-- The mask is the lower infinity. -/
theorem mask_bot : (Named.named κ "mask" 0xF149F2CA#32 : Ideal .f32) = (⊥ : EReal) :=
  IdealRules.named_const.ideal_named_scalar _ _ _ _ rfl

/-- The word the column maxima start from is the lower infinity. -/
theorem ninf_bot : (Ideal.ofBits .f32 0xFF800000#32 : Ideal .f32) = (⊥ : EReal) := by
  simp [Ideal.ofBits, Ideal.ieee, -EReal.coe_mul]

/-- The opening's scores are a tile's scores. -/
theorem pay79_eq (x0 : Vec Ideal S512x128 .bf16) (kb : Vec Ideal S256x128 .bf16) : k0_pay79 x0 kb = k0_pay2 (k0_pay74 x0) kb := rfl

/-- The opening's maxima are a tile's maxima. -/
theorem pay81_eq (x0 : Vec Ideal S512x128 .bf16) (kb : Vec Ideal S256x128 .bf16) : k0_pay81 (k0_pay80 x0 kb) = k0_pay3 (k0_pay74 x0) kb := rfl

/-- The last tile's scores are a tile's scores. -/
theorem pay87_eq (v13 : FVec Ideal S128x1024 .bf16) (kb : Vec Ideal S256x128 .bf16) : k0_pay87 v13 kb = k0_pay2 v13 kb := rfl

/-- A tile's scores, at an index. -/
theorem pay2_at (v13 : FVec Ideal S128x1024 .bf16) (kb : Vec Ideal S256x128 .bf16) (x : Fin 256) (c : Fin 1024) :
    k0_pay2 v13 kb (ix2 x c) = ∑ j : Fin 128, (kb (ix2 x j) : EReal) * v13 (ix2 j c) := by
  pointwise [k0_pay2, k0_pay1]

/-- A tile's column maxima, at an index. -/
theorem pay3_at (v13 : FVec Ideal S128x1024 .bf16) (kb : Vec Ideal S256x128 .bf16) (c : Fin 1024) :
    k0_pay3 v13 kb (ix2 0 c) = Finset.univ.fold max (⊥ : EReal) fun x : Fin 256 => k0_pay2 v13 kb (ix2 x c) := by
  simp only [pay2_at]
  rw [← ninf_bot]
  pointwise [k0_pay3, k0_pay1]

/-- The new running maximum, at an index. -/
theorem pay7_at (bm mx : Vec Ideal S1x1024 .f32) (c : Fin 1024) :
    k0_pay7 bm mx (ix2 0 c) = max (mx (ix2 0 c) : EReal) (bm (ix2 0 c)) := by
  pointwise [k0_pay7, k0_pay4]

/-- The rows of ones. -/
theorem pay75_at (a : Fin 16) (b : Fin 256) : (k0_pay75 (ix2 a b) : Ideal .bf16) = (1 : EReal) := by
  pointwise [k0_pay75]

/-- The running maximum's initial value. -/
theorem pay76_at (c : Fin 1024) : (k0_pay76 (ix2 0 c) : Ideal .f32) = (⊥ : EReal) := by
  pointwise [k0_pay76]
  exact mask_bot

/-- The accumulator's initial value. -/
theorem pay77_at (e : Fin 144) (c : Fin 1024) : (k0_pay77 (ix2 e c) : Ideal .f32) = (0 : EReal) := by
  pointwise [k0_pay77]

/-- The values' tile with the rows of ones below it. -/
def vrow (vb : Vec Ideal S1x1x128x256 .bf16) (e : Fin 144) (x : Fin 256) : EReal :=
  if h : e.val < 128 then (vb (ix4 0 0 (⟨e.val, h⟩ : Fin 128) x) : EReal) else 1

/-- A tile absorbed, at an index. -/
theorem pay23_at (sa : Vec Ideal S256x1024 .f32) (bm mx : Vec Ideal S1x1024 .f32) (vb : Vec Ideal S1x1x128x256 .bf16)
    (acc : Vec Ideal S144x1024 .f32) (e : Fin 144) (c : Fin 1024) :
    k0_pay23 k0_pay75 sa bm mx vb acc (ix2 e c) = Ideal.exp2 ((mx (ix2 0 c) : EReal) - max (mx (ix2 0 c) : EReal) (bm (ix2 0 c))) * (acc (ix2 e c) : EReal)
      + ∑ x : Fin 256, vrow vb e x * Ideal.exp2 ((sa (ix2 x c) : EReal) - max (mx (ix2 0 c) : EReal) (bm (ix2 0 c))) := by
  pointwise [k0_pay23, k0_pay21, k0_pay20]
  simp only [pay75_at]
  rfl

/-- The first masked tile's maximum, at an index. -/
theorem pay90_at (sa : Vec Ideal S256x1024 .f32) (mx : Vec Ideal S1x1024 .f32) (c : Fin 1024) :
    k0_pay90 sa mx (ix2 0 c) = max (mx (ix2 0 c) : EReal) (Finset.univ.fold max (⊥ : EReal) fun x : Fin 256 => k0_pay89 sa (ix2 x c)) := by
  rw [← ninf_bot]
  pointwise [k0_pay90]

/-- The running maximum, stored. -/
theorem pay92_at (m : FVec Ideal S1x1024 .f32) : k0_pay92 m = m := by
  funext i
  obtain ⟨a, b, rfl⟩ : ∃ (a : Fin 1) (b : Fin 1024), i = ix2 a b := ⟨i 0, i 1, by funext k; fin_cases k <;> rfl⟩
  pointwise [k0_pay92]

/-- The first masked tile absorbed, at an index. -/
theorem pay93_at (t : Vec Ideal S256x1024 .f32) (sa : Vec Ideal S256x1024 .f32) (mx : Vec Ideal S1x1024 .f32) (vb : Vec Ideal S1x1x128x256 .bf16)
    (acc : Vec Ideal S144x1024 .f32) (e : Fin 144) (c : Fin 1024) :
    k0_pay93 k0_pay75 t (k0_pay90 sa mx) (k0_pay91 sa mx) vb acc (ix2 e c) = Ideal.exp2 ((mx (ix2 0 c) : EReal) - k0_pay90 sa mx (ix2 0 c)) * (acc (ix2 e c) : EReal)
      + ∑ x : Fin 256, vrow vb e x * Ideal.exp2 ((t (ix2 x c) : EReal) - k0_pay90 sa mx (ix2 0 c)) := by
  pointwise [k0_pay93, k0_pay91]
  simp only [pay75_at]
  rfl

/-- The second masked tile's maximum in the first group of columns, at an index. -/
theorem pay96_at (w : Vec Ideal S256x256 .f32) (mx : Vec Ideal S1x256 .f32) (c : Fin 256) :
    k0_pay96 (k0_pay95 w) mx (ix2 0 c) = max (mx (ix2 0 c) : EReal) (Finset.univ.fold max (⊥ : EReal) fun x : Fin 256 => k0_pay94 w (ix2 x c)) := by
  rw [← ninf_bot]
  pointwise [k0_pay96, k0_pay95]

/-- The second masked tile absorbed in the first group of columns, at an index. -/
theorem pay98_at (t w : Vec Ideal S256x256 .f32) (mx : Vec Ideal S1x256 .f32) (vb : Vec Ideal S1x1x128x256 .bf16)
    (acc : Vec Ideal S144x256 .f32) (e : Fin 144) (c : Fin 256) :
    k0_pay98 k0_pay75 t (k0_pay95 w) mx vb acc (ix2 e c) = Ideal.exp2 ((mx (ix2 0 c) : EReal) - k0_pay96 (k0_pay95 w) mx (ix2 0 c)) * (acc (ix2 e c) : EReal)
      + ∑ x : Fin 256, vrow vb e x * Ideal.exp2 ((t (ix2 x c) : EReal) - k0_pay96 (k0_pay95 w) mx (ix2 0 c)) := by
  pointwise [k0_pay98]
  simp only [pay75_at]
  rfl

/-- The second masked tile absorbed in the second group of columns, at an index. -/
theorem pay104_at (w : Vec Ideal S256x256 .f32) (a b : IVec S256x256 32) (mx : Vec Ideal S1x256 .f32) (vb : Vec Ideal S1x1x128x256 .bf16)
    (acc : Vec Ideal S144x256 .f32) (e : Fin 144) (c : Fin 256) :
    k0_pay104 k0_pay75 w a b mx vb acc (ix2 e c)
      = Ideal.exp2 ((mx (ix2 0 c) : EReal) - max (mx (ix2 0 c) : EReal) (Finset.univ.fold max (⊥ : EReal) fun x : Fin 256 => k0_pay101 w a b (ix2 x c))) * (acc (ix2 e c) : EReal)
      + ∑ x : Fin 256, vrow vb e x * Ideal.exp2 ((k0_pay101 w a b (ix2 x c) : EReal) - max (mx (ix2 0 c) : EReal) (Finset.univ.fold max (⊥ : EReal) fun x : Fin 256 => k0_pay101 w a b (ix2 x c))) := by
  rw [← ninf_bot]
  pointwise [k0_pay104, k0_pay102]
  simp only [pay75_at]
  rfl

/-! ## The masks -/

theorem sle_small {a b : ℕ} (ha : a < 1024) (hb : b < 1024) : IntOp.cmpi .sle (BitVec.ofNat 32 a) (BitVec.ofNat 32 b) = 1 ↔ a ≤ b := by
  rw [WordCmp.cmpi_sle_ofNat (by omega) (by omega)]
  by_cases h : a ≤ b <;> simp [h]

theorem row0 : ∀ x : Fin 256, IntOp.addi (BitVec.ofNat 32 x.val) 0#32 = BitVec.ofNat 32 x.val := by decide +kernel
theorem row256 : ∀ x : Fin 256, IntOp.addi (BitVec.ofNat 32 x.val) 256#32 = BitVec.ofNat 32 (256 + x.val) := by decide +kernel
theorem col0 : ∀ c : Fin 1024, (Scalar.select (IntOp.cmpi .sge (IntOp.addi (BitVec.ofNat 32 c.val) 0#32) 512#32)
    (IntOp.subi (IntOp.addi (BitVec.ofNat 32 c.val) 0#32) 512#32) (IntOp.addi (BitVec.ofNat 32 c.val) 0#32)) = BitVec.ofNat 32 (c.val % 512) := by decide +kernel
theorem col256 : ∀ c : Fin 256, (Scalar.select (IntOp.cmpi .sge (IntOp.addi (BitVec.ofNat 32 c.val) 256#32) 512#32)
    (IntOp.subi (IntOp.addi (BitVec.ofNat 32 c.val) 256#32) 512#32) (IntOp.addi (BitVec.ofNat 32 c.val) 256#32)) = BitVec.ofNat 32 (256 + c.val) := by decide +kernel
theorem col768 : ∀ c : Fin 256, (Scalar.select (IntOp.cmpi .sge (IntOp.addi (BitVec.ofNat 32 c.val) 768#32) 512#32)
    (IntOp.subi (IntOp.addi (BitVec.ofNat 32 c.val) 768#32) 512#32) (IntOp.addi (BitVec.ofNat 32 c.val) 768#32)) = BitVec.ofNat 32 (256 + c.val) := by decide +kernel

/-- The first masked tile: a key past the query is masked. -/
theorem pay89_at (w : Vec Ideal S256x1024 .f32) (x : Fin 256) (c : Fin 1024) :
    k0_pay89 w (ix2 x c) = if x.val ≤ c.val % 512 then (w (ix2 x c) : EReal) else ⊥ := by
  pointwise [k0_pay89]
  rw [row0, col0, mask_bot]
  simp only [Scalar.select, sle_small (by omega : x.val < 1024) (by omega : c.val % 512 < 1024)]

/-- The second masked tile in the first group of columns. -/
theorem pay94_at (w : Vec Ideal S256x256 .f32) (x c : Fin 256) :
    k0_pay94 w (ix2 x c) = if 256 + x.val ≤ 256 + c.val then (w (ix2 x c) : EReal) else ⊥ := by
  pointwise [k0_pay94]
  rw [row256, col256, mask_bot]
  simp only [Scalar.select, sle_small (by omega : 256 + x.val < 1024) (by omega : 256 + c.val < 1024)]

/-- The second masked tile in the second group of columns. -/
theorem pay101_at (w : Vec Ideal S256x256 .f32) (x c : Fin 256) :
    k0_pay101 w k0_pay99 k0_pay100 (ix2 x c) = if 256 + x.val ≤ 256 + c.val then (w (ix2 x c) : EReal) else ⊥ := by
  pointwise [k0_pay101, k0_pay99, k0_pay100]
  rw [row256, col768, mask_bot]
  simp only [Scalar.select, sle_small (by omega : 256 + x.val < 1024) (by omega : 256 + c.val < 1024)]

/-! ## The queries' two zero-padded groups of columns -/

theorem low64 : ∀ j : Fin 128, IntOp.cmpi .slt (BitVec.ofNat 32 j.val) 64#32 = 1 ↔ j.val < 64 := by decide +kernel
theorem high64 : ∀ j : Fin 128, IntOp.cmpi .sge (BitVec.ofNat 32 j.val) 64#32 = 1 ↔ 64 ≤ j.val := by decide +kernel

/-- A column of the queries: the query's own half of the head, zero in the other half. -/
theorem pay74_at (x0 : Vec Ideal S512x128 .bf16) (j : Fin 128) (c : Fin 1024) :
    k0_pay74 x0 (ix2 j c) = if j.val / 64 = c.val / 512 then (x0 (ix2 (⟨c.val % 512, Nat.mod_lt _ (by norm_num)⟩ : Fin 512) j) : EReal) else 0 := by
  pointwise [k0_pay74]
  by_cases h : c.val < 512
  · have h1 : (⟨c.val % 512, Nat.mod_lt _ (by norm_num)⟩ : Fin 512) = ⟨c.val, h⟩ := Fin.ext (Nat.mod_eq_of_lt h)
    rw [dif_pos h, h1]
    by_cases h2 : j.val / 64 = c.val / 512
    · rw [if_pos h2]; exact if_pos ((low64 j).2 (by omega))
    · rw [if_neg h2]; exact if_neg (fun h3 => h2 (by have := (low64 j).1 h3; omega))
  · have h1 : (⟨c.val % 512, Nat.mod_lt _ (by norm_num)⟩ : Fin 512) = ⟨c.val - 512, by omega⟩ := Fin.ext (by show c.val % 512 = c.val - 512; omega)
    rw [dif_neg h, h1]
    by_cases h2 : j.val / 64 = c.val / 512
    · rw [if_pos h2]; exact if_pos ((high64 j).2 (by omega))
    · rw [if_neg h2]; exact if_neg (fun h3 => h2 (by have := (high64 j).1 h3; omega))

/-- One column's score against one key. -/
def Sc (X0 X1 : ℕ → ℕ → ℝ) (c key : ℕ) : ℝ := ∑ d : Fin 64, X1 key (64 * (c / 512) + d.val) * X0 (c % 512) (64 * (c / 512) + d.val)

/-- A tile's scores over the padded columns are the scores. -/
theorem scores {X0 X1 : ℕ → ℕ → ℝ} (x0 : Vec Ideal S512x128 .bf16) (hx0 : ∀ (r : Fin 512) (d : Fin 128), (x0 (ix2 r d) : EReal) = (X0 r.val d.val : ℝ))
    (kb : Vec Ideal S256x128 .bf16) (n : ℕ) (hk : ∀ (x : Fin 256) (d : Fin 128), (kb (ix2 x d) : EReal) = (X1 (n + x.val) d.val : ℝ)) (x : Fin 256) (c : Fin 1024) :
    k0_pay2 (k0_pay74 x0) kb (ix2 x c) = ((Sc X0 X1 c.val (n + x.val) : ℝ) : EReal) := by
  rw [pay2_at]
  have h : ∀ j : Fin 128, (kb (ix2 x j) : EReal) * k0_pay74 x0 (ix2 j c)
      = ((if j.val / 64 = c.val / 512 then X1 (n + x.val) j.val * X0 (c.val % 512) j.val else 0 : ℝ) : EReal) := by
    intro j
    rw [pay74_at, hk]
    split_ifs
    · rw [hx0, ← EReal.coe_mul]
    · simp
  simp only [h]
  rw [← coe_sum]
  congr 1
  rw [← Finset.sum_range (fun j => if j / 64 = c.val / 512 then X1 (n + x.val) j * X0 (c.val % 512) j else 0),
    show (128 : ℕ) = 64 + 64 from rfl, Finset.sum_range_add, Sc, ← Finset.sum_range (fun d => X1 (n + x.val) (64 * (c.val / 512) + d) * X0 (c.val % 512) (64 * (c.val / 512) + d))]
  rcases (by omega : c.val / 512 = 0 ∨ c.val / 512 = 1) with h0 | h0
  · rw [h0, Finset.sum_eq_zero (s := Finset.range 64) (f := fun k => if (64 + k) / 64 = 0 then _ else _), add_zero]
    · refine Finset.sum_congr rfl fun k hk => ?_
      rw [Finset.mem_range] at hk
      rw [if_pos (by omega)]; simp
    · intro k _
      rw [if_neg (by omega)]
  · rw [h0, Finset.sum_eq_zero (s := Finset.range 64) (f := fun k => if k / 64 = 1 then _ else _), zero_add]
    · refine Finset.sum_congr rfl fun k hk => ?_
      rw [Finset.mem_range] at hk
      rw [if_pos (by omega)]
    · intro k hk
      rw [Finset.mem_range] at hk
      rw [if_neg (by omega)]

end Cert.Proof.KernelIdeal

end
-- ==== Proof.KerInv.lean ====
module

public import proofs.«01_k».proof.Proof.KerRead
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Cert.Proof.Maths
open Idealize.ShloMosaic.VecWindow

/-! ## Offsets in closed form -/

theorem trips_eq : ∀ i : grid0.Coords, (k0_t1_loop i).trips = (i 2).val / 2 := by decide +kernel
theorem cond_eq : ∀ i : grid0.Coords, k0_cond1 i = 1#1 ↔ (i 2).val % 2 = 1 := by decide +kernel
theorem off1_eq : ∀ i : grid0.Coords, ∀ k : Fin (k0_t1_loop i).trips, k0_off1 i k 1#32 = ![1024 * k.val + 256, 0] := by decide +kernel
theorem off1_eq' : ∀ i : grid0.Coords, ∀ k : Fin (k0_t1_loop i).trips, k0_off1 i k 2#32 = ![1024 * k.val + 512, 0] := by decide +kernel
theorem off2_eq : ∀ i : grid0.Coords, ∀ k : Fin (k0_t1_loop i).trips, k0_off2 i k = ![0, 4 * k.val, 0, 0] := by decide +kernel
theorem off3_eq : ∀ i : grid0.Coords, ∀ k : Fin (k0_t1_loop i).trips, k0_off3 i k = ![0, 4 * k.val + 1, 0, 0] := by decide +kernel
theorem off4_eq : ∀ i : grid0.Coords, ∀ k : Fin (k0_t1_loop i).trips, k0_off4 i k 1#32 = ![1024 * k.val + 768, 0] := by decide +kernel
theorem off4_eq' : ∀ i : grid0.Coords, ∀ k : Fin (k0_t1_loop i).trips, k0_off4 i k 2#32 = ![1024 * k.val + 1024, 0] := by decide +kernel
theorem off5_eq : ∀ i : grid0.Coords, ∀ k : Fin (k0_t1_loop i).trips, k0_off5 i k = ![0, 4 * k.val + 2, 0, 0] := by decide +kernel
theorem off6_eq : ∀ i : grid0.Coords, ∀ k : Fin (k0_t1_loop i).trips, k0_off6 i k = ![0, 4 * k.val + 3, 0, 0] := by decide +kernel
theorem off13_eq : ∀ i : grid0.Coords, k0_cond1 i = 1#1 → k0_off13 i 1#32 = ![512 * ((i 2).val - 1) + 256, 0] := by decide +kernel
theorem off13_eq' : ∀ i : grid0.Coords, k0_cond1 i = 1#1 → k0_off13 i 2#32 = ![512 * (i 2).val, 0] := by decide +kernel
theorem off14_eq : ∀ i : grid0.Coords, k0_cond1 i = 1#1 → k0_off14 i = ![0, 2 * ((i 2).val - 1), 0, 0] := by decide +kernel
theorem off15_eq : ∀ i : grid0.Coords, k0_cond1 i = 1#1 → k0_off15 i = ![0, 2 * ((i 2).val - 1) + 1, 0, 0] := by decide +kernel
theorem off16_eq : ∀ i : grid0.Coords, k0_off16 i = ![512 * (i 2).val + 256, 0] := by decide +kernel
theorem off17_eq : ∀ i : grid0.Coords, k0_off17 i = ![0, 2 * (i 2).val, 0, 0] := by decide +kernel
theorem off18_eq : ∀ i : grid0.Coords, k0_off18 i = ![0, 2 * (i 2).val + 1, 0, 0] := by decide +kernel

/-! ## The blocks as real numbers -/

/-- The queries', keys' and values' blocks hold real numbers, named by functions of the row, the key and the feature. -/
structure Blocks (x0 : Vec Ideal S512x128 .bf16) (x1 : Vec Ideal S8192x128 .bf16) (x2 : Vec Ideal S1x32x128x256 .bf16) (X0 X1 X2 : ℕ → ℕ → ℝ) : Prop where
  q : ∀ (r : Fin 512) (d : Fin 128), (x0 (ix2 r d) : EReal) = (X0 r.val d.val : ℝ)
  k : ∀ (r : Fin 8192) (d : Fin 128), (x1 (ix2 r d) : EReal) = (X1 r.val d.val : ℝ)
  v : ∀ (j : Fin 32) (e : Fin 128) (x : Fin 256), (x2 (ix4 0 j e x) : EReal) = (X2 (256 * j.val + x.val) e.val : ℝ)

/-- The values, with ones past the head's features: what the accumulator's rows sum. -/
def Va (X2 : ℕ → ℕ → ℝ) (e key : ℕ) : ℝ := if e < 128 then X2 key e else 1

theorem kt_at {x1 : Vec Ideal S8192x128 .bf16} {X1 : ℕ → ℕ → ℝ} (h : ∀ (r : Fin 8192) (d : Fin 128), (x1 (ix2 r d) : EReal) = (X1 r.val d.val : ℝ))
    {off : Fin 2 → ℕ} (inb : ∀ a, off a + S256x128.size a ≤ S8192x128.size a) {n : ℕ} (ho : off = ![n, 0]) (x : Fin 256) (d : Fin 128) :
    (kt x1 off inb (ix2 x d) : EReal) = (X1 (n + x.val) d.val : ℝ) := by
  subst ho
  have hn : n + 256 ≤ 8192 := inb 0
  rw [kt, View.ld_unit_apply_of (i := ix2 (⟨n + x.val, by omega⟩ : Fin 8192) d)]
  · exact h _ _
  · intro a; fin_cases a
    · rfl
    · exact (Nat.zero_add _).symm

theorem vt_at {x2 : Vec Ideal S1x32x128x256 .bf16} {X2 : ℕ → ℕ → ℝ}
    (h : ∀ (j : Fin 32) (e : Fin 128) (x : Fin 256), (x2 (ix4 0 j e x) : EReal) = (X2 (256 * j.val + x.val) e.val : ℝ))
    {off : Fin 4 → ℕ} (inb : ∀ a, off a + S1x1x128x256.size a ≤ S1x32x128x256.size a) {j n : ℕ} (ho : off = ![0, j, 0, 0]) (hn : n = 256 * j) (e : Fin 144) (x : Fin 256) :
    vrow (vt x2 off inb) e x = (Va X2 e.val (n + x.val) : ℝ) := by
  subst ho hn
  have hj : j + 1 ≤ 32 := inb 1
  unfold vrow Va
  split_ifs with he
  · rw [vt, View.ld_unit_apply_of (i := ix4 (0 : Fin 1) (⟨j, by omega⟩ : Fin 32) (⟨e.val, he⟩ : Fin 128) x)]
    · exact h _ _ _
    · intro a; fin_cases a
      · rfl
      · rfl
      · exact (Nat.zero_add _).symm
      · exact (Nat.zero_add _).symm
  · simp

/-! ## The running state before the diagonal -/

/-- The query that a column stands for. -/
def qc (i2 c : ℕ) : ℕ := 512 * i2 + c % 512

/-- What the scratch buffers hold once the first `n` keys are absorbed and the next tile's scores are produced. -/
structure SInv (i2 : ℕ) (X0 X1 X2 : ℕ → ℕ → ℝ) (s : St Ideal) (n : ℕ) : Prop where
  sa : ∀ (x : Fin 256) (c : Fin 1024), (s.sa (ix2 x c) : EReal) = ((Sc X0 X1 c.val (n + x.val) : ℝ) : EReal)
  bm : ∀ c : Fin 1024, ∃ B : ℝ, (s.bma (ix2 0 c) : EReal) = (B : EReal)
  inv : ∀ (e : Fin 144) (c : Fin 1024), Inv n (qc i2 c.val) (Sc X0 X1 c.val) (Va X2 e.val) (s.mx (ix2 0 c)) (s.acc (ix2 e c))

theorem pay3_real {v13 : FVec Ideal S128x1024 .bf16} {kb : Vec Ideal S256x128 .bf16} (h : ∀ (x : Fin 256) (c : Fin 1024), ∃ r : ℝ, (k0_pay2 v13 kb (ix2 x c) : EReal) = (r : EReal))
    (c : Fin 1024) : ∃ B : ℝ, (k0_pay3 v13 kb (ix2 0 c) : EReal) = (B : EReal) := by
  rw [pay3_at]
  apply fold_real _ _ (0 : Fin 256)
  · obtain ⟨r, hr⟩ := h 0 c; rw [hr]; exact EReal.coe_ne_bot r
  · intro x; obtain ⟨r, hr⟩ := h x c; rw [hr]; exact EReal.coe_ne_top r

/-- A tile before the diagonal absorbed. -/
theorem con_inv {i2 n : ℕ} {X0 X1 X2 : ℕ → ℕ → ℝ} (hn : n + 256 ≤ 512 * i2) {sa : Vec Ideal S256x1024 .f32} {bm mx : Vec Ideal S1x1024 .f32} {acc : Vec Ideal S144x1024 .f32}
    {vb : Vec Ideal S1x1x128x256 .bf16}
    (hsa : ∀ (x : Fin 256) (c : Fin 1024), (sa (ix2 x c) : EReal) = ((Sc X0 X1 c.val (n + x.val) : ℝ) : EReal))
    (hbm : ∀ c : Fin 1024, ∃ B : ℝ, (bm (ix2 0 c) : EReal) = (B : EReal))
    (hv : ∀ (e : Fin 144) (x : Fin 256), vrow vb e x = (Va X2 e.val (n + x.val) : ℝ))
    (h : ∀ (e : Fin 144) (c : Fin 1024), Inv n (qc i2 c.val) (Sc X0 X1 c.val) (Va X2 e.val) (mx (ix2 0 c)) (acc (ix2 e c))) (e : Fin 144) (c : Fin 1024) :
    Inv (n + 256) (qc i2 c.val) (Sc X0 X1 c.val) (Va X2 e.val) (k0_pay7 bm mx (ix2 0 c)) (k0_pay23 k0_pay75 sa bm mx vb acc (ix2 e c)) := by
  rw [pay7_at, pay23_at]
  refine (h e c).step (fun x => sa (ix2 x c)) (fun x => vrow vb e x) (fun x => ?_) (fun x => hv e x) (hbm c)
  rw [hsa, if_pos (by unfold qc; omega)]

/-- Two tiles before the diagonal absorbed. -/
theorem SInv.pair {i2 n : ℕ} {X0 X1 X2 : ℕ → ℕ → ℝ} {s : St Ideal} (h : SInv i2 X0 X1 X2 s n) (hn : n + 512 ≤ 512 * i2)
    (x0 : Vec Ideal S512x128 .bf16) (hx0 : ∀ (r : Fin 512) (d : Fin 128), (x0 (ix2 r d) : EReal) = (X0 r.val d.val : ℝ))
    {k1 k2 : Vec Ideal S256x128 .bf16} {v1 v2 : Vec Ideal S1x1x128x256 .bf16}
    (hk1 : ∀ (x : Fin 256) (d : Fin 128), (k1 (ix2 x d) : EReal) = (X1 (n + 256 + x.val) d.val : ℝ))
    (hk2 : ∀ (x : Fin 256) (d : Fin 128), (k2 (ix2 x d) : EReal) = (X1 (n + 512 + x.val) d.val : ℝ))
    (hv1 : ∀ (e : Fin 144) (x : Fin 256), vrow v1 e x = (Va X2 e.val (n + x.val) : ℝ))
    (hv2 : ∀ (e : Fin 144) (x : Fin 256), vrow v2 e x = (Va X2 e.val (n + 256 + x.val) : ℝ)) :
    SInv i2 X0 X1 X2 (s.pair (k0_pay74 x0) k0_pay75 k1 k2 v1 v2) (n + 512) := by
  have e1 : (s.pair (k0_pay74 x0) k0_pay75 k1 k2 v1 v2).sa = k0_pay2 (k0_pay74 x0) k2 := by dsimp only [St.pair, St.prodA, St.prodB, St.conA, St.conB]
  have e2 : (s.pair (k0_pay74 x0) k0_pay75 k1 k2 v1 v2).bma = k0_pay3 (k0_pay74 x0) k2 := by dsimp only [St.pair, St.prodA, St.prodB, St.conA, St.conB]
  have e3 : (s.pair (k0_pay74 x0) k0_pay75 k1 k2 v1 v2).mx = k0_pay7 (k0_pay3 (k0_pay74 x0) k1) (k0_pay7 s.bma s.mx) := by dsimp only [St.pair, St.prodA, St.prodB, St.conA, St.conB]
  have e4 : (s.pair (k0_pay74 x0) k0_pay75 k1 k2 v1 v2).acc = k0_pay23 k0_pay75 (k0_pay2 (k0_pay74 x0) k1) (k0_pay3 (k0_pay74 x0) k1) (k0_pay7 s.bma s.mx) v2
    (k0_pay23 k0_pay75 s.sa s.bma s.mx v1 s.acc) := by dsimp only [St.pair, St.prodA, St.prodB, St.conA, St.conB]
  have h1 := con_inv (n := n) (by omega) h.sa h.bm hv1 h.inv
  have h2 := con_inv (n := n + 256) (by omega) (scores x0 hx0 k1 (n + 256) hk1) (pay3_real fun x c => ⟨_, scores x0 hx0 k1 (n + 256) hk1 x c⟩) hv2 h1
  have hn2 : n + 256 + 256 = n + 512 := by omega
  rw [hn2] at h2
  refine ⟨?_, ?_, ?_⟩
  · rw [e1]; exact scores x0 hx0 k2 (n + 512) hk2
  · rw [e2]; exact pay3_real fun x c => ⟨_, scores x0 hx0 k2 (n + 512) hk2 x c⟩
  · rw [e3, e4]; exact h2

variable {x0 : Vec Ideal S512x128 .bf16} {x1 : Vec Ideal S8192x128 .bf16} {x2 : Vec Ideal S1x32x128x256 .bf16} {X0 X1 X2 : ℕ → ℕ → ℝ}

/-- The state as the main loop finds it. -/
theorem s0_inv (B : Blocks x0 x1 x2 X0 X1 X2) (i2 : ℕ) : SInv i2 X0 X1 X2 (s0 x0 x1) 0 where
  sa := by
    intro x c
    show (k0_pay79 x0 (kt x1 ![0, 0] inb_S8192x128_S256x128_0_0) (ix2 x c) : EReal) = _
    rw [pay79_eq]
    exact scores x0 B.q _ 0 (kt_at B.k _ rfl) x c
  bm := by
    intro c
    unfold s0
    dsimp only
    rw [pay81_eq]
    exact pay3_real (fun x c => ⟨_, scores x0 B.q _ 0 (kt_at B.k _ rfl) x c⟩) c
  inv := fun e c => .inl ⟨rfl, pay76_at c, pay77_at e c⟩

/-- The state before each trip of the main loop. -/
theorem stAt_inv (B : Blocks x0 x1 x2 X0 X1 X2) (i : grid0.Coords) : ∀ k ≤ (k0_t1_loop i).trips,
    SInv (i 2).val X0 X1 X2 (stAt (s0 x0 x1) i (k0_pay74 x0) k0_pay75 x1 x2 k) (1024 * k)
  | 0, _ => s0_inv B _
  | k + 1, hk => by
    have ht := trips_eq i
    rw [stAt_succ (k := ⟨k, hk⟩)]
    have h1 := (stAt_inv B i k (by omega)).pair (by omega) x0 B.q
      (kt_at B.k (k0_off1_inb i ⟨k, hk⟩ 0) (off1_eq i ⟨k, hk⟩)) (kt_at B.k (k0_off1_inb i ⟨k, hk⟩ 1) (off1_eq' i ⟨k, hk⟩))
      (vt_at B.v (k0_off2_inb i ⟨k, hk⟩) (off2_eq i ⟨k, hk⟩) (by show 1024 * k = 256 * (4 * k); omega))
      (vt_at B.v (k0_off3_inb i ⟨k, hk⟩) (off3_eq i ⟨k, hk⟩) (by show 1024 * k + 256 = 256 * (4 * k + 1); omega))
    rw [show 1024 * (k + 1) = 1024 * k + 512 + 512 by omega]
    exact h1.pair (n := 1024 * k + 512) (by omega) x0 B.q
      (kt_at B.k (k0_off4_inb i ⟨k, hk⟩ 0) ((off4_eq i ⟨k, hk⟩).trans (by congr 1))) (kt_at B.k (k0_off4_inb i ⟨k, hk⟩ 1) ((off4_eq' i ⟨k, hk⟩).trans (by congr 1)))
      (vt_at B.v (k0_off5_inb i ⟨k, hk⟩) (off5_eq i ⟨k, hk⟩) (by show 1024 * k + 512 = 256 * (4 * k + 2); omega))
      (vt_at B.v (k0_off6_inb i ⟨k, hk⟩) (off6_eq i ⟨k, hk⟩) (by show 1024 * k + 512 + 256 = 256 * (4 * k + 3); omega))

/-- The state as the diagonal's tiles find it. -/
theorem odd_inv (B : Blocks x0 x1 x2 X0 X1 X2) (i : grid0.Coords) :
    SInv (i 2).val X0 X1 X2 ((stAt (s0 x0 x1) i (k0_pay74 x0) k0_pay75 x1 x2 (k0_t1_loop i).trips).odd i (k0_pay74 x0) k0_pay75 x1 x2) (512 * (i 2).val) := by
  have h := stAt_inv B i _ le_rfl
  have ht := trips_eq i
  have hc := cond_eq i
  unfold St.odd
  split_ifs with h1
  · have h2 := hc.1 h1
    rw [show 1024 * (k0_t1_loop i).trips = 512 * ((i 2).val - 1) by omega] at h
    have h3 := h.pair (by omega) x0 B.q
      (kt_at B.k (k0_off13_inb i h1 0) (off13_eq i h1)) (kt_at (n := 512 * ((i 2).val - 1) + 512) B.k (k0_off13_inb i h1 1) ((off13_eq' i h1).trans (by congr 1; omega)))
      (vt_at B.v (k0_off14_inb i h1) (off14_eq i h1) (by omega))
      (vt_at B.v (k0_off15_inb i h1) (off15_eq i h1) (by omega))
    rwa [show 512 * ((i 2).val - 1) + 512 = 512 * (i 2).val by omega] at h3
  · have h2 : ¬(i 2).val % 2 = 1 := fun h => h1 (hc.2 h)
    rwa [show 1024 * (k0_t1_loop i).trips = 512 * (i 2).val by omega] at h

/-! ## Windows of a buffer, at an index -/

theorem put144_at (x : Vec Ideal S144x1024 .f32) (o : ℕ) (w : Vec Ideal S144x256 .f32) (e : Fin 144) (c : Fin 1024) (c' : Fin 256) (h : c.val = o + c'.val) :
    put x ![0, o] S144x256.size w (ix2 e c) = w (ix2 e c') := by
  have hi : ∀ a : Fin 2, (![0, o] : Fin 2 → ℕ) a ≤ ((ix2 e c : S144x1024.Idx) a).val ∧ ((ix2 e c : S144x1024.Idx) a).val < (![0, o] : Fin 2 → ℕ) a + S144x256.size a := by
    intro a; fin_cases a
    · exact ⟨Nat.zero_le _, (Nat.zero_add _).symm ▸ e.isLt⟩
    · exact ⟨by show o ≤ c.val; omega, by show c.val < o + 256; omega⟩
  unfold put
  rw [dif_pos hi]
  exact congrArg w (funext fun a => by
    fin_cases a
    · exact Fin.ext (by show e.val - 0 = e.val; omega)
    · exact Fin.ext (by show c.val - o = c'.val; omega))

theorem put144_out (x : Vec Ideal S144x1024 .f32) (o : ℕ) (w : Vec Ideal S144x256 .f32) (e : Fin 144) (c : Fin 1024) (h : c.val < o ∨ o + 256 ≤ c.val) :
    put x ![0, o] S144x256.size w (ix2 e c) = x (ix2 e c) := by
  unfold put
  rw [dif_neg]
  intro hi
  have h1 : o ≤ c.val := (hi 1).1
  have h2 : c.val < o + 256 := (hi 1).2
  omega

theorem win144_at (x : Vec Ideal S144x1024 .f32) (o : ℕ) (inb : ∀ a, (![0, o] : Fin 2 → ℕ) a + S144x256.size a ≤ S144x1024.size a) (e : Fin 144) (c : Fin 1024) (c' : Fin 256)
    (h : c.val = o + c'.val) : window x ![0, o] S144x256.size inb (ix2 e c') = x (ix2 e c) :=
  congrArg x (funext fun a => by
    fin_cases a
    · exact Fin.ext (by show 0 + 1 * e.val = e.val; omega)
    · exact Fin.ext (by show o + 1 * c'.val = c.val; omega))

theorem put1_at (x : Vec Ideal S1x1024 .f32) (o : ℕ) (w : Vec Ideal S1x256 .f32) (e : Fin 1) (c : Fin 1024) (c' : Fin 256) (h : c.val = o + c'.val) :
    put x ![0, o] S1x256.size w (ix2 e c) = w (ix2 e c') := by
  have hi : ∀ a : Fin 2, (![0, o] : Fin 2 → ℕ) a ≤ ((ix2 e c : S1x1024.Idx) a).val ∧ ((ix2 e c : S1x1024.Idx) a).val < (![0, o] : Fin 2 → ℕ) a + S1x256.size a := by
    intro a; fin_cases a
    · exact ⟨Nat.zero_le _, (Nat.zero_add _).symm ▸ e.isLt⟩
    · exact ⟨by show o ≤ c.val; omega, by show c.val < o + 256; omega⟩
  unfold put
  rw [dif_pos hi]
  exact congrArg w (funext fun a => by
    fin_cases a
    · exact Fin.ext (by show e.val - 0 = e.val; omega)
    · exact Fin.ext (by show c.val - o = c'.val; omega))

theorem put1_out (x : Vec Ideal S1x1024 .f32) (o : ℕ) (w : Vec Ideal S1x256 .f32) (e : Fin 1) (c : Fin 1024) (h : c.val < o ∨ o + 256 ≤ c.val) :
    put x ![0, o] S1x256.size w (ix2 e c) = x (ix2 e c) := by
  unfold put
  rw [dif_neg]
  intro hi
  have h1 : o ≤ c.val := (hi 1).1
  have h2 : c.val < o + 256 := (hi 1).2
  omega

theorem win1_at (x : Vec Ideal S1x1024 .f32) (o : ℕ) (inb : ∀ a, (![0, o] : Fin 2 → ℕ) a + S1x256.size a ≤ S1x1024.size a) (e : Fin 1) (c : Fin 1024) (c' : Fin 256)
    (h : c.val = o + c'.val) : window x ![0, o] S1x256.size inb (ix2 e c') = x (ix2 e c) :=
  congrArg x (funext fun a => by
    fin_cases a
    · exact Fin.ext (by show 0 + 1 * e.val = e.val; omega)
    · exact Fin.ext (by show o + 1 * c'.val = c.val; omega))

theorem win256_at (x : Vec Ideal S256x1024 .f32) (o : ℕ) (inb : ∀ a, (![0, o] : Fin 2 → ℕ) a + S256x256.size a ≤ S256x1024.size a) (e : Fin 256) (c : Fin 1024) (c' : Fin 256)
    (h : c.val = o + c'.val) : window x ![0, o] S256x256.size inb (ix2 e c') = x (ix2 e c) :=
  congrArg x (funext fun a => by
    fin_cases a
    · exact Fin.ext (by show 0 + 1 * e.val = e.val; omega)
    · exact Fin.ext (by show o + 1 * c'.val = c.val; omega))

theorem winAll_at (x : Vec Ideal S144x1024 .f32) (inb : ∀ a, (![0, 0] : Fin 2 → ℕ) a + S144x1024.size a ≤ S144x1024.size a) (e : Fin 144) (c : Fin 1024) :
    window x ![0, 0] S144x1024.size inb (ix2 e c) = x (ix2 e c) :=
  congrArg x (funext fun a => by
    fin_cases a
    · exact Fin.ext (by show 0 + 1 * e.val = e.val; omega)
    · exact Fin.ext (by show 0 + 1 * c.val = c.val; omega))

/-! ## The diagonal -/

theorem masked_real {N : ℕ} (f : Fin (N + 1) → EReal) (p : Fin (N + 1) → Prop) [DecidablePred p] (r : Fin (N + 1) → ℝ) (h : ∀ x, f x = if p x then ((r x : ℝ) : EReal) else ⊥) (h0 : p 0) :
    ∃ B : ℝ, Finset.univ.fold max (⊥ : EReal) f = (B : EReal) := by
  apply fold_real f _ 0
  · rw [h, if_pos h0]; exact EReal.coe_ne_bot _
  · intro x; rw [h]; split_ifs
    · exact EReal.coe_ne_top _
    · exact bot_ne_top

/-- The accumulator after the diagonal's tiles: every key up to each column's query is in its sums. -/
theorem accT_inv (B : Blocks x0 x1 x2 X0 X1 X2) (i : grid0.Coords) {s : St Ideal} (h : SInv (i 2).val X0 X1 X2 s (512 * (i 2).val)) (c : Fin 1024) :
    ∃ m : EReal, ∀ e : Fin 144, Inv (512 * (i 2).val + 256 + 256) (qc (i 2).val c.val) (Sc X0 X1 c.val) (Va X2 e.val) m (accT s i (k0_pay74 x0) k0_pay75 x1 x2 (ix2 e c)) := by
  set n := 512 * (i 2).val with hn
  -- the first masked tile
  have ht1 : ∀ (x : Fin 256) (c : Fin 1024), (k0_pay89 s.sa (ix2 x c) : EReal) = if n + x.val ≤ qc (i 2).val c.val then ((Sc X0 X1 c.val (n + x.val) : ℝ) : EReal) else ⊥ := by
    intro x c
    rw [pay89_at, h.sa]
    have : x.val ≤ c.val % 512 ↔ n + x.val ≤ qc (i 2).val c.val := by unfold qc; omega
    simp only [this]
  have h1 : ∀ (e : Fin 144) (c : Fin 1024), Inv (n + 256) (qc (i 2).val c.val) (Sc X0 X1 c.val) (Va X2 e.val) (k0_pay92 (k0_pay90 s.sa s.mx) (ix2 0 c))
      (k0_pay93 k0_pay75 (k0_pay89 s.sa) (k0_pay90 s.sa s.mx) (k0_pay91 s.sa s.mx) (vt x2 (k0_off17 i) (k0_off17_inb i))
        (window s.acc ![0, 0] S144x1024.size inb_S144x1024_S144x1024_0_0) (ix2 e c)) := by
    intro e c
    rw [pay92_at, pay93_at, winAll_at, pay90_at]
    exact (h.inv e c).step (fun x => k0_pay89 s.sa (ix2 x c)) (fun x => vrow _ e x) (fun x => ht1 x c) (fun x => vt_at B.v _ (off17_eq i) (by omega) e x)
      (masked_real (N := 255) _ _ _ (fun x => ht1 x c) (by show n + 0 ≤ qc _ _; unfold qc; omega))
  -- the second masked tile's scores
  have hs2 : ∀ (x : Fin 256) (c : Fin 1024), (k0_pay87 (k0_pay74 x0) (kt x1 (k0_off16 i) (k0_off16_inb i)) (ix2 x c) : EReal) = ((Sc X0 X1 c.val (n + 256 + x.val) : ℝ) : EReal) := by
    intro x c
    rw [pay87_eq]
    exact scores x0 B.q _ _ (kt_at B.k _ (off16_eq i)) x c
  have hv2 : ∀ (e : Fin 144) (x : Fin 256), vrow (vt x2 (k0_off18 i) (k0_off18_inb i)) e x = (Va X2 e.val (n + 256 + x.val) : ℝ) :=
    fun e x => vt_at B.v _ (off18_eq i) (by omega) e x
  unfold accT
  dsimp only
  generalize k0_pay93 k0_pay75 (k0_pay89 s.sa) (k0_pay90 s.sa s.mx) (k0_pay91 s.sa s.mx) (vt x2 (k0_off17 i) (k0_off17_inb i))
        (window s.acc ![0, 0] S144x1024.size inb_S144x1024_S144x1024_0_0) = acc1 at h1 ⊢
  generalize k0_pay92 (k0_pay90 s.sa s.mx) = mx1 at h1 ⊢
  generalize k0_pay87 (k0_pay74 x0) (kt x1 (k0_off16 i) (k0_off16_inb i)) = sb at hs2 ⊢
  rcases (by omega : c.val < 256 ∨ (256 ≤ c.val ∧ c.val < 512) ∨ (512 ≤ c.val ∧ c.val < 768) ∨ 768 ≤ c.val) with hc | hc | hc | hc
  · refine ⟨mx1 (ix2 0 c), fun e => ?_⟩
    rw [put144_out _ _ _ _ _ (by omega), put144_out _ _ _ _ _ (by omega)]
    exact (h1 e c).skip 256 (by unfold qc; omega)
  · obtain ⟨c', hc'⟩ : ∃ c' : Fin 256, c.val = 256 + c'.val := ⟨⟨c.val - 256, by omega⟩, by show c.val = 256 + (c.val - 256); omega⟩
    have ht2 : ∀ x : Fin 256, (k0_pay94 (F := Ideal) (window sb ![0, 256] S256x256.size inb_S256x1024_S256x256_0_256) (ix2 x c') : EReal)
        = if n + 256 + x.val ≤ qc (i 2).val c.val then ((Sc X0 X1 c.val (n + 256 + x.val) : ℝ) : EReal) else ⊥ := by
      intro x
      rw [pay94_at, win256_at sb 256 _ x c c' hc', hs2]
      have : 256 + x.val ≤ 256 + c'.val ↔ n + 256 + x.val ≤ qc (i 2).val c.val := by unfold qc; omega
      simp only [this]
    refine ⟨max (mx1 (ix2 0 c) : EReal) (Finset.univ.fold max (⊥ : EReal) fun x : Fin 256 => (k0_pay94 (F := Ideal) (window sb ![0, 256] S256x256.size inb_S256x1024_S256x256_0_256) (ix2 x c') : EReal)), fun e => ?_⟩
    · rw [put144_out _ _ _ _ _ (by omega), put144_at _ _ _ _ c c' hc', pay98_at, win144_at _ _ _ _ c c' hc', pay96_at, win1_at _ _ _ _ c c' hc']
      exact (h1 e c).step (N := 256) (fun x => (k0_pay94 (F := Ideal) (window sb ![0, 256] S256x256.size inb_S256x1024_S256x256_0_256) (ix2 x c') : EReal)) (fun x => vrow _ e x) (fun x => ht2 x) (fun x => hv2 e x)
        (masked_real (N := 255) _ _ _ (fun x => ht2 x) (by show n + 256 + 0 ≤ qc _ _; unfold qc; omega))
  · refine ⟨mx1 (ix2 0 c), fun e => ?_⟩
    rw [put144_out _ _ _ _ _ (by omega), put144_out _ _ _ _ _ (by omega)]
    exact (h1 e c).skip 256 (by unfold qc; omega)
  · obtain ⟨c', hc'⟩ : ∃ c' : Fin 256, c.val = 768 + c'.val := ⟨⟨c.val - 768, by omega⟩, by show c.val = 768 + (c.val - 768); omega⟩
    have ht2 : ∀ x : Fin 256, (k0_pay101 (F := Ideal) (window sb ![0, 768] S256x256.size inb_S256x1024_S256x256_0_768) k0_pay99 k0_pay100 (ix2 x c') : EReal)
        = if n + 256 + x.val ≤ qc (i 2).val c.val then ((Sc X0 X1 c.val (n + 256 + x.val) : ℝ) : EReal) else ⊥ := by
      intro x
      rw [pay101_at, win256_at sb 768 _ x c c' hc', hs2]
      have : 256 + x.val ≤ 256 + c'.val ↔ n + 256 + x.val ≤ qc (i 2).val c.val := by unfold qc; omega
      simp only [this]
    refine ⟨max (mx1 (ix2 0 c) : EReal) (Finset.univ.fold max (⊥ : EReal) fun x : Fin 256 => (k0_pay101 (F := Ideal) (window sb ![0, 768] S256x256.size inb_S256x1024_S256x256_0_768) k0_pay99 k0_pay100 (ix2 x c') : EReal)), fun e => ?_⟩
    · rw [put144_at _ _ _ _ c c' hc', pay104_at, win144_at _ _ _ _ c c' hc', win1_at _ _ _ _ c c' hc', put1_out _ _ _ _ _ (by omega), put144_out _ _ _ _ _ (by omega)]
      exact (h1 e c).step (N := 256) (fun x => (k0_pay101 (F := Ideal) (window sb ![0, 768] S256x256.size inb_S256x1024_S256x256_0_768) k0_pay99 k0_pay100 (ix2 x c') : EReal)) (fun x => vrow _ e x) (fun x => ht2 x) (fun x => hv2 e x)
        (masked_real (N := 255) _ _ _ (fun x => ht2 x) (by show n + 256 + 0 ≤ qc _ _; unfold qc; omega))

end Cert.Proof.KernelIdeal

end
-- ==== Proof.Head.lean ====
module

public import proofs.«01_k».proof.Proof.Maths

@[expose] public section

noncomputable section

namespace Cert.Proof.Maths

open Idealize.ShloMosaic Finset

/-- The weight of the second component: two exponentials of inner products, and the initial constant. -/
def lamE (a3 a4 a5 a6 : Fin 64 → EReal) : EReal :=
  Ideal.exp (∑ j, a3 j * a4 j) - Ideal.exp (∑ j, a5 j * a6 j) + Ideal.ofBits .f32 0x3E4CCCCD#32

theorem const_real : ∃ r : ℝ, (Ideal.ofBits .f32 0x3E4CCCCD#32 : EReal) = (r : EReal) :=
  ⟨_, by simp [Ideal.ofBits, Ideal.ieee, -EReal.coe_mul]; rfl⟩

theorem dot_real {a b : Fin 64 → EReal} (ha : ∀ j, ∃ r : ℝ, a j = (r : EReal)) (hb : ∀ j, ∃ r : ℝ, b j = (r : EReal)) :
    ∃ r : ℝ, Ideal.exp (∑ j, a j * b j) = (r : EReal) := by
  choose x hx using ha
  choose y hy using hb
  refine ⟨Real.exp (∑ j, x j * y j), ?_⟩
  rw [← Ideal.exp_coe, coe_sum]
  congr 1
  exact Finset.sum_congr rfl fun j _ => by rw [hx, hy, EReal.coe_mul]

/-- Of finite vectors the weight is a real number. -/
theorem lam_real {a3 a4 a5 a6 : Fin 64 → EReal} (h3 : ∀ j, ∃ r : ℝ, a3 j = (r : EReal)) (h4 : ∀ j, ∃ r : ℝ, a4 j = (r : EReal))
    (h5 : ∀ j, ∃ r : ℝ, a5 j = (r : EReal)) (h6 : ∀ j, ∃ r : ℝ, a6 j = (r : EReal)) : ∃ L : ℝ, lamE a3 a4 a5 a6 = (L : EReal) := by
  obtain ⟨r1, e1⟩ := dot_real h3 h4
  obtain ⟨r2, e2⟩ := dot_real h5 h6
  obtain ⟨r3, e3⟩ := const_real
  exact ⟨r1 - r2 + r3, by unfold lamE; rw [e1, e2, e3, ← EReal.coe_sub, ← EReal.coe_add]⟩

/-- One head's output, normalised over its features and scaled. -/
def normed (o : Fin 128 → EReal) (g : EReal) (e : Fin 128) : EReal :=
  o e * Ideal.rsqrt (Ideal.div (∑ x, o x * o x) (Ideal.ofBits .f32 0x43000000#32) + Ideal.ofBits .f32 0x3727C5AC#32) * (g * Ideal.ofBits .f32 0x3F4CCCCD#32)

/-- The score of one query against one key, at component `c` of sequence `b`. -/
def score (Q K : ℕ → ℕ → ℝ) (b c pos key : ℕ) : ℝ := ∑ d : Fin 64, Q (8192 * b + pos) (64 * c + d.val) * K (8192 * b + key) (64 * c + d.val)

/-- The difference of the two components' averages, at feature `e` of head `h`. -/
def headAt (Q K : ℕ → ℕ → ℝ) (V : ℕ → ℕ → ℕ → ℝ) (L : ℝ) (b h pos e : ℕ) : ℝ :=
  attn pos (score Q K b (2 * h) pos) (fun key => V b key (128 * h + e)) - L * attn pos (score Q K b (2 * h + 1) pos) (fun key => V b key (128 * h + e))

end Cert.Proof.Maths

end
-- ==== Proof.KerFin.lean ====
module

public import proofs.«01_k».proof.Proof.KerInv
public import proofs.«01_k».proof.Proof.Head
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Cert.Proof.Maths
open Idealize.ShloMosaic.VecWindow

/-! ## The block a point writes, at an index -/

theorem win64_at (x : Vec Ideal S1x64 .f32) (inb : ∀ a, (![0, 0] : Fin 2 → ℕ) a + S1x64.size a ≤ S1x64.size a) (e : Fin 1) (c : Fin 64) :
    window x ![0, 0] S1x64.size inb (ix2 e c) = x (ix2 e c) :=
  congrArg x (funext fun a => by
    fin_cases a
    · exact Fin.ext (by show 0 + 1 * e.val = e.val; omega)
    · exact Fin.ext (by show 0 + 1 * c.val = c.val; omega))

theorem win128_at (x : Vec Ideal S1x128 .f32) (inb : ∀ a, (![0, 0] : Fin 2 → ℕ) a + S1x128.size a ≤ S1x128.size a) (e : Fin 1) (c : Fin 128) :
    window x ![0, 0] S1x128.size inb (ix2 e c) = x (ix2 e c) :=
  congrArg x (funext fun a => by
    fin_cases a
    · exact Fin.ext (by show 0 + 1 * e.val = e.val; omega)
    · exact Fin.ext (by show 0 + 1 * c.val = c.val; omega))

theorem winTop_at (x : Vec Ideal S144x1024 .f32) (inb : ∀ a, (![0, 0] : Fin 2 → ℕ) a + S128x1024.size a ≤ S144x1024.size a) (e : Fin 128) (c : Fin 1024) (e' : Fin 144)
    (h : e'.val = e.val) : window x ![0, 0] S128x1024.size inb (ix2 e c) = x (ix2 e' c) :=
  congrArg x (funext fun a => by
    fin_cases a
    · exact Fin.ext (by show 0 + 1 * e.val = e'.val; omega)
    · exact Fin.ext (by show 0 + 1 * c.val = c.val; omega))

theorem winOnes_at (x : Vec Ideal S144x1024 .f32) (inb : ∀ a, (![128, 0] : Fin 2 → ℕ) a + S1x1024.size a ≤ S144x1024.size a) (e : Fin 1) (c : Fin 1024) (e' : Fin 144)
    (h : e'.val = 128) : window x ![128, 0] S1x1024.size inb (ix2 e c) = x (ix2 e' c) :=
  congrArg x (funext fun a => by
    fin_cases a
    · exact Fin.ext (by show 128 + 1 * e.val = e'.val; omega)
    · exact Fin.ext (by show 0 + 1 * c.val = c.val; omega))

theorem pay105_at (x6 x7 : Vec Ideal S1x64 .f32) : (k0_pay105 x6 x7 (ix2 0 0) : EReal) = ∑ j : Fin 64, x6 (ix2 0 j) * x7 (ix2 0 j) := by
  pointwise [k0_pay105]

/-- The block written, from the accumulator's columns. -/
theorem pay106_at (s : FVec Ideal S1x1 .f32) (x8 x9 : Vec Ideal S1x64 .f32) (a : Vec Ideal S128x1024 .f32) (l : Vec Ideal S1x1024 .f32) (g : Vec Ideal S1x128 .f32) (r : Fin 512) (e : Fin 128) :
    (k0_pay106 s x8 x9 a l g (ix2 r e) : EReal)
      = normed (fun x => Ideal.div (a (ix2 x ⟨r.val, by omega⟩)) (l (ix2 0 ⟨r.val, by omega⟩))
          - (Ideal.exp (s (ix2 0 0)) - Ideal.exp (∑ j : Fin 64, x8 (ix2 0 j) * x9 (ix2 0 j)) + Ideal.ofBits .f32 0x3E4CCCCD#32)
            * Ideal.div (a (ix2 x ⟨512 + r.val, by omega⟩)) (l (ix2 0 ⟨512 + r.val, by omega⟩))) (g (ix2 0 e)) e := by
  unfold normed
  pointwise [k0_pay106]

variable {x0 : Vec Ideal S512x128 .bf16} {x1 : Vec Ideal S8192x128 .bf16} {x2 : Vec Ideal S1x32x128x256 .bf16} {X0 X1 X2 : ℕ → ℕ → ℝ}

/-- One column of the accumulator, divided by its row of sums, is the average of the values under the column's weights. -/
theorem quot_at (B : Blocks x0 x1 x2 X0 X1 X2) (i : grid0.Coords) {s : St Ideal} (h : SInv (i 2).val X0 X1 X2 s (512 * (i 2).val)) (c : Fin 1024) (e o : Fin 144) (he : e.val < 128) (ho : o.val = 128) :
    Ideal.div (accT s i (k0_pay74 x0) k0_pay75 x1 x2 (ix2 e c)) (accT s i (k0_pay74 x0) k0_pay75 x1 x2 (ix2 o c))
      = ((attn (qc (i 2).val c.val) (Sc X0 X1 c.val) (fun k => X2 k e.val) : ℝ) : EReal) := by
  obtain ⟨m, hm⟩ := accT_inv B i h c
  have h1 : Va X2 e.val = fun k => X2 k e.val := by funext k; exact if_pos he
  have h2 : Va X2 o.val = fun _ => 1 := by funext k; exact if_neg (by omega)
  exact Inv.div (h1 ▸ hm e) (h2 ▸ hm o) (by unfold qc; have := Nat.mod_lt c.val (by norm_num : 0 < 512); omega)

/-- The block a point writes, at an index: the normalised difference of the two averages of the query's row. -/
theorem out_at (B : Blocks x0 x1 x2 X0 X1 X2) (i : grid0.Coords) (x6 x7 x8 x9 : Vec Ideal S1x64 .f32) (x10 : Vec Ideal S1x128 .f32) (L : ℝ)
    (hL : lamE (fun j => x6 (ix2 0 j)) (fun j => x7 (ix2 0 j)) (fun j => x8 (ix2 0 j)) (fun j => x9 (ix2 0 j)) = (L : EReal)) (r : Fin 512) (e : Fin 128) :
    (outF i x0 x1 x2 x6 x7 x8 x9 x10 (ix2 r e) : EReal)
      = normed (fun x => ((attn (512 * (i 2).val + r.val) (Sc X0 X1 r.val) (fun k => X2 k x.val) - L * attn (512 * (i 2).val + r.val) (Sc X0 X1 (512 + r.val)) (fun k => X2 k x.val) : ℝ) : EReal)) (x10 (ix2 0 e)) e := by
  unfold outF fin
  have h := odd_inv B i
  generalize (stAt (s0 x0 x1) i (k0_pay74 x0) k0_pay75 x1 x2 (k0_t1_loop i).trips).odd i (k0_pay74 x0) k0_pay75 x1 x2 = s at h ⊢
  have hq := fun (c : Fin 1024) (e o : Fin 144) he ho => quot_at B i h c e o he ho
  generalize accT s i (k0_pay74 x0) k0_pay75 x1 x2 = acc at hq ⊢
  rw [pay106_at]
  have e1 : qc (i 2).val r.val = 512 * (i 2).val + r.val := by unfold qc; rw [Nat.mod_eq_of_lt r.isLt]
  have e2 : qc (i 2).val (512 + r.val) = 512 * (i 2).val + r.val := by unfold qc; rw [Nat.add_mod_left, Nat.mod_eq_of_lt r.isLt]
  have hw : Ideal.exp (k0_pay105 (window x6 ![0, 0] S1x64.size inb_S1x64_S1x64_0_0) (window x7 ![0, 0] S1x64.size inb_S1x64_S1x64_0_0) (ix2 0 0) : EReal)
      - Ideal.exp (∑ j : Fin 64, window x8 ![0, 0] S1x64.size inb_S1x64_S1x64_0_0 (ix2 0 j) * window x9 ![0, 0] S1x64.size inb_S1x64_S1x64_0_0 (ix2 0 j))
      + Ideal.ofBits .f32 0x3E4CCCCD#32 = (L : EReal) := by
    have hs : ∀ a b : Vec Ideal S1x64 .f32, (∑ j : Fin 64, (window a ![0, 0] S1x64.size inb_S1x64_S1x64_0_0 (ix2 0 j) : EReal) * window b ![0, 0] S1x64.size inb_S1x64_S1x64_0_0 (ix2 0 j))
        = ∑ j : Fin 64, (a (ix2 0 j) : EReal) * b (ix2 0 j) := fun a b => Finset.sum_congr rfl fun j _ => congrArg₂ (fun x y : EReal => x * y) (win64_at a _ 0 j) (win64_at b _ 0 j)
    rw [pay105_at, ← hL]
    unfold lamE
    exact congrArg₂ (fun x y : EReal => Ideal.exp x - Ideal.exp y + Ideal.ofBits .f32 0x3E4CCCCD#32) (hs x6 x7) (hs x8 x9)
  rw [hw, win128_at]
  refine congrArg (fun o => normed o _ e) (funext fun x => ?_)
  rw [winTop_at _ _ x ⟨r.val, by omega⟩ ⟨x.val, by omega⟩ rfl, winOnes_at _ _ 0 ⟨r.val, by omega⟩ ⟨128, by omega⟩ rfl,
    winTop_at _ _ x ⟨512 + r.val, by omega⟩ ⟨x.val, by omega⟩ rfl, winOnes_at _ _ 0 ⟨512 + r.val, by omega⟩ ⟨128, by omega⟩ rfl,
    hq _ _ _ x.isLt rfl, hq _ _ _ x.isLt rfl, ← EReal.coe_mul, ← EReal.coe_sub]
  dsimp only
  rw [e1, e2]

end Cert.Proof.KernelIdeal

end
-- ==== Proof.RunKernelIdeal.lean ====
module

public import proofs.«01_k».proof.Proof.BodyKernelIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- Past the main loop: the odd pair of tiles if there is one, then the last tile's scores; what is returned is the first of the last two tiles, masked, and its maximum. -/
theorem oddRun (c : Dev nD) (i : grid0.Coords) (arg2 : BitVec 32) (arg3 : Memref sig .tc .vmem S512x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S144x1024 .f32) (harg17 : arg17.IsWhole) (v13 : FVec F S128x1024 .bf16) (v14 : FVec F S16x256 .bf16)
    (x1 : Vec F S8192x128 .bf16) (x2 : Vec F S1x32x128x256 .bf16) (s : St F)
    (Q : (Σ' (_ : BitVec 32) (_ : Vec F S256x1024 .f32) (_ : FVec F S1x1024 .f32), FVec F S1x1024 .f32) → sProp 𝕄) :
    iprop(owns (c : Thread nD τ) arg4 fullShare x1 ∗ owns (c : Thread nD τ) arg5 fullShare x2 ∗ owns (c : Thread nD τ) arg12 fullShare (s).sa ∗ owns (c : Thread nD τ) arg13 fullShare (s).sb ∗ owns (c : Thread nD τ) arg14 fullShare (s).bma ∗ owns (c : Thread nD τ) arg15 fullShare (s).bmb ∗ owns (c : Thread nD τ) arg16 fullShare (s).mx ∗ owns (c : Thread nD τ) arg17 fullShare (s).acc ∗
      (iprop(owns (c : Thread nD τ) arg4 fullShare x1 ∗ owns (c : Thread nD τ) arg5 fullShare x2 ∗ owns (c : Thread nD τ) arg12 fullShare (s.odd i v13 v14 x1 x2).sa ∗ owns (c : Thread nD τ) arg13 fullShare (k0_pay87 v13 (kt x1 (k0_off16 i) (k0_off16_inb i))) ∗ (∃ d, owns (c : Thread nD τ) arg14 fullShare d) ∗ (∃ d, owns (c : Thread nD τ) arg15 fullShare d) ∗ owns (c : Thread nD τ) arg16 fullShare (s.odd i v13 v14 x1 x2).mx ∗ owns (c : Thread nD τ) arg17 fullShare (s.odd i v13 v14 x1 x2).acc) -∗
        ∀ r, ⌜r = ⟨Scalar.muli 2#32 arg2, k0_pay89 (s.odd i v13 v14 x1 x2).sa, k0_pay90 (s.odd i v13 v14 x1 x2).sa (s.odd i v13 v14 x1 x2).mx, k0_pay91 (s.odd i v13 v14 x1 x2).sa (s.odd i v13 v14 x1 x2).mx⟩⌝ -∗ Q r))
      ⊢ wp frame (wpE (defs₀ (F := F)) Variants.none c none) Set.univ (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v13 v14) Q := by
  rw [k0_part15_eq_skeleton]
  unfold k0_part15_skel
  obtain ⟨sa, sb, bma, bmb, mm, acc⟩ := s
  dsimp only
  unfold owns
  iintro ⟨⟨%f4, %hf4, H4⟩, ⟨%f5, %hf5, H5⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf4 hf5 hf12 hf13 hf14 hf15 hf16 hf17
  by_cases hodd : k0_cond1 i = 1#1
  · sl_exec
    sl_step
    iapply Hk $$ [H4 H5 H12 H13 H14 H15 H16 H17]
    · isplitl [H4]; · iexists _; isplitr; · ipureintro; rfl
                      iexact H4
      isplitl [H5]; · iexists _; isplitr; · ipureintro; rfl
                      iexact H5
      isplitl [H12]
      · iexists _; isplitr; swap; · iexact H12
        ipureintro; (try (unfold St.odd; rw [dif_pos hodd])); all_goals (refine (read_whole _ _ _ _ _ (by decide)).trans ?_; sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)
      isplitl [H13]
      · iexists _; isplitr; swap; · iexact H13
        ipureintro; (try (unfold St.odd; rw [dif_pos hodd])); all_goals (refine (read_whole _ _ _ _ _ (by decide)).trans ?_; sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)
      isplitl [H14]
      · iexists _, _; isplitr; swap; · iexact H14
        ipureintro; rfl
      isplitl [H15]
      · iexists _, _; isplitr; swap; · iexact H15
        ipureintro; rfl
      isplitl [H16]
      · iexists _; isplitr; swap; · iexact H16
        ipureintro; (try (unfold St.odd; rw [dif_pos hodd])); all_goals (refine (read_whole _ _ _ _ _ (by decide)).trans ?_; sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)
      iexists _; isplitr; swap; · iexact H17
      ipureintro; (try (unfold St.odd; rw [dif_pos hodd])); all_goals (refine (read_whole _ _ _ _ _ (by decide)).trans ?_; sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)
    ipureintro
    (try (unfold St.odd; rw [dif_pos hodd])); all_goals (sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)
  · sl_exec
    sl_step
    iapply Hk $$ [H4 H5 H12 H13 H14 H15 H16 H17]
    · isplitl [H4]; · iexists _; isplitr; · ipureintro; rfl
                      iexact H4
      isplitl [H5]; · iexists _; isplitr; · ipureintro; rfl
                      iexact H5
      isplitl [H12]
      · iexists _; isplitr; swap; · iexact H12
        ipureintro; unfold St.odd; rw [dif_neg hodd]
      isplitl [H13]
      · iexists _; isplitr; swap; · iexact H13
        ipureintro; refine (read_whole _ _ _ _ _ (by decide)).trans ?_; sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl
      isplitl [H14]
      · iexists _, _; isplitr; swap; · iexact H14
        ipureintro; rfl
      isplitl [H15]
      · iexists _, _; isplitr; swap; · iexact H15
        ipureintro; rfl
      isplitl [H16]
      · iexists _; isplitr; swap; · iexact H16
        ipureintro; unfold St.odd; rw [dif_neg hodd]
      iexists _; isplitr; swap; · iexact H17
      ipureintro; unfold St.odd; rw [dif_neg hodd]
    ipureintro
    (try (unfold St.odd; rw [dif_neg hodd])); all_goals (sl_unfold_run_names; simp (disch := decide) only [View.readCov_cons_unit_lit', View.readCov_unit_lit', View.readAt_eq_ld, View.ld_unit_lit']; try dsimp only [St.pair, St.prodA, St.prodB, St.conA, St.conB, kt, vt, View.readAt_eq_ld, k0_pay1, k0_pay2, k0_pay3, k0_pay4, k0_pay7, k0_pay21, k0_pay23, k0_pay86, k0_pay87, k0_pay89, k0_pay90, k0_pay91]; try rfl)

end Cert.Proof.KernelIdeal
-- ==== Proof.FinKernelIdeal.lean ====
module

public import proofs.«01_k».proof.Proof.RunKernelIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The second pair of buffers does not matter past the main loop: it is written before it is read. -/
theorem odd_irrel (s : St F) (i : grid0.Coords) (v13 : FVec F S128x1024 .bf16) (v14 : FVec F S16x256 .bf16)
    (x1 : Vec F S8192x128 .bf16) (x2 : Vec F S1x32x128x256 .bf16) (sb : Vec F S256x1024 .f32) (bmb : Vec F S1x1024 .f32) :
    ((⟨s.sa, sb, s.bma, bmb, s.mx, s.acc⟩ : St F).odd i v13 v14 x1 x2).sa = (s.odd i v13 v14 x1 x2).sa
      ∧ ((⟨s.sa, sb, s.bma, bmb, s.mx, s.acc⟩ : St F).odd i v13 v14 x1 x2).mx = (s.odd i v13 v14 x1 x2).mx
      ∧ ((⟨s.sa, sb, s.bma, bmb, s.mx, s.acc⟩ : St F).odd i v13 v14 x1 x2).acc = (s.odd i v13 v14 x1 x2).acc := by
  unfold St.odd
  by_cases h : k0_cond1 i = 1#1
  · rw [dif_pos h, dif_pos h]; exact ⟨rfl, rfl, rfl⟩
  · rw [dif_neg h, dif_neg h]; exact ⟨rfl, rfl, rfl⟩

/-- Loading a rectangle from stores over unknown contents is reading that window of what the stores leave. -/
theorem readCov_window {sig : RefSig} {κ : Kind} {sp : Space} {s : Shape} {e : EltTy} (v : View sig κ sp s e) (L : List (View.Piece (Elt F) s e))
    {off size : Fin s.rank → Nat} (inb : ∀ a, off a + size a ≤ s.size a) :
    v.readCov L (Rect.unit off size inb).toLoadRect = VecWindow.window (v.read (Elt F) (v.writes (Elt F) v.junk L)) off size inb := rfl

/-- Loading a rectangle of a buffer is reading that window of its value. -/
theorem readAt_window {sig : RefSig} {κ : Kind} {sp : Space} {s : Shape} {e : EltTy} (v : View sig κ sp s e) (f : v.ty.Contents (Elt F))
    {off size : Fin s.rank → Nat} (inb : ∀ a, off a + size a ≤ s.size a) :
    v.readAt (Elt F) (Rect.unit off size inb).toLoadRect f = VecWindow.window (v.read (Elt F) f) off size inb := rfl

/-- A further store of a rectangle puts its payload over what was left. -/
theorem read_writes_put {sig : RefSig} {κ : Kind} {sp : Space} {s : Shape} {e : EltTy} (v : View sig κ sp s e) (f : v.ty.Contents (Elt F))
    {off size : Fin s.rank → Nat} (inb : ∀ a, off a + size a ≤ s.size a) (w : (Rect.unit off size inb).shape.Idx → Elt F e) (p : View.Piece (Elt F) s e)
    (L : List (View.Piece (Elt F) s e)) :
    v.read (Elt F) (v.writes (Elt F) f (⟨Rect.unit off size inb, w⟩ :: p :: L)) = VecWindow.put (v.read (Elt F) (v.writes (Elt F) f (p :: L))) off size w :=
  View.read_writes_cons_put v f inb w (p :: L) rfl

/-- The window of everything is the value. -/
theorem whole_S256x1024 (x : S256x1024.Idx → Elt F .f32) (inb : ∀ a, (![0, 0] : Fin 2 → Nat) a + (![256, 1024] : Fin 2 → Nat) a ≤ S256x1024.size a) :
    VecWindow.window (s := S256x1024) x ![0, 0] ![256, 1024] inb = x := View.ld_unit_zero (by decide) _ _

/-- The window of everything is the value. -/
theorem whole_S1x1024 (x : S1x1024.Idx → Elt F .f32) (inb : ∀ a, (![0, 0] : Fin 2 → Nat) a + (![1, 1024] : Fin 2 → Nat) a ≤ S1x1024.size a) :
    VecWindow.window (s := S1x1024) x ![0, 0] ![1, 1024] inb = x := View.ld_unit_zero (by decide) _ _

/-- The window of everything is the value. -/
theorem whole_S144x1024 (x : S144x1024.Idx → Elt F .f32) (inb : ∀ a, (![0, 0] : Fin 2 → Nat) a + (![144, 1024] : Fin 2 → Nat) a ≤ S144x1024.size a) :
    VecWindow.window (s := S144x1024) x ![0, 0] ![144, 1024] inb = x := View.ld_unit_zero (by decide) _ _

/-- The window of everything is the value. -/
theorem whole_S1x64 (x : S1x64.Idx → Elt F .f32) (inb : ∀ a, (![0, 0] : Fin 2 → Nat) a + (![1, 64] : Fin 2 → Nat) a ≤ S1x64.size a) :
    VecWindow.window (s := S1x64) x ![0, 0] ![1, 64] inb = x := View.ld_unit_zero (by decide) _ _

/-- A value tile is a window of the block of value tiles. -/
theorem vt_eq (x2 : Vec F S1x32x128x256 .bf16) (off : Fin 4 → ℕ) (inb : ∀ a, off a + S1x1x128x256.size a ≤ S1x32x128x256.size a) :
    vt x2 off inb = VecWindow.window (s := S1x32x128x256) x2 off ![1, 1, 128, 256] inb := rfl

/-- A store of the whole row leaves its payload. -/
theorem full16 {sig : RefSig} {κ : Kind} {sp : Space} (v : View sig κ sp S1x1024 .f32) (f : v.ty.Contents (Elt F))
    (inb : ∀ a, (![0, 0] : Fin 2 → Nat) a + (![1, 1024] : Fin 2 → Nat) a ≤ S1x1024.size a) (w : (Rect.unit (s := S1x1024) ![0, 0] ![1, 1024] inb).shape.Idx → Elt F .f32)
    (L : List (View.Piece (Elt F) S1x1024 .f32)) :
    v.read (Elt F) (v.writes (Elt F) f (⟨Rect.unit ![0, 0] ![1, 1024] inb, w⟩ :: L)) = w := View.read_writes_full v f inb w L

/-- A store of the whole accumulator leaves its payload. -/
theorem full17 {sig : RefSig} {κ : Kind} {sp : Space} (v : View sig κ sp S144x1024 .f32) (f : v.ty.Contents (Elt F))
    (inb : ∀ a, (![0, 0] : Fin 2 → Nat) a + (![144, 1024] : Fin 2 → Nat) a ≤ S144x1024.size a) (w : (Rect.unit (s := S144x1024) ![0, 0] ![144, 1024] inb).shape.Idx → Elt F .f32)
    (L : List (View.Piece (Elt F) S144x1024 .f32)) :
    v.read (Elt F) (v.writes (Elt F) f (⟨Rect.unit ![0, 0] ![144, 1024] inb, w⟩ :: L)) = w := View.read_writes_full v f inb w L

theorem s0_bma (x0 : Vec F S512x128 .bf16) (x1 : Vec F S8192x128 .bf16) :
    (s0 x0 x1).bma = k0_pay81 (k0_pay80 x0 (kt x1 ![0, 0] inb_S8192x128_S256x128_0_0)) := by
  dsimp only [s0]

set_option maxHeartbeats 4000000 in
set_option maxRecDepth 65536 in
/-- The whole body, run: from the blocks it reads to the block it writes. -/
theorem kernelRun (c : Dev nD) (i : grid0.Coords) (arg3 : Memref sig .tc .vmem S512x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S144x1024 .f32) (harg17 : arg17.IsWhole) (x0 : Vec F S512x128 .bf16) (x1 : Vec F S8192x128 .bf16) (x2 : Vec F S1x32x128x256 .bf16)
    (x6 x7 x8 x9 : Vec F S1x64 .f32) (x10 : Vec F S1x128 .f32) (Q : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗
      (iprop(owns (c : Thread nD τ) arg3 fullShare x0 ∗ owns (c : Thread nD τ) arg4 fullShare x1 ∗ owns (c : Thread nD τ) arg5 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF i x0 x1 x2 x6 x7 x8 x9 x10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ Q ⟨⟩))
      ⊢ wp frame (wpE (defs₀ (F := F)) Variants.none c none) Set.univ (cc0_flash_diff (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc0_flash_diff_eq_skeleton]
  unfold cc0_flash_diff_skel
  try rw [k0_part19_eq_skeleton]
  try unfold k0_part19_skel
  iintro ⟨H3, H4, H5, H6, H7, H8, H9, H10, ⟨%d11, H11⟩, ⟨%d12, H12⟩, ⟨%d13, H13⟩, ⟨%d14, H14⟩, ⟨%d15, H15⟩, ⟨%d16, H16⟩, ⟨%d17, H17⟩, Hk⟩
  rw [wp_bind, wp_bind]
  iapply (openRun c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 d12 d14 d16 d17) $$ [H3 H4 H12 H14 H16 H17 H5 H6 H7 H8 H9 H10 H11 H13 H15 Hk]
  isplitl [H3]; · iexact H3
  isplitl [H4]; · iexact H4
  isplitl [H12]; · iexact H12
  isplitl [H14]; · iexact H14
  isplitl [H16]; · iexact H16
  isplitl [H17]; · iexact H17
  iintro %v32 ⟨H3, H4, H12, H14, H16, H17⟩
  try dsimp only
  rw [wp_bind]
  iapply (midRun c i (BitVec.ofNat 32 (i 2).val) arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay74 x0) k0_pay75 (k0_pay80 x0 (kt x1 ![0, 0] inb_S8192x128_S256x128_0_0)) v32 x1 x2 (s0 x0 x1) (s0_bma x0 x1) d13 d14 d15) $$ [H3 H4 H12 H14 H16 H17 H5 H6 H7 H8 H9 H10 H11 H13 H15 Hk]
  isplitl [H4]; · iexact H4
  isplitl [H5]; · iexact H5
  isplitl [H12]; · iexact H12
  isplitl [H13]; · iexact H13
  isplitl [H14]; · iexact H14
  isplitl [H15]; · iexact H15
  isplitl [H16]; · iexact H16
  isplitl [H17]; · iexact H17
  iintro ⟨%sb, %bmb, H4, H5, H12, H13, H14, H15, H16, H17⟩
  unfold outF
  generalize hs : stAt (s0 x0 x1) i (k0_pay74 x0) k0_pay75 x1 x2 (k0_t1_loop i).trips = s
  try dsimp only
  rw [wp_bind]
  iapply (oddRun c i (BitVec.ofNat 32 (i 2).val) arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay74 x0) k0_pay75 x1 x2 ⟨s.sa, sb, s.bma, bmb, s.mx, s.acc⟩) $$ [H3 H4 H12 H14 H16 H17 H5 H6 H7 H8 H9 H10 H11 H13 H15 Hk]
  isplitl [H4]; · iexact H4
  isplitl [H5]; · iexact H5
  isplitl [H12]; · iexact H12
  isplitl [H13]; · iexact H13
  isplitl [H14]; · iexact H14
  isplitl [H15]; · iexact H15
  isplitl [H16]; · iexact H16
  isplitl [H17]; · iexact H17
  iintro ⟨H4, H5, H12, H13, ⟨%e14, H14⟩, ⟨%e15, H15⟩, H16, H17⟩ %r %hr
  subst hr
  try dsimp only
  have e := odd_irrel s i (k0_pay74 x0) k0_pay75 x1 x2 sb bmb
  rw [e.1, e.2.1, e.2.2]
  clear e hs
  generalize s.odd i (k0_pay74 x0) k0_pay75 x1 x2 = s'
  generalize k0_pay74 x0 = v13
  generalize (k0_pay75 : FVec F S16x256 .bf16) = v14
  obtain ⟨sa, sb', bma, bmb', mm, acc⟩ := s'
  generalize hsb : k0_pay87 v13 (kt x1 (k0_off16 i) (k0_off16_inb i)) = sbT
  dsimp only
  unfold owns
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  icases H16 with ⟨%f16, %hf16, H16⟩
  icases H17 with ⟨%f17, %hf17, H17⟩
  subst hf3 hf4 hf5 hf6 hf7 hf8 hf9 hf10 hf12 hf13 hf16 hf17
  sl_exec
  sl_step
  try sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; swap; · iexact H11
    ipureintro; refine (read_whole _ _ _ _ _ (by decide)).trans ?_
    unfold fin accT
    dsimp only
    rw [hsb]
    sl_unfold_run_names
    simp only [readCov_window, full16, full17, read_writes_put, readAt_window, vt_eq, whole_S256x1024, whole_S1x1024, whole_S144x1024, whole_S1x64]
    all_goals generalize VecWindow.window (View.read (Elt F) arg5.view f5) _ _ _ = vv1
    all_goals generalize VecWindow.window (View.read (Elt F) arg5.view f5) _ _ _ = vv2
    all_goals generalize k0_pay93 (F := F) _ _ _ _ _ _ = acc1
    all_goals generalize k0_pay92 (F := F) _ = mx1
    all_goals generalize VecWindow.window (View.read (Elt F) arg13.view f13) _ _ _ = w1
    all_goals generalize VecWindow.window (View.read (Elt F) arg13.view f13) _ _ _ = w2
    all_goals clear * -
    all_goals dsimp only [k0_pay96, k0_pay97, k0_pay98, k0_pay99, k0_pay100, k0_pay101, k0_pay102, k0_pay103, k0_pay104]
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Proof.KernelIdeal
-- ==== Proof.FrameKernelIdeal.lean ====
module

public import proofs.«01_k».proof.Proof.FinKernelIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffer of window 0 at a point. -/
abbrev st0 (t : Fin cfg0.N) : Memref sig .tc .vmem S512x128 .bf16 := win0_0.stage (cfg0.slots t 0)
/-- The staging buffer of window 1 at a point. -/
abbrev st1 (t : Fin cfg0.N) : Memref sig .tc .vmem S8192x128 .bf16 := win0_1.stage (cfg0.slots t 1)
/-- The staging buffer of window 2 at a point. -/
abbrev st2 (t : Fin cfg0.N) : Memref sig .tc .vmem S1x32x128x256 .bf16 := win0_2.stage (cfg0.slots t 2)
/-- The staging buffer of window 3 at a point. -/
abbrev st3 (t : Fin cfg0.N) : Memref sig .tc .vmem S1x64 .f32 := win0_3.stage (cfg0.slots t 3)
/-- The staging buffer of window 4 at a point. -/
abbrev st4 (t : Fin cfg0.N) : Memref sig .tc .vmem S1x64 .f32 := win0_4.stage (cfg0.slots t 4)
/-- The staging buffer of window 5 at a point. -/
abbrev st5 (t : Fin cfg0.N) : Memref sig .tc .vmem S1x64 .f32 := win0_5.stage (cfg0.slots t 5)
/-- The staging buffer of window 6 at a point. -/
abbrev st6 (t : Fin cfg0.N) : Memref sig .tc .vmem S1x64 .f32 := win0_6.stage (cfg0.slots t 6)
/-- The staging buffer of window 7 at a point. -/
abbrev st7 (t : Fin cfg0.N) : Memref sig .tc .vmem S1x128 .f32 := win0_7.stage (cfg0.slots t 7)
/-- The staging buffer of window 8 at a point. -/
abbrev st8 (t : Fin cfg0.N) : Memref sig .tc .vmem S512x128 .bf16 := win0_8.stage (cfg0.slots t 8)
/-- Scratch buffer 0. -/
abbrev sc0 : Memref sig .tc .vmem S256x1024 .f32 := Memref.whole cc0_scratch0
/-- Scratch buffer 1. -/
abbrev sc1 : Memref sig .tc .vmem S256x1024 .f32 := Memref.whole cc0_scratch1
/-- Scratch buffer 2. -/
abbrev sc2 : Memref sig .tc .vmem S1x1024 .f32 := Memref.whole cc0_scratch2
/-- Scratch buffer 3. -/
abbrev sc3 : Memref sig .tc .vmem S1x1024 .f32 := Memref.whole cc0_scratch3
/-- Scratch buffer 4. -/
abbrev sc4 : Memref sig .tc .vmem S1x1024 .f32 := Memref.whole cc0_scratch4
/-- Scratch buffer 5. -/
abbrev sc5 : Memref sig .tc .vmem S144x1024 .f32 := Memref.whole cc0_scratch5

/-- The launch's invariant: the scratch buffers at some contents, and the generator's register. -/
theorem phi_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The block the launch writes at point `t`. -/
def outBlk (c : Dev nD) (t : Fin cfg0.N) : Vec F S512x128 .bf16 :=
  outF (grid0.coords t) (iblk m c 0 t) (iblk m c 1 t) (iblk m c 2 t) (iblk m c 3 t) (iblk m c 4 t) (iblk m c 5 t) (iblk m c 6 t) (iblk m c 7 t)

/-- The launch's proof data: inputs keep their blocks, the output takes the block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- Input window 0 keeps its block. -/
theorem after_0 (c : Dev nD) (t : Fin cfg0.N) : (dats m 0 c).after 0 t = iblk m c 0 t := by dsimp only [dats]
/-- Input window 1 keeps its block. -/
theorem after_1 (c : Dev nD) (t : Fin cfg0.N) : (dats m 0 c).after 1 t = iblk m c 1 t := by dsimp only [dats]
/-- Input window 2 keeps its block. -/
theorem after_2 (c : Dev nD) (t : Fin cfg0.N) : (dats m 0 c).after 2 t = iblk m c 2 t := by dsimp only [dats]
/-- Input window 3 keeps its block. -/
theorem after_3 (c : Dev nD) (t : Fin cfg0.N) : (dats m 0 c).after 3 t = iblk m c 3 t := by dsimp only [dats]
/-- Input window 4 keeps its block. -/
theorem after_4 (c : Dev nD) (t : Fin cfg0.N) : (dats m 0 c).after 4 t = iblk m c 4 t := by dsimp only [dats]
/-- Input window 5 keeps its block. -/
theorem after_5 (c : Dev nD) (t : Fin cfg0.N) : (dats m 0 c).after 5 t = iblk m c 5 t := by dsimp only [dats]
/-- Input window 6 keeps its block. -/
theorem after_6 (c : Dev nD) (t : Fin cfg0.N) : (dats m 0 c).after 6 t = iblk m c 6 t := by dsimp only [dats]
/-- Input window 7 keeps its block. -/
theorem after_7 (c : Dev nD) (t : Fin cfg0.N) : (dats m 0 c).after 7 t = iblk m c 7 t := by dsimp only [dats]
/-- The output window takes the block computed. -/
theorem after_8 (c : Dev nD) (t : Fin cfg0.N) : (dats m 0 c).after 8 t = outBlk m c t := by dsimp only [dats]
/-- Input window 0 holds its block before the body. -/
theorem before_0 (c : Dev nD) (t : Fin cfg0.N) (d) : (dats m 0 c).before 0 t d = iblk m c 0 t :=
  before0_0_of m (dats m 0 c) (A_eq m c 0) (after_0 m c) t d
/-- Input window 1 holds its block before the body. -/
theorem before_1 (c : Dev nD) (t : Fin cfg0.N) (d) : (dats m 0 c).before 1 t d = iblk m c 1 t :=
  before0_1_of m (dats m 0 c) (A_eq m c 1) (after_1 m c) t d
/-- Input window 2 holds its block before the body. -/
theorem before_2 (c : Dev nD) (t : Fin cfg0.N) (d) : (dats m 0 c).before 2 t d = iblk m c 2 t :=
  before0_2_of m (dats m 0 c) (A_eq m c 2) (after_2 m c) t d
/-- Input window 3 holds its block before the body. -/
theorem before_3 (c : Dev nD) (t : Fin cfg0.N) (d) : (dats m 0 c).before 3 t d = iblk m c 3 t :=
  before0_3_of m (dats m 0 c) (A_eq m c 3) (after_3 m c) t d
/-- Input window 4 holds its block before the body. -/
theorem before_4 (c : Dev nD) (t : Fin cfg0.N) (d) : (dats m 0 c).before 4 t d = iblk m c 4 t :=
  before0_4_of m (dats m 0 c) (A_eq m c 4) (after_4 m c) t d
/-- Input window 5 holds its block before the body. -/
theorem before_5 (c : Dev nD) (t : Fin cfg0.N) (d) : (dats m 0 c).before 5 t d = iblk m c 5 t :=
  before0_5_of m (dats m 0 c) (A_eq m c 5) (after_5 m c) t d
/-- Input window 6 holds its block before the body. -/
theorem before_6 (c : Dev nD) (t : Fin cfg0.N) (d) : (dats m 0 c).before 6 t d = iblk m c 6 t :=
  before0_6_of m (dats m 0 c) (A_eq m c 6) (after_6 m c) t d
/-- Input window 7 holds its block before the body. -/
theorem before_7 (c : Dev nD) (t : Fin cfg0.N) (d) : (dats m 0 c).before 7 t d = iblk m c 7 t :=
  before0_7_of m (dats m 0 c) (A_eq m c 7) (after_7 m c) t d

/-- What the body is given at a point. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- What the body gives back. -/
def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

set_option maxHeartbeats 1200000 in
/-- The body at any point takes what it is given to what it gives back. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, phi_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The table's row at a point's slots is the body. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
/-- The program runs to an end where every array is as the launch leaves it and every counter is zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_all m ρ))

/-- The arguments end unchanged and every counter is zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (args_kept m ρ) ((θ_run defs _ _).mono (fun _ h => h.2) (run_all m ρ))

end Cert.Proof.KernelIdeal
-- ==== Proof.RefRead.lean ====
module

public import proofs.«01_k».proof.Proof.Ref
public import proofs.«01_k».proof.Proof.Head
public import Idealize.ShloMosaic.Lib.Pointwise
public import Idealize.ShloMosaic.Lib.IdealHost
public import Idealize.ShloMosaic.Lib.WordCmp

@[expose] public section

set_option maxRecDepth 16384

noncomputable section

namespace Cert.Proof.RefRead

open Cert.ReferenceIdeal Cert.ReferenceIdeal.Gen Cert.ReferenceIdeal.Read
open Idealize.ShloMosaic Idealize.ShloMosaic.TcCoe Idealize.ShloMosaic.Tactic
open Cert.Proof.Maths

variable {x0 x1 : (⟨S16384x1024, .bf16⟩ : BufTy).Contents (Elt Ideal)} {x2 : (⟨S2x32x1024x256, .bf16⟩ : BufTy).Contents (Elt Ideal)}
  {x3 x4 x5 x6 : (⟨S1x64, .f32⟩ : BufTy).Contents (Elt Ideal)} {x7 : (⟨S1x128, .f32⟩ : BufTy).Contents (Elt Ideal)}
  {Q K : ℕ → ℕ → ℝ} {V : ℕ → ℕ → ℕ → ℝ}

/-! ## The arguments as real numbers, reshaped -/

theorem v1_at (hq : ∀ i : S16384x1024.Idx, (x0 i : EReal) = ((Q (i 0).val (i 1).val : ℝ) : EReal)) (i : S2x8192x16x64.Idx) :
    (val_main_v1 (F := Ideal) x0 i : EReal) = ((Q (8192 * (i 0).val + (i 1).val) (64 * (i 2).val + (i 3).val) : ℝ) : EReal) := by
  have h0 : (i 0).val < 2 := (i 0).isLt
  have h1 : (i 1).val < 8192 := (i 1).isLt
  have h2 : (i 2).val < 16 := (i 2).isLt
  have h3 : (i 3).val < 64 := (i 3).isLt
  rw [val_main_v1_apply, val_main_v0_apply]
  refine (hq (idx_main_v1 i)).trans (congrArg₂ (fun a b => ((Q a b : ℝ) : EReal)) ?_ ?_)
  · show ((((i 0).val * 8192 + (i 1).val) * 16 + (i 2).val) * 64 + (i 3).val) / 1024 = 8192 * (i 0).val + (i 1).val; omega
  · show ((((i 0).val * 8192 + (i 1).val) * 16 + (i 2).val) * 64 + (i 3).val) % 1024 = 64 * (i 2).val + (i 3).val; omega

theorem v3_at (hk : ∀ i : S16384x1024.Idx, (x1 i : EReal) = ((K (i 0).val (i 1).val : ℝ) : EReal)) (i : S2x8192x16x64.Idx) :
    (val_main_v3 (F := Ideal) x1 i : EReal) = ((K (8192 * (i 0).val + (i 1).val) (64 * (i 2).val + (i 3).val) : ℝ) : EReal) := by
  have h0 : (i 0).val < 2 := (i 0).isLt
  have h1 : (i 1).val < 8192 := (i 1).isLt
  have h2 : (i 2).val < 16 := (i 2).isLt
  have h3 : (i 3).val < 64 := (i 3).isLt
  rw [val_main_v3_apply, val_main_v2_apply]
  refine (hk (idx_main_v3 i)).trans (congrArg₂ (fun a b => ((K a b : ℝ) : EReal)) ?_ ?_)
  · show ((((i 0).val * 8192 + (i 1).val) * 16 + (i 2).val) * 64 + (i 3).val) / 1024 = 8192 * (i 0).val + (i 1).val; omega
  · show ((((i 0).val * 8192 + (i 1).val) * 16 + (i 2).val) * 64 + (i 3).val) % 1024 = 64 * (i 2).val + (i 3).val; omega

theorem v6_at (hv : ∀ i : S2x32x1024x256.Idx, (x2 i : EReal) = ((V (i 0).val (256 * (i 1).val + (i 3).val) (i 2).val : ℝ) : EReal)) (i : S2x8192x8x128.Idx) :
    (val_main_v6 (F := Ideal) x2 i : EReal) = ((V (i 0).val (i 1).val (128 * (i 2).val + (i 3).val) : ℝ) : EReal) := by
  have h0 : (i 0).val < 2 := (i 0).isLt
  have h1 : (i 1).val < 8192 := (i 1).isLt
  have h2 : (i 2).val < 8 := (i 2).isLt
  have h3 : (i 3).val < 128 := (i 3).isLt
  rw [val_main_v6_apply, val_main_v5_apply, val_main_v4_apply]
  refine (hv (idx_main_v5 (idx_main_v6 i))).trans ?_
  have e0 : ((((i 0).val * 8192 + (i 1).val) * 8 + (i 2).val) * 128 + (i 3).val) / 8388608 = (i 0).val := by omega
  have e1 : 256 * (((((i 0).val * 8192 + (i 1).val) * 8 + (i 2).val) * 128 + (i 3).val) / 262144 % 32) + ((((i 0).val * 8192 + (i 1).val) * 8 + (i 2).val) * 128 + (i 3).val) / 1024 % 256 = (i 1).val := by omega
  have e2 : ((((i 0).val * 8192 + (i 1).val) * 8 + (i 2).val) * 128 + (i 3).val) % 1024 = 128 * (i 2).val + (i 3).val := by omega
  show ((V (((((i 0).val * 8192 + (i 1).val) * 8 + (i 2).val) * 128 + (i 3).val) / 8388608) (256 * (((((i 0).val * 8192 + (i 1).val) * 8 + (i 2).val) * 128 + (i 3).val) / 262144 % 32) + ((((i 0).val * 8192 + (i 1).val) * 8 + (i 2).val) * 128 + (i 3).val) / 1024 % 256) (((((i 0).val * 8192 + (i 1).val) * 8 + (i 2).val) * 128 + (i 3).val) % 1024) : ℝ) : EReal) = _
  rw [e0, e1, e2]

/-! ## The scores, masked -/

theorem v8_at (hq : ∀ i : S16384x1024.Idx, (x0 i : EReal) = ((Q (i 0).val (i 1).val : ℝ) : EReal))
    (hk : ∀ i : S16384x1024.Idx, (x1 i : EReal) = ((K (i 0).val (i 1).val : ℝ) : EReal)) (i : S2x16x8192x8192.Idx) :
    (val_main_v8 (F := Ideal) x0 x1 i : EReal) = ((score Q K (i 0).val (i 1).val (i 2).val (i 3).val : ℝ) : EReal) := by
  rw [val_main_v8_apply]
  unfold score
  rw [coe_sum]
  refine Finset.sum_congr rfl fun d _ => ?_
  rw [EReal.coe_mul]
  exact congrArg₂ (fun a b : EReal => a * b) (v1_at hq (lidx_main_v8 i d)) (v3_at hk (ridx_main_v8 i d))

theorem two_log : (FloatOps.hostUnary .log (FloatOps.ofBits .f32 0x40000000#32 : Ideal .f32) : EReal) = ((Real.log 2 : ℝ) : EReal) := by
  have h : (Ideal.ofBits .f32 0x40000000#32 : EReal) = ((2 : ℝ) : EReal) := by
    simp [Ideal.ofBits, Ideal.ieee, -EReal.coe_mul]; norm_num
  show Ideal.log (Ideal.ofBits .f32 0x40000000#32) = _
  rw [h, Ideal.log_coe, if_neg (by norm_num)]

theorem bot_word : (Ideal.ofBits .f32 0xFF800000#32 : EReal) = ⊥ := by
  simp [Ideal.ofBits, Ideal.ieee, -EReal.coe_mul]

theorem zero_word : (Ideal.ofBits .f32 0x00000000#32 : EReal) = 0 := Ideal.ofBits_zero_f32

theorem mask_at (i : S2x16x8192x8192.Idx) : val_main_call0_v1 (F := Ideal) i = 1 ↔ (i 3).val ≤ (i 2).val := by
  have h2 : (i 2).val < 8192 := (i 2).isLt
  have h3 : (i 3).val < 8192 := (i 3).isLt
  rw [val_main_call0_v1_apply, val_main_v17_apply, val_main_v15_apply, val_main_v16_apply, val_main_v13_apply, val_main_v14_apply, val_main_v7_apply, val_main_v7_apply]
  show IntOp.cmpi .sle (BitVec.ofNat 32 (i 3).val) (BitVec.ofNat 32 (i 2).val) = 1 ↔ _
  rw [WordCmp.cmpi_sle_ofNat (by omega) (by omega)]
  by_cases h : (i 3).val ≤ (i 2).val <;> simp [h]

theorem v18_at (hq : ∀ i : S16384x1024.Idx, (x0 i : EReal) = ((Q (i 0).val (i 1).val : ℝ) : EReal))
    (hk : ∀ i : S16384x1024.Idx, (x1 i : EReal) = ((K (i 0).val (i 1).val : ℝ) : EReal)) (i : S2x16x8192x8192.Idx) :
    (val_main_v18 (F := Ideal) x0 x1 i : EReal)
      = if (i 3).val ≤ (i 2).val then ((score Q K (i 0).val (i 1).val (i 2).val (i 3).val * Real.log 2 : ℝ) : EReal) else ⊥ := by
  rw [val_main_v18_apply]
  unfold Scalar.select
  by_cases h : (i 3).val ≤ (i 2).val
  · rw [if_pos h, if_pos ((mask_at i).2 h), val_main_v12_apply, val_main_v11_apply, val_main_v10_apply, val_main_v9_apply, val_main_cst_apply, EReal.coe_mul]
    exact congrArg₂ (fun a b : EReal => a * b) (v8_at hq hk i) two_log
  · rw [if_neg h, if_neg (fun h' => h ((mask_at i).1 h')), val_main_call0_v2_apply, val_main_call0_v0_apply, val_main_cst_0_apply]
    exact bot_word

theorem max_fold (y : (⟨S2x16x8192x8192, .f32⟩ : BufTy).Contents (Elt Ideal)) (b : Fin 2) (c : Fin 16) (p : Fin 8192) :
    (Host.reduce (FloatOps.maximumf (F := Ideal) (φ := .f32)) (y : FVec Ideal S2x16x8192x8192 .f32) (val_main_cst_1 (F := Ideal)) reducesTo_S2x16x8192x8192_S2x16x8192_d3 h_S_ (ix3 b c p) : EReal)
      = Finset.univ.fold max ⊥ (fun k : Fin 8192 => (y (ix4 b c p k) : EReal)) := by
  unfold val_main_cst_1
  rw [← bot_word]
  pointwise []

/-- The row's maximum is a real number: the first key is never masked. -/
theorem v23_at (hq : ∀ i : S16384x1024.Idx, (x0 i : EReal) = ((Q (i 0).val (i 1).val : ℝ) : EReal))
    (hk : ∀ i : S16384x1024.Idx, (x1 i : EReal) = ((K (i 0).val (i 1).val : ℝ) : EReal)) (j : S2x16x8192.Idx) :
    ∃ B : ℝ, (val_main_v21 (F := Ideal) x0 x1 j : EReal) = (B : EReal) := by
  obtain ⟨b, c, p, rfl⟩ : ∃ (b : Fin 2) (c : Fin 16) (p : Fin 8192), j = ix3 b c p := ⟨j 0, j 1, j 2, eq_ix3 j⟩
  have hf : ∀ k : Fin 8192, (val_main_v18 (F := Ideal) x0 x1 (ix4 b c p k) : EReal) = if k.val ≤ p.val then ((score Q K b.val c.val p.val k.val * Real.log 2 : ℝ) : EReal) else ⊥ :=
    fun k => v18_at hq hk (ix4 b c p k)
  obtain ⟨B, hB⟩ := fold_real (fun k : Fin 8192 => (val_main_v18 (F := Ideal) x0 x1 (ix4 b c p k) : EReal))
    (fun k => by rw [hf]; split_ifs; exacts [EReal.coe_ne_top _, bot_ne_top]) 0 (by rw [hf, if_pos (show (0 : Fin 8192).val ≤ p.val from Nat.zero_le _)]; exact EReal.coe_ne_bot _)
  refine ⟨B, ?_⟩
  rw [val_main_v21_apply, val_main_v20_apply, val_main_cst_2_apply]
  unfold val_main_v19
  show max (Ideal.ofBits .f32 0xFF800000#32 : EReal) _ = _
  rw [bot_word, max_fold, hB]
  exact max_eq_right bot_le

/-! ## The weights -/

/-- The weight the reference gives a key. -/
def wt (q : ℕ) (S : ℕ → ℝ) (k : ℕ) : ℝ := (if k ≤ q then (2 : ℝ) ^ S k else 0) / ∑ k ∈ Finset.range (q + 1), (2 : ℝ) ^ S k

theorem v29_at (hq : ∀ i : S16384x1024.Idx, (x0 i : EReal) = ((Q (i 0).val (i 1).val : ℝ) : EReal))
    (hk : ∀ i : S16384x1024.Idx, (x1 i : EReal) = ((K (i 0).val (i 1).val : ℝ) : EReal)) (i : S2x16x8192x8192.Idx) :
    (val_main_v29 (F := Ideal) x0 x1 i : EReal) = ((wt (i 2).val (score Q K (i 0).val (i 1).val (i 2).val) (i 3).val : ℝ) : EReal) := by
  set j := idx_main_v22 (idx_main_v23 i) with hj
  have hM := v23_at hq hk j
  have hsm := softmax (N := 8192) (q := (i 2).val) (i 2).isLt (score Q K (i 0).val (i 1).val (i 2).val)
    (fun k => (val_main_v18 (F := Ideal) x0 x1 (idx_main_v26 j k) : EReal)) (fun k => v18_at hq hk (idx_main_v26 j k)) _ hM ⟨(i 3).val, (i 3).isLt⟩
  have h25 : ∀ k : Fin 8192, (val_main_v25 (F := Ideal) x0 x1 (idx_main_v26 j k) : EReal) = Ideal.exp ((val_main_v18 (F := Ideal) x0 x1 (idx_main_v26 j k) : EReal) - (val_main_v21 (F := Ideal) x0 x1 j : EReal)) := by
    intro k
    rw [val_main_v25_apply, val_main_v24_apply, val_main_v23_apply, val_main_v22_apply]
    have e : idx_main_v22 (idx_main_v23 (idx_main_v26 j k)) = j := by
      rw [hj]
    rw [e]; rfl
  have ei : idx_main_v26 j ⟨(i 3).val, (i 3).isLt⟩ = i := by
    rw [hj]; funext a; match a with | ⟨0, _⟩ => rfl | ⟨1, _⟩ => rfl | ⟨2, _⟩ => rfl | ⟨3, _⟩ => rfl
  have ej : idx_main_v27 (idx_main_v28 i) = j := by
    rw [hj]
  rw [val_main_v29_apply, val_main_v28_apply, val_main_v27_apply, ej, val_main_v26_apply, val_main_cst_3_apply]
  have h26 := h25 ⟨(i 3).val, (i 3).isLt⟩
  show Ideal.div (val_main_v25 (F := Ideal) x0 x1 i : EReal) (Ideal.ofBits .f32 0x00000000#32 + ∑ k : Fin 8192, (val_main_v25 (F := Ideal) x0 x1 (idx_main_v26 j k) : EReal)) = _
  rw [zero_word, zero_add, Finset.sum_congr rfl fun k _ => h25 k]
  nth_rewrite 1 [← ei]
  rw [h26]
  exact hsm

theorem v40_at (hq : ∀ i : S16384x1024.Idx, (x0 i : EReal) = ((Q (i 0).val (i 1).val : ℝ) : EReal))
    (hk : ∀ i : S16384x1024.Idx, (x1 i : EReal) = ((K (i 0).val (i 1).val : ℝ) : EReal)) (i : S2x8x8192x8192.Idx) :
    (val_main_v40 (F := Ideal) x0 x1 i : EReal) = ((wt (i 2).val (score Q K (i 0).val (2 * (i 1).val) (i 2).val) (i 3).val : ℝ) : EReal) := by
  have h0 : (i 0).val < 2 := (i 0).isLt
  have h1 : (i 1).val < 8 := (i 1).isLt
  have h2 : (i 2).val < 8192 := (i 2).isLt
  have h3 : (i 3).val < 8192 := (i 3).isLt
  rw [val_main_v40_apply, val_main_v39_apply, val_main_v30_apply]
  have e : idx_main_v30 (idx_main_v39 (idx_main_v40 i)) = ix4 ⟨(i 0).val, h0⟩ ⟨2 * (i 1).val, by omega⟩ ⟨(i 2).val, h2⟩ ⟨(i 3).val, h3⟩ := by
    have e4 : idx_main_v39 (idx_main_v40 i) = ix5 ⟨(i 0).val, h0⟩ ⟨(i 1).val, h1⟩ ⟨0, by omega⟩ ⟨(i 2).val, h2⟩ ⟨(i 3).val, h3⟩ := by
      have e0 : ((((i 0).val * 8 + (i 1).val) * 8192 + (i 2).val) * 8192 + (i 3).val) / 536870912 = (i 0).val := by omega
      have e1 : ((((i 0).val * 8 + (i 1).val) * 8192 + (i 2).val) * 8192 + (i 3).val) / 67108864 % 8 = (i 1).val := by omega
      have e2 : ((((i 0).val * 8 + (i 1).val) * 8192 + (i 2).val) * 8192 + (i 3).val) / 8192 % 8192 = (i 2).val := by omega
      have e3 : ((((i 0).val * 8 + (i 1).val) * 8192 + (i 2).val) * 8192 + (i 3).val) % 8192 = (i 3).val := by omega
      funext a
      match a with
      | ⟨0, _⟩ => exact Fin.ext e0
      | ⟨1, _⟩ => exact Fin.ext e1
      | ⟨2, _⟩ => rfl
      | ⟨3, _⟩ => exact Fin.ext e2
      | ⟨4, _⟩ => exact Fin.ext e3
    rw [e4]
    funext a
    match a with
    | ⟨0, _⟩ => exact Fin.ext (by show (((((i 0).val * 8 + (i 1).val) * 2 + 0) * 8192 + (i 2).val) * 8192 + (i 3).val) / 1073741824 = (i 0).val; omega)
    | ⟨1, _⟩ => exact Fin.ext (by show (((((i 0).val * 8 + (i 1).val) * 2 + 0) * 8192 + (i 2).val) * 8192 + (i 3).val) / 67108864 % 16 = 2 * (i 1).val; omega)
    | ⟨2, _⟩ => exact Fin.ext (by show (((((i 0).val * 8 + (i 1).val) * 2 + 0) * 8192 + (i 2).val) * 8192 + (i 3).val) / 8192 % 8192 = (i 2).val; omega)
    | ⟨3, _⟩ => exact Fin.ext (by show (((((i 0).val * 8 + (i 1).val) * 2 + 0) * 8192 + (i 2).val) * 8192 + (i 3).val) % 8192 = (i 3).val; omega)
  rw [e]
  exact v29_at hq hk _

theorem v42_at (hq : ∀ i : S16384x1024.Idx, (x0 i : EReal) = ((Q (i 0).val (i 1).val : ℝ) : EReal))
    (hk : ∀ i : S16384x1024.Idx, (x1 i : EReal) = ((K (i 0).val (i 1).val : ℝ) : EReal)) (i : S2x8x8192x8192.Idx) :
    (val_main_v42 (F := Ideal) x0 x1 i : EReal) = ((wt (i 2).val (score Q K (i 0).val (2 * (i 1).val + 1) (i 2).val) (i 3).val : ℝ) : EReal) := by
  have h0 : (i 0).val < 2 := (i 0).isLt
  have h1 : (i 1).val < 8 := (i 1).isLt
  have h2 : (i 2).val < 8192 := (i 2).isLt
  have h3 : (i 3).val < 8192 := (i 3).isLt
  rw [val_main_v42_apply, val_main_v41_apply, val_main_v30_apply]
  have e : idx_main_v30 (idx_main_v41 (idx_main_v42 i)) = ix4 ⟨(i 0).val, h0⟩ ⟨2 * (i 1).val + 1, by omega⟩ ⟨(i 2).val, h2⟩ ⟨(i 3).val, h3⟩ := by
    have e4 : idx_main_v41 (idx_main_v42 i) = ix5 ⟨(i 0).val, h0⟩ ⟨(i 1).val, h1⟩ ⟨1, by omega⟩ ⟨(i 2).val, h2⟩ ⟨(i 3).val, h3⟩ := by
      have e0 : ((((i 0).val * 8 + (i 1).val) * 8192 + (i 2).val) * 8192 + (i 3).val) / 536870912 = (i 0).val := by omega
      have e1 : ((((i 0).val * 8 + (i 1).val) * 8192 + (i 2).val) * 8192 + (i 3).val) / 67108864 % 8 = (i 1).val := by omega
      have e2 : ((((i 0).val * 8 + (i 1).val) * 8192 + (i 2).val) * 8192 + (i 3).val) / 8192 % 8192 = (i 2).val := by omega
      have e3 : ((((i 0).val * 8 + (i 1).val) * 8192 + (i 2).val) * 8192 + (i 3).val) % 8192 = (i 3).val := by omega
      funext a
      match a with
      | ⟨0, _⟩ => exact Fin.ext e0
      | ⟨1, _⟩ => exact Fin.ext e1
      | ⟨2, _⟩ => rfl
      | ⟨3, _⟩ => exact Fin.ext e2
      | ⟨4, _⟩ => exact Fin.ext e3
    rw [e4]
    funext a
    match a with
    | ⟨0, _⟩ => exact Fin.ext (by show (((((i 0).val * 8 + (i 1).val) * 2 + 1) * 8192 + (i 2).val) * 8192 + (i 3).val) / 1073741824 = (i 0).val; omega)
    | ⟨1, _⟩ => exact Fin.ext (by show (((((i 0).val * 8 + (i 1).val) * 2 + 1) * 8192 + (i 2).val) * 8192 + (i 3).val) / 67108864 % 16 = 2 * (i 1).val + 1; omega)
    | ⟨2, _⟩ => exact Fin.ext (by show (((((i 0).val * 8 + (i 1).val) * 2 + 1) * 8192 + (i 2).val) * 8192 + (i 3).val) / 8192 % 8192 = (i 2).val; omega)
    | ⟨3, _⟩ => exact Fin.ext (by show (((((i 0).val * 8 + (i 1).val) * 2 + 1) * 8192 + (i 2).val) * 8192 + (i 3).val) % 8192 = (i 3).val; omega)
  rw [e]
  exact v29_at hq hk _

/-- The second component's weight, read from the program. -/
theorem v38_at (x3 x4 x5 x6 : (⟨S1x64, .f32⟩ : BufTy).Contents (Elt Ideal)) (i : S_.Idx) :
    (val_main_v38 (F := Ideal) x3 x4 x5 x6 i : EReal)
      = lamE (fun j => x3 (ix2 0 j)) (fun j => x4 (ix2 0 j)) (fun j => x5 (ix2 0 j)) (fun j => x6 (ix2 0 j)) := by
  have hs : ∀ f : S1x64.Idx → EReal, ∑ j, f j = ∑ j : Fin 64, f (ix2 0 j) := fun f => by
    rw [ValueIdx.sum_idx2, Fin.sum_univ_one]; rfl
  rw [val_main_v38_apply, val_main_v37_apply, val_main_v33_apply, val_main_v36_apply, val_main_v32_apply, val_main_v35_apply, val_main_cst_4_apply, val_main_cst_5_apply, val_main_cst_6_apply]
  unfold lamE
  show Ideal.exp (Ideal.ofBits .f32 0x00000000#32 + ∑ j, (x3 j : EReal) * x4 j) - Ideal.exp (Ideal.ofBits .f32 0x00000000#32 + ∑ j, (x5 j : EReal) * x6 j) + Ideal.ofBits .f32 0x3E4CCCCD#32 = _
  rw [zero_word, zero_add, zero_add, hs, hs]

/-- The difference of the two averages. -/
theorem v47_at (hq : ∀ i : S16384x1024.Idx, (x0 i : EReal) = ((Q (i 0).val (i 1).val : ℝ) : EReal))
    (hk : ∀ i : S16384x1024.Idx, (x1 i : EReal) = ((K (i 0).val (i 1).val : ℝ) : EReal))
    (hv : ∀ i : S2x32x1024x256.Idx, (x2 i : EReal) = ((V (i 0).val (256 * (i 1).val + (i 3).val) (i 2).val : ℝ) : EReal)) {L : ℝ}
    (hL : lamE (fun j => x3 (ix2 0 j)) (fun j => x4 (ix2 0 j)) (fun j => x5 (ix2 0 j)) (fun j => x6 (ix2 0 j)) = (L : EReal)) (i : S2x8192x8x128.Idx) :
    (val_main_v47 (F := Ideal) x0 x1 x2 x3 x4 x5 x6 i : EReal) = ((headAt Q K V L (i 0).val (i 2).val (i 1).val (i 3).val : ℝ) : EReal) := by
  rw [val_main_v47_apply, val_main_v46_apply]
  unfold headAt
  rw [← combine (N := 8192) (i 1).isLt (score Q K (i 0).val (2 * (i 2).val) (i 1).val) (score Q K (i 0).val (2 * (i 2).val + 1) (i 1).val) (fun key => V (i 0).val key (128 * (i 2).val + (i 3).val)) L
    (fun k => ((V (i 0).val k.val (128 * (i 2).val + (i 3).val) : ℝ) : EReal)) _ _ (fun _ => rfl) (fun _ => rfl) (fun _ => rfl)]
  refine Finset.sum_congr rfl fun k _ => ?_
  have h6 := v6_at hv (lidx_main_v46 (idx_main_v47 i) k)
  have h40 := v40_at hq hk (ridx_main_v46 (idx_main_v47 i) k)
  have h42 := v42_at hq hk (ridx_main_v46 (idx_main_v47 i) k)
  rw [val_main_v45_apply, val_main_v44_apply, val_main_v43_apply]
  have h38 := (v38_at x3 x4 x5 x6 (idx_main_v43 (ridx_main_v46 (idx_main_v47 i) k))).trans hL
  show (val_main_v6 (F := Ideal) x2 (lidx_main_v46 (idx_main_v47 i) k) : EReal) * ((val_main_v40 (F := Ideal) x0 x1 (ridx_main_v46 (idx_main_v47 i) k) : EReal) - (val_main_v38 (F := Ideal) x3 x4 x5 x6 (idx_main_v43 (ridx_main_v46 (idx_main_v47 i) k)) : EReal) * (val_main_v42 (F := Ideal) x0 x1 (ridx_main_v46 (idx_main_v47 i) k) : EReal)) = _
  rw [h6, h40, h42, h38]
  rfl

/-- The result, at an index by its coordinates. -/
theorem v63_at (hq : ∀ i : S16384x1024.Idx, (x0 i : EReal) = ((Q (i 0).val (i 1).val : ℝ) : EReal))
    (hk : ∀ i : S16384x1024.Idx, (x1 i : EReal) = ((K (i 0).val (i 1).val : ℝ) : EReal))
    (hv : ∀ i : S2x32x1024x256.Idx, (x2 i : EReal) = ((V (i 0).val (256 * (i 1).val + (i 3).val) (i 2).val : ℝ) : EReal)) {L : ℝ}
    (hL : lamE (fun j => x3 (ix2 0 j)) (fun j => x4 (ix2 0 j)) (fun j => x5 (ix2 0 j)) (fun j => x6 (ix2 0 j)) = (L : EReal)) (b : Fin 2) (p : Fin 8192) (h : Fin 8) (e : Fin 128) :
    (val_main_v63 (F := Ideal) x0 x1 x2 x3 x4 x5 x6 x7 (ix4 b p h e) : EReal)
      = normed (fun x => ((headAt Q K V L b.val h.val p.val x.val : ℝ) : EReal)) (x7 (ix2 0 e)) e := by
  have h47 : ∀ x : Fin 128, (val_main_v47 (F := Ideal) x0 x1 x2 x3 x4 x5 x6 (ix4 b p h x) : EReal) = ((headAt Q K V L b.val h.val p.val x.val : ℝ) : EReal) := fun x => v47_at hq hk hv hL (ix4 b p h x)
  have h49 : (val_main_v49 (F := Ideal) x0 x1 x2 x3 x4 x5 x6 (idx_main_v50 (idx_main_v56 (ix4 b p h e))) : EReal)
      = ∑ x : Fin 128, ((headAt Q K V L b.val h.val p.val x.val : ℝ) : EReal) * ((headAt Q K V L b.val h.val p.val x.val : ℝ) : EReal) := by
    rw [val_main_v49_apply, val_main_cst_7_apply]
    show Ideal.ofBits .f32 0x00000000#32 + _ = _
    rw [zero_word, zero_add]
    refine Finset.sum_congr rfl fun x _ => ?_
    have ex : idx_main_v49 (idx_main_v50 (idx_main_v56 (ix4 b p h e))) x = ix4 b p h x := by
      funext a; match a with | ⟨0, _⟩ => rfl | ⟨1, _⟩ => rfl | ⟨2, _⟩ => rfl | ⟨3, _⟩ => rfl
    rw [ex, val_main_v48_apply]
    exact congrArg₂ (fun a b : EReal => a * b) (h47 x) (h47 x)
  have h60 : (val_main_v60 (F := Ideal) x7 (ix4 b p h e) : EReal) = x7 (ix2 0 e) := by
    rw [val_main_v60_apply, val_main_v59_apply, val_main_v58_apply]
    refine congrArg x7 (funext fun a => ?_)
    match a with
    | ⟨0, _⟩ => rfl
    | ⟨1, _⟩ => exact Fin.ext (Nat.mod_eq_of_lt e.isLt)
  rw [val_main_v63_apply, val_main_v61_apply, val_main_v57_apply, val_main_v56_apply, val_main_v55_apply, val_main_v54_apply, val_main_v52_apply, val_main_v50_apply, val_main_v51_apply, val_main_v53_apply, val_main_v62_apply, val_main_cst_8_apply, val_main_cst_9_apply, val_main_cst_10_apply]
  unfold normed
  show (val_main_v47 (F := Ideal) x0 x1 x2 x3 x4 x5 x6 (ix4 b p h e) : EReal) * Ideal.rsqrt (Ideal.div (val_main_v49 (F := Ideal) x0 x1 x2 x3 x4 x5 x6 (idx_main_v50 (idx_main_v56 (ix4 b p h e)))) (Ideal.ofBits .f32 0x43000000#32) + Ideal.ofBits .f32 0x3727C5AC#32) * (val_main_v60 (F := Ideal) x7 (ix4 b p h e) : EReal) * Ideal.ofBits .f32 0x3F4CCCCD#32 = _
  rw [h47, h49, h60, mul_assoc]

theorem v65_at (hq : ∀ i : S16384x1024.Idx, (x0 i : EReal) = ((Q (i 0).val (i 1).val : ℝ) : EReal))
    (hk : ∀ i : S16384x1024.Idx, (x1 i : EReal) = ((K (i 0).val (i 1).val : ℝ) : EReal))
    (hv : ∀ i : S2x32x1024x256.Idx, (x2 i : EReal) = ((V (i 0).val (256 * (i 1).val + (i 3).val) (i 2).val : ℝ) : EReal)) {L : ℝ}
    (hL : lamE (fun j => x3 (ix2 0 j)) (fun j => x4 (ix2 0 j)) (fun j => x5 (ix2 0 j)) (fun j => x6 (ix2 0 j)) = (L : EReal)) (i : S16384x1024.Idx)
    (b : Fin 2) (p : Fin 8192) (h : Fin 8) (e : Fin 128) (h0 : (i 0).val = 8192 * b.val + p.val) (h1 : (i 1).val = 128 * h.val + e.val) :
    (val_main_v65 (F := Ideal) x0 x1 x2 x3 x4 x5 x6 x7 i : EReal)
      = normed (fun x => ((headAt Q K V L b.val h.val p.val x.val : ℝ) : EReal)) (x7 (ix2 0 e)) e := by
  have e1 : idx_main_v64 i = ix4 b p h e := by
    funext a
    match a with
    | ⟨0, _⟩ => exact Fin.ext (by show ((i 0).val * 1024 + (i 1).val) / 8388608 = b.val; omega)
    | ⟨1, _⟩ => exact Fin.ext (by show ((i 0).val * 1024 + (i 1).val) / 1024 % 8192 = p.val; omega)
    | ⟨2, _⟩ => exact Fin.ext (by show ((i 0).val * 1024 + (i 1).val) / 128 % 8 = h.val; omega)
    | ⟨3, _⟩ => exact Fin.ext (by show ((i 0).val * 1024 + (i 1).val) % 128 = e.val; omega)
  rw [val_main_v65_apply, val_main_v64_apply, e1]
  exact v63_at hq hk hv hL b p h e

end Cert.Proof.RefRead

end
-- ==== Proof.KerOut.lean ====
module

public import proofs.«01_k».proof.Proof.KerFin
public import proofs.«01_k».proof.Proof.FrameKernelIdeal
public import proofs.«01_k».proof.Proof.RefRead
public import Idealize.ShloMosaic.Lib.Pipeline.ValueKit.Geometry
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)
open Cert.Proof.Maths

/-! ## The blocks of the arrays -/

theorem ix_0 : ∀ t : Fin cfg0.N, win0_0.index t = ![(grid0.coords t 0).val * 16 + (grid0.coords t 2).val, (grid0.coords t 1).val] :=
  (by decide +kernel : ∀ t : Fin grid0.N, win0_0.index t = ![(grid0.coords t 0).val * 16 + (grid0.coords t 2).val, (grid0.coords t 1).val])
theorem ix_1 : ∀ t : Fin cfg0.N, win0_1.index t = ![(grid0.coords t 0).val, (grid0.coords t 1).val] :=
  (by decide +kernel : ∀ t : Fin grid0.N, win0_1.index t = ![(grid0.coords t 0).val, (grid0.coords t 1).val])
theorem ix_2 : ∀ t : Fin cfg0.N, win0_2.index t = ![(grid0.coords t 0).val, 0, (grid0.coords t 1).val, 0] :=
  (by decide +kernel : ∀ t : Fin grid0.N, win0_2.index t = ![(grid0.coords t 0).val, 0, (grid0.coords t 1).val, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![(grid0.coords t 0).val * 16 + (grid0.coords t 2).val, (grid0.coords t 1).val] :=
  (by decide +kernel : ∀ t : Fin grid0.N, win0_8.index t = ![(grid0.coords t 0).val * 16 + (grid0.coords t 2).val, (grid0.coords t 1).val])
theorem lim_0 (t : Fin cfg0.N) : (grid0.coords t 0).val < 2 := (grid0.coords t 0).isLt
theorem lim_1 (t : Fin cfg0.N) : (grid0.coords t 1).val < 8 := (grid0.coords t 1).isLt
theorem lim_2 (t : Fin cfg0.N) : (grid0.coords t 2).val < 16 := (grid0.coords t 2).isLt

variable (m : (ℓ : Loc nD τ sig) → Buf (Elt Ideal) ℓ) (c : Dev nD)

theorem blk_3 (t : Fin cfg0.N) (j : Fin 64) : iblk m c 3 t (ix2 0 j) = m ((c.tc : Thread nD τ).loc main_arg3) (ix2 0 j) := by
  blk_ext [iblk, V_main_arg3, ix_3]
theorem blk_4 (t : Fin cfg0.N) (j : Fin 64) : iblk m c 4 t (ix2 0 j) = m ((c.tc : Thread nD τ).loc main_arg4) (ix2 0 j) := by
  blk_ext [iblk, V_main_arg4, ix_4]
theorem blk_5 (t : Fin cfg0.N) (j : Fin 64) : iblk m c 5 t (ix2 0 j) = m ((c.tc : Thread nD τ).loc main_arg5) (ix2 0 j) := by
  blk_ext [iblk, V_main_arg5, ix_5]
theorem blk_6 (t : Fin cfg0.N) (j : Fin 64) : iblk m c 6 t (ix2 0 j) = m ((c.tc : Thread nD τ).loc main_arg6) (ix2 0 j) := by
  blk_ext [iblk, V_main_arg6, ix_6]
theorem blk_7 (t : Fin cfg0.N) (j : Fin 128) : iblk m c 7 t (ix2 0 j) = m ((c.tc : Thread nD τ).loc main_arg7) (ix2 0 j) := by
  blk_ext [iblk, V_main_arg7, ix_7]
theorem blk_0 (t : Fin cfg0.N) (r : Fin 512) (d : Fin 128) : iblk m c 0 t (ix2 r d)
    = m ((c.tc : Thread nD τ).loc main_arg0) (ix2 ⟨((grid0.coords t 0).val * 16 + (grid0.coords t 2).val) * 512 + r.val, by have := lim_0 t; have := lim_2 t; omega⟩ ⟨(grid0.coords t 1).val * 128 + d.val, by have := lim_1 t; omega⟩) := by
  blk_ext [iblk, V_main_arg0, ix_0]
theorem blk_1 (t : Fin cfg0.N) (r : Fin 8192) (d : Fin 128) : iblk m c 1 t (ix2 r d)
    = m ((c.tc : Thread nD τ).loc main_arg1) (ix2 ⟨(grid0.coords t 0).val * 8192 + r.val, by have := lim_0 t; omega⟩ ⟨(grid0.coords t 1).val * 128 + d.val, by have := lim_1 t; omega⟩) := by
  blk_ext [iblk, V_main_arg1, ix_1]
theorem blk_2 (t : Fin cfg0.N) (j : Fin 32) (e : Fin 128) (x : Fin 256) : iblk m c 2 t (ix4 0 j e x)
    = m ((c.tc : Thread nD τ).loc main_arg2) (ix4 ⟨(grid0.coords t 0).val, lim_0 t⟩ j ⟨(grid0.coords t 1).val * 128 + e.val, by have := lim_1 t; omega⟩ x) := by
  blk_ext [iblk, V_main_arg2, ix_2]

/-! ## The array the kernel leaves -/

/-- The first component's scores. -/
theorem sc_lo (Q K : ℕ → ℕ → ℝ) (b h q r : ℕ) (hr : r < 512) :
    Sc (fun r d => Q ((b * 16 + q) * 512 + r) (h * 128 + d)) (fun key d => K (b * 8192 + key) (h * 128 + d)) r = score Q K b (2 * h) (512 * q + r) := by
  funext key
  unfold Sc score
  refine Finset.sum_congr rfl fun d _ => ?_
  exact (mul_comm _ _).trans (congrArg₂ (· * ·) (congrArg₂ Q (by omega) (by omega)) (congrArg₂ K (by omega) (by omega)))

/-- The second component's scores. -/
theorem sc_hi (Q K : ℕ → ℕ → ℝ) (b h q r : ℕ) (hr : r < 512) :
    Sc (fun r d => Q ((b * 16 + q) * 512 + r) (h * 128 + d)) (fun key d => K (b * 8192 + key) (h * 128 + d)) (512 + r) = score Q K b (2 * h + 1) (512 * q + r) := by
  funext key
  unfold Sc score
  refine Finset.sum_congr rfl fun d _ => ?_
  exact (mul_comm _ _).trans (congrArg₂ (· * ·) (congrArg₂ Q (by omega) (by omega)) (congrArg₂ K (by omega) (by omega)))

section

variable {m c} {Q K : ℕ → ℕ → ℝ} {V' : ℕ → ℕ → ℕ → ℝ}
  (hq : ∀ i : S16384x1024.Idx, (m ((c.tc : Thread nD τ).loc main_arg0) i : EReal) = ((Q (i 0).val (i 1).val : ℝ) : EReal))
  (hk : ∀ i : S16384x1024.Idx, (m ((c.tc : Thread nD τ).loc main_arg1) i : EReal) = ((K (i 0).val (i 1).val : ℝ) : EReal))
  (hv : ∀ i : S2x32x1024x256.Idx, (m ((c.tc : Thread nD τ).loc main_arg2) i : EReal) = ((V' (i 0).val (256 * (i 1).val + (i 3).val) (i 2).val : ℝ) : EReal))

include hq hk hv in
/-- The blocks a point reads hold real numbers. -/
theorem blocks (t : Fin cfg0.N) : Blocks (iblk m c 0 t) (iblk m c 1 t) (iblk m c 2 t)
    (fun r d => Q (((grid0.coords t 0).val * 16 + (grid0.coords t 2).val) * 512 + r) ((grid0.coords t 1).val * 128 + d))
    (fun key d => K ((grid0.coords t 0).val * 8192 + key) ((grid0.coords t 1).val * 128 + d))
    (fun key e => V' (grid0.coords t 0).val key ((grid0.coords t 1).val * 128 + e)) where
  q r d := (congrArg _ (blk_0 m c t r d)).trans (hq _)
  k r d := (congrArg _ (blk_1 m c t r d)).trans (hk _)
  v j e x := (congrArg _ (blk_2 m c t j e x)).trans (hv _)

include hq hk hv in
/-- The array the kernel leaves is the reference's result. -/
theorem arr_eq {L : ℝ} (hL : lamE (fun j => m ((c.tc : Thread nD τ).loc main_arg3) (ix2 0 j)) (fun j => m ((c.tc : Thread nD τ).loc main_arg4) (ix2 0 j))
      (fun j => m ((c.tc : Thread nD τ).loc main_arg5) (ix2 0 j)) (fun j => m ((c.tc : Thread nD τ).loc main_arg6) (ix2 0 j)) = (L : EReal)) :
    (dats m 0 c).arrAt 8 cfg0.N = Cert.ReferenceIdeal.Read.val_main_v65 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  rw [after_8]
  obtain ⟨r, e, rfl⟩ : ∃ (r : Fin 512) (e : Fin 128), y = ix2 r e := ⟨y 0, y 1, eq_ix2 y⟩
  have hb := lim_0 t
  have hh := lim_1 t
  have hi := lim_2 t
  have hout := out_at (blocks hq hk hv t) (grid0.coords t) (iblk m c 3 t) (iblk m c 4 t) (iblk m c 5 t) (iblk m c 6 t) (iblk m c 7 t) L
    (by simpa only [blk_3, blk_4, blk_5, blk_6] using hL) r e
  rw [sc_lo Q K _ _ _ _ r.isLt, sc_hi Q K _ _ _ _ r.isLt, blk_7] at hout
  have href := Cert.Proof.RefRead.v65_at (x7 := m ((c.tc : Thread nD τ).loc main_arg7)) hq hk hv hL (((cfg0.win 8).blk t).view.emb (ix2 r e)) ⟨(grid0.coords t 0).val, hb⟩ ⟨512 * (grid0.coords t 2).val + r.val, by omega⟩
    ⟨(grid0.coords t 1).val, hh⟩ e
    (by show _ = 8192 * (grid0.coords t 0).val + (512 * (grid0.coords t 2).val + r.val); blk_simp [ix_8]; omega)
    (by show _ = 128 * (grid0.coords t 1).val + e.val; blk_simp [ix_8]; omega)
  refine Eq.trans ?_ (hout.trans (Eq.trans ?_ href.symm))
  · rfl
  · congr 1
    funext x
    unfold headAt
    simp only [Nat.mul_comm]

end

end Cert.Proof.KernelIdeal

end
-- ==== Proof.PostRef.lean ====
module

public import proofs.«01_k».proof.Proof.Gen.Post.Frame
public import proofs.«01_k».proof.Proof.Gen.Pre_finite_post
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read

@[expose] public section

noncomputable section

end
-- ==== Proof.InRef.lean ====
module

public import proofs.«01_k».proof.Proof.Gen.Inproj.Frame
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.InprojReferenceIdeal.Read

@[expose] public section

noncomputable section

end
-- ==== Proof.InHost.lean ====
module

public import proofs.«01_k».proof.Proof.InRef
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim

@[expose] public section

set_option maxRecDepth 16384

noncomputable section

namespace Cert.Proof.In

open Cert.InprojIdeal Cert.InprojIdeal.Gen
open Idealize.ShloMosaic Idealize.ShloMosaic.TcCoe Idealize.ShloMosaic.Tactic Idealize.ShloMosaic.StableHlo

/-- The cosine of position `p`'s angle of frequency `i`. -/
def cosT (p : Fin 8192) (i : Fin 8) : EReal := Cert.InprojReferenceIdeal.Read.val_main_v23 (F := Ideal) (ix2 p i)
/-- The sine of position `p`'s angle of frequency `i`. -/
def sinT (p : Fin 8192) (i : Fin 8) : EReal := Cert.InprojReferenceIdeal.Read.val_main_v25 (F := Ideal) (ix2 p i)

/-! ## What the host hands to the kernel -/

variable (m : (ℓ : Loc nD τ sig) → Buf (Elt Ideal) ℓ) (c : Dev nD)

theorem V_1 (k : Fin 1024) (j : Fin 1024) : (V m c main_v1 : (⟨S1024x1024, .bf16⟩ : BufTy).Contents (Elt Ideal)) (ix2 k j) = m ((c.tc : Thread nD τ).loc main_arg1) (ix2 k (⟨j.val, by omega⟩ : Fin 5648)) := by
  unfold V
  after_reads_at
theorem V_2 (k : Fin 1024) (j : Fin 1024) : (V m c main_v2 : (⟨S1024x1024, .bf16⟩ : BufTy).Contents (Elt Ideal)) (ix2 k j) = m ((c.tc : Thread nD τ).loc main_arg1) (ix2 k (⟨1024 + j.val, by omega⟩ : Fin 5648)) := by
  unfold V
  after_reads_at
theorem V_3 (k : Fin 1024) (j : Fin 1024) : (V m c main_v3 : (⟨S1024x1024, .bf16⟩ : BufTy).Contents (Elt Ideal)) (ix2 k j) = m ((c.tc : Thread nD τ).loc main_arg1) (ix2 k (⟨2048 + j.val, by omega⟩ : Fin 5648)) := by
  unfold V
  after_reads_at
theorem V_4 (k : Fin 1024) (j : Fin 1024) : (V m c main_v4 : (⟨S1024x1024, .bf16⟩ : BufTy).Contents (Elt Ideal)) (ix2 k j) = m ((c.tc : Thread nD τ).loc main_arg1) (ix2 k (⟨3072 + j.val, by omega⟩ : Fin 5648)) := by
  unfold V
  after_reads_at
theorem V_5 (k : Fin 1024) (j : Fin 1536) : (V m c main_v5 : (⟨S1024x1536, .bf16⟩ : BufTy).Contents (Elt Ideal)) (ix2 k j) = m ((c.tc : Thread nD τ).loc main_arg1) (ix2 k (⟨4096 + j.val, by omega⟩ : Fin 5648)) := by
  unfold V
  after_reads_at
theorem V_7 (k : Fin 1024) (j : Fin 128) : (V m c main_v7 : (⟨S1024x128, .bf16⟩ : BufTy).Contents (Elt Ideal)) (ix2 k j) = (if h : j.val < 16 then m ((c.tc : Thread nD τ).loc main_arg1) (ix2 k (⟨5632 + j.val, by omega⟩ : Fin 5648)) else 0 : EReal) := by
  unfold V
  after_reads_at
  refine dite_congr rfl (fun h => rfl) fun h => ?_
  exact (by simp [FloatOps.sitofp] : (FloatOps.sitofp (F := Ideal) FTy.bf16 (0#32 : BitVec 32) : EReal) = 0)

theorem V_35 (p : Fin 8192) (l : Fin 128) : (V m c main_v35 : (⟨S8192x128, .f32⟩ : BufTy).Contents (Elt Ideal)) (ix2 p l)
    = (if h : l.val % 64 < 8 then cosT p ⟨l.val % 64, h⟩ else if h' : l.val % 64 - 8 < 8 then cosT p ⟨l.val % 64 - 8, h'⟩ else 1 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    try first | rfl | (pointwise; done) | trace_state
  · after_reads_simp
    try first | rfl | (pointwise; done) | trace_state
  · after_reads_simp
    pointwise

theorem V_38 (p : Fin 8192) (l : Fin 128) : (V m c main_v38 : (⟨S8192x128, .f32⟩ : BufTy).Contents (Elt Ideal)) (ix2 p l)
    = (if h : l.val % 64 < 8 then -sinT p ⟨l.val % 64, h⟩ else if h' : l.val % 64 - 8 < 8 then 0 else 0 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    try first | rfl | (pointwise; done) | trace_state
  · after_reads_simp
    try first | rfl | (pointwise; done) | trace_state
  · after_reads_simp
    pointwise

theorem V_41 (p : Fin 8192) (l : Fin 128) : (V m c main_v41 : (⟨S8192x128, .f32⟩ : BufTy).Contents (Elt Ideal)) (ix2 p l)
    = (if h : l.val % 64 < 8 then 0 else if h' : l.val % 64 - 8 < 8 then sinT p ⟨l.val % 64 - 8, h'⟩ else 0 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    try first | rfl | (pointwise; done) | trace_state
  · after_reads_simp
    try first | rfl | (pointwise; done) | trace_state
  · after_reads_simp
    pointwise

end Cert.Proof.In
end
-- ==== Proof.InCan.lean ====
module

public import proofs.«01_k».proof.Proof.InRef
public import Idealize.ShloMosaic.Lib.Pipeline.Value

@[expose] public section

noncomputable section

namespace Cert.Proof.InCan

open Cert.InprojIdeal Cert.InprojIdeal.Gen Idealize.ShloMosaic Idealize.ShloMosaic.TcCoe Idealize.SL.Sem

variable {F : FTy → Type} [FloatOps F] [Named F]

/-! ## The transposed values: eight stored pieces of one product, each a slice of it, transposed -/

set_option backward.proofsInPublic true in
/-- Where block index `y` reads `(k0_pay55 (truncf .bf16 P0 bitsLt_bf16_f32) P1)` (its occurrence 1 in `E17`). -/
abbrev ix17_0 (y : S1x1x1024x256.Idx) : S256x1024.Idx := fun a => match a with | ⟨0, _⟩ => ⟨(y 3).val, by have hy0 : (y 0).val < 1 := (y 0).isLt; have hy1 : (y 1).val < 1 := (y 1).isLt; have hy2 : (y 2).val < 1024 := (y 2).isLt; have hy3 : (y 3).val < 256 := (y 3).isLt; show (y 3).val < 256; omega⟩ | ⟨1, _⟩ => ⟨(y 2).val, by have hy0 : (y 0).val < 1 := (y 0).isLt; have hy1 : (y 1).val < 1 := (y 1).isLt; have hy2 : (y 2).val < 1024 := (y 2).isLt; have hy3 : (y 3).val < 256 := (y 3).isLt; show (y 2).val < 1024; omega⟩

/-- What the pieces leave in the block, stated for arbitrary vectors `P` of the loads' shapes: the body's pointwise
    operations over the loads and over the values it reduces or computes whole from them, each read where the block index's
    element came from through the body's slices, transposes, shape casts and broadcasts. -/
abbrev E17 (P0 : Vec F S256x1024 .f32) (P1 : Vec F S1024x1024 .bf16) : Vec F S1x1x1024x256 .bf16 := fun y => FloatOps.truncf .bf16 bitsLt_bf16_f32 ((k0_pay55 (truncf .bf16 P0 bitsLt_bf16_f32) P1) (ix17_0 y))

/-- Piece 0's payload as the tree of vector operations. -/
theorem lay17_0_eq (P0 : Vec F S256x1024 .f32) (P1 : Vec F S1024x1024 .bf16) : k0_pay56 (k0_pay2 P0) P1 = shapeCast S1x1x128x256 (truncf .bf16 (transpose S128x256 [1, 0] (extractStridedSlice S256x128 ![0, 0] (k0_pay55 (truncf .bf16 P0 bitsLt_bf16_f32) P1) slices_S256x1024_o0_0_S256x128) transposes_S256x128_p1_0_S128x256) bitsLt_bf16_f32) shapeCasts_S128x256_S1x1x128x256 := rfl

/-- Piece 1's payload as the tree of vector operations. -/
theorem lay17_1_eq (P0 : Vec F S256x1024 .f32) (P1 : Vec F S1024x1024 .bf16) : k0_pay57 (k0_pay2 P0) P1 = shapeCast S1x1x128x256 (truncf .bf16 (transpose S128x256 [1, 0] (extractStridedSlice S256x128 ![0, 128] (k0_pay55 (truncf .bf16 P0 bitsLt_bf16_f32) P1) slices_S256x1024_o0_128_S256x128) transposes_S256x128_p1_0_S128x256) bitsLt_bf16_f32) shapeCasts_S128x256_S1x1x128x256 := rfl

/-- Piece 2's payload as the tree of vector operations. -/
theorem lay17_2_eq (P0 : Vec F S256x1024 .f32) (P1 : Vec F S1024x1024 .bf16) : k0_pay58 (k0_pay2 P0) P1 = shapeCast S1x1x128x256 (truncf .bf16 (transpose S128x256 [1, 0] (extractStridedSlice S256x128 ![0, 256] (k0_pay55 (truncf .bf16 P0 bitsLt_bf16_f32) P1) slices_S256x1024_o0_256_S256x128) transposes_S256x128_p1_0_S128x256) bitsLt_bf16_f32) shapeCasts_S128x256_S1x1x128x256 := rfl

/-- Piece 3's payload as the tree of vector operations. -/
theorem lay17_3_eq (P0 : Vec F S256x1024 .f32) (P1 : Vec F S1024x1024 .bf16) : k0_pay59 (k0_pay2 P0) P1 = shapeCast S1x1x128x256 (truncf .bf16 (transpose S128x256 [1, 0] (extractStridedSlice S256x128 ![0, 384] (k0_pay55 (truncf .bf16 P0 bitsLt_bf16_f32) P1) slices_S256x1024_o0_384_S256x128) transposes_S256x128_p1_0_S128x256) bitsLt_bf16_f32) shapeCasts_S128x256_S1x1x128x256 := rfl

/-- Piece 4's payload as the tree of vector operations. -/
theorem lay17_4_eq (P0 : Vec F S256x1024 .f32) (P1 : Vec F S1024x1024 .bf16) : k0_pay61 (k0_pay60 (k0_pay2 P0) P1) = shapeCast S1x1x128x256 (truncf .bf16 (transpose S128x256 [1, 0] (extractStridedSlice S256x128 ![0, 512] (k0_pay55 (truncf .bf16 P0 bitsLt_bf16_f32) P1) slices_S256x1024_o0_512_S256x128) transposes_S256x128_p1_0_S128x256) bitsLt_bf16_f32) shapeCasts_S128x256_S1x1x128x256 := rfl

/-- Piece 5's payload as the tree of vector operations. -/
theorem lay17_5_eq (P0 : Vec F S256x1024 .f32) (P1 : Vec F S1024x1024 .bf16) : k0_pay62 (k0_pay55 (k0_pay2 P0) P1) = shapeCast S1x1x128x256 (truncf .bf16 (transpose S128x256 [1, 0] (extractStridedSlice S256x128 ![0, 640] (k0_pay55 (truncf .bf16 P0 bitsLt_bf16_f32) P1) slices_S256x1024_o0_640_S256x128) transposes_S256x128_p1_0_S128x256) bitsLt_bf16_f32) shapeCasts_S128x256_S1x1x128x256 := rfl

/-- Piece 6's payload as the tree of vector operations. -/
theorem lay17_6_eq (P0 : Vec F S256x1024 .f32) (P1 : Vec F S1024x1024 .bf16) : k0_pay63 (k0_pay55 (k0_pay2 P0) P1) = shapeCast S1x1x128x256 (truncf .bf16 (transpose S128x256 [1, 0] (extractStridedSlice S256x128 ![0, 768] (k0_pay55 (truncf .bf16 P0 bitsLt_bf16_f32) P1) slices_S256x1024_o0_768_S256x128) transposes_S256x128_p1_0_S128x256) bitsLt_bf16_f32) shapeCasts_S128x256_S1x1x128x256 := rfl

/-- Piece 7's payload as the tree of vector operations. -/
theorem lay17_7_eq (P0 : Vec F S256x1024 .f32) (P1 : Vec F S1024x1024 .bf16) : k0_pay64 (k0_pay55 (k0_pay2 P0) P1) = shapeCast S1x1x128x256 (truncf .bf16 (transpose S128x256 [1, 0] (extractStridedSlice S256x128 ![0, 896] (k0_pay55 (truncf .bf16 P0 bitsLt_bf16_f32) P1) slices_S256x1024_o0_896_S256x128) transposes_S256x128_p1_0_S128x256) bitsLt_bf16_f32) shapeCasts_S128x256_S1x1x128x256 := rfl

/-- Piece 0 (through `r0_19`) at its index `x` is `E17` at the block index under it. -/
theorem piece17_0 (P0 : Vec F S256x1024 .f32) (P1 : Vec F S1024x1024 .bf16) (x : S1x1x128x256.Idx) : (k0_pay56 (k0_pay2 P0) P1) x = E17 P0 P1 (r0_19.idx x) := by
  have hx0 : (x 0).val < 1 := (x 0).isLt
  have hx1 : (x 1).val < 1 := (x 1).isLt
  have hx2 : (x 2).val < 128 := (x 2).isLt
  have hx3 : (x 3).val < 256 := (x 3).isLt
  rw [lay17_0_eq P0 P1]
  show (shapeCast S1x1x128x256 (truncf .bf16 (transpose S128x256 [1, 0] (extractStridedSlice S256x128 ![0, 0] (k0_pay55 (truncf .bf16 P0 bitsLt_bf16_f32) P1) slices_S256x1024_o0_0_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_19.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 0] (k0_pay55 (truncf .bf16 P0 bitsLt_bf16_f32) P1) slices_S256x1024_o0_0_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_19.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 0] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val, by show (x 2).val < 1024; omega⟩ : S256x1024.Idx) (fun a => match a with | ⟨0, _⟩ => by show (x 3).val = 0 + (x 3).val; omega | ⟨1, _⟩ => by show (x 2).val = 0 + (x 2).val; omega)).trans ?_
    refine congrArg _ (funext fun a => Fin.ext ?_)
    match a with | ⟨0, _⟩ => show (x 3).val = (0 + 1 * (x 3).val); omega | ⟨1, _⟩ => show (x 2).val = (0 + 1 * (x 2).val); omega
  show FloatOps.truncf .bf16 bitsLt_bf16_f32 ((transpose S128x256 [1, 0] (extractStridedSlice S256x128 ![0, 0] (k0_pay55 (truncf .bf16 P0 bitsLt_bf16_f32) P1) slices_S256x1024_o0_0_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_19.idx x)))
  rw [e1]

/-- Piece 1 (through `r0_20`) at its index `x` is `E17` at the block index under it. -/
theorem piece17_1 (P0 : Vec F S256x1024 .f32) (P1 : Vec F S1024x1024 .bf16) (x : S1x1x128x256.Idx) : (k0_pay57 (k0_pay2 P0) P1) x = E17 P0 P1 (r0_20.idx x) := by
  have hx0 : (x 0).val < 1 := (x 0).isLt
  have hx1 : (x 1).val < 1 := (x 1).isLt
  have hx2 : (x 2).val < 128 := (x 2).isLt
  have hx3 : (x 3).val < 256 := (x 3).isLt
  rw [lay17_1_eq P0 P1]
  show (shapeCast S1x1x128x256 (truncf .bf16 (transpose S128x256 [1, 0] (extractStridedSlice S256x128 ![0, 128] (k0_pay55 (truncf .bf16 P0 bitsLt_bf16_f32) P1) slices_S256x1024_o0_128_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_20.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 128] (k0_pay55 (truncf .bf16 P0 bitsLt_bf16_f32) P1) slices_S256x1024_o0_128_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_20.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 128] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 128, by show (x 2).val + 128 < 1024; omega⟩ : S256x1024.Idx) (fun a => match a with | ⟨0, _⟩ => by show (x 3).val = 0 + (x 3).val; omega | ⟨1, _⟩ => by show (x 2).val + 128 = 128 + (x 2).val; omega)).trans ?_
    refine congrArg _ (funext fun a => Fin.ext ?_)
    match a with | ⟨0, _⟩ => show (x 3).val = (0 + 1 * (x 3).val); omega | ⟨1, _⟩ => show (x 2).val + 128 = (128 + 1 * (x 2).val); omega
  show FloatOps.truncf .bf16 bitsLt_bf16_f32 ((transpose S128x256 [1, 0] (extractStridedSlice S256x128 ![0, 128] (k0_pay55 (truncf .bf16 P0 bitsLt_bf16_f32) P1) slices_S256x1024_o0_128_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_20.idx x)))
  rw [e1]

/-- Piece 2 (through `r0_21`) at its index `x` is `E17` at the block index under it. -/
theorem piece17_2 (P0 : Vec F S256x1024 .f32) (P1 : Vec F S1024x1024 .bf16) (x : S1x1x128x256.Idx) : (k0_pay58 (k0_pay2 P0) P1) x = E17 P0 P1 (r0_21.idx x) := by
  have hx0 : (x 0).val < 1 := (x 0).isLt
  have hx1 : (x 1).val < 1 := (x 1).isLt
  have hx2 : (x 2).val < 128 := (x 2).isLt
  have hx3 : (x 3).val < 256 := (x 3).isLt
  rw [lay17_2_eq P0 P1]
  show (shapeCast S1x1x128x256 (truncf .bf16 (transpose S128x256 [1, 0] (extractStridedSlice S256x128 ![0, 256] (k0_pay55 (truncf .bf16 P0 bitsLt_bf16_f32) P1) slices_S256x1024_o0_256_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_21.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 256] (k0_pay55 (truncf .bf16 P0 bitsLt_bf16_f32) P1) slices_S256x1024_o0_256_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_21.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 256] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 256, by show (x 2).val + 256 < 1024; omega⟩ : S256x1024.Idx) (fun a => match a with | ⟨0, _⟩ => by show (x 3).val = 0 + (x 3).val; omega | ⟨1, _⟩ => by show (x 2).val + 256 = 256 + (x 2).val; omega)).trans ?_
    refine congrArg _ (funext fun a => Fin.ext ?_)
    match a with | ⟨0, _⟩ => show (x 3).val = (0 + 1 * (x 3).val); omega | ⟨1, _⟩ => show (x 2).val + 256 = (256 + 1 * (x 2).val); omega
  show FloatOps.truncf .bf16 bitsLt_bf16_f32 ((transpose S128x256 [1, 0] (extractStridedSlice S256x128 ![0, 256] (k0_pay55 (truncf .bf16 P0 bitsLt_bf16_f32) P1) slices_S256x1024_o0_256_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_21.idx x)))
  rw [e1]

/-- Piece 3 (through `r0_22`) at its index `x` is `E17` at the block index under it. -/
theorem piece17_3 (P0 : Vec F S256x1024 .f32) (P1 : Vec F S1024x1024 .bf16) (x : S1x1x128x256.Idx) : (k0_pay59 (k0_pay2 P0) P1) x = E17 P0 P1 (r0_22.idx x) := by
  have hx0 : (x 0).val < 1 := (x 0).isLt
  have hx1 : (x 1).val < 1 := (x 1).isLt
  have hx2 : (x 2).val < 128 := (x 2).isLt
  have hx3 : (x 3).val < 256 := (x 3).isLt
  rw [lay17_3_eq P0 P1]
  show (shapeCast S1x1x128x256 (truncf .bf16 (transpose S128x256 [1, 0] (extractStridedSlice S256x128 ![0, 384] (k0_pay55 (truncf .bf16 P0 bitsLt_bf16_f32) P1) slices_S256x1024_o0_384_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_22.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 384] (k0_pay55 (truncf .bf16 P0 bitsLt_bf16_f32) P1) slices_S256x1024_o0_384_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_22.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 384] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 384, by show (x 2).val + 384 < 1024; omega⟩ : S256x1024.Idx) (fun a => match a with | ⟨0, _⟩ => by show (x 3).val = 0 + (x 3).val; omega | ⟨1, _⟩ => by show (x 2).val + 384 = 384 + (x 2).val; omega)).trans ?_
    refine congrArg _ (funext fun a => Fin.ext ?_)
    match a with | ⟨0, _⟩ => show (x 3).val = (0 + 1 * (x 3).val); omega | ⟨1, _⟩ => show (x 2).val + 384 = (384 + 1 * (x 2).val); omega
  show FloatOps.truncf .bf16 bitsLt_bf16_f32 ((transpose S128x256 [1, 0] (extractStridedSlice S256x128 ![0, 384] (k0_pay55 (truncf .bf16 P0 bitsLt_bf16_f32) P1) slices_S256x1024_o0_384_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_22.idx x)))
  rw [e1]

/-- Piece 4 (through `r0_23`) at its index `x` is `E17` at the block index under it. -/
theorem piece17_4 (P0 : Vec F S256x1024 .f32) (P1 : Vec F S1024x1024 .bf16) (x : S1x1x128x256.Idx) : (k0_pay61 (k0_pay60 (k0_pay2 P0) P1)) x = E17 P0 P1 (r0_23.idx x) := by
  have hx0 : (x 0).val < 1 := (x 0).isLt
  have hx1 : (x 1).val < 1 := (x 1).isLt
  have hx2 : (x 2).val < 128 := (x 2).isLt
  have hx3 : (x 3).val < 256 := (x 3).isLt
  rw [lay17_4_eq P0 P1]
  show (shapeCast S1x1x128x256 (truncf .bf16 (transpose S128x256 [1, 0] (extractStridedSlice S256x128 ![0, 512] (k0_pay55 (truncf .bf16 P0 bitsLt_bf16_f32) P1) slices_S256x1024_o0_512_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_23.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 512] (k0_pay55 (truncf .bf16 P0 bitsLt_bf16_f32) P1) slices_S256x1024_o0_512_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_23.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 512] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 512, by show (x 2).val + 512 < 1024; omega⟩ : S256x1024.Idx) (fun a => match a with | ⟨0, _⟩ => by show (x 3).val = 0 + (x 3).val; omega | ⟨1, _⟩ => by show (x 2).val + 512 = 512 + (x 2).val; omega)).trans ?_
    refine congrArg _ (funext fun a => Fin.ext ?_)
    match a with | ⟨0, _⟩ => show (x 3).val = (0 + 1 * (x 3).val); omega | ⟨1, _⟩ => show (x 2).val + 512 = (512 + 1 * (x 2).val); omega
  show FloatOps.truncf .bf16 bitsLt_bf16_f32 ((transpose S128x256 [1, 0] (extractStridedSlice S256x128 ![0, 512] (k0_pay55 (truncf .bf16 P0 bitsLt_bf16_f32) P1) slices_S256x1024_o0_512_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_23.idx x)))
  rw [e1]

/-- Piece 5 (through `r0_24`) at its index `x` is `E17` at the block index under it. -/
theorem piece17_5 (P0 : Vec F S256x1024 .f32) (P1 : Vec F S1024x1024 .bf16) (x : S1x1x128x256.Idx) : (k0_pay62 (k0_pay55 (k0_pay2 P0) P1)) x = E17 P0 P1 (r0_24.idx x) := by
  have hx0 : (x 0).val < 1 := (x 0).isLt
  have hx1 : (x 1).val < 1 := (x 1).isLt
  have hx2 : (x 2).val < 128 := (x 2).isLt
  have hx3 : (x 3).val < 256 := (x 3).isLt
  rw [lay17_5_eq P0 P1]
  show (shapeCast S1x1x128x256 (truncf .bf16 (transpose S128x256 [1, 0] (extractStridedSlice S256x128 ![0, 640] (k0_pay55 (truncf .bf16 P0 bitsLt_bf16_f32) P1) slices_S256x1024_o0_640_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_24.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 640] (k0_pay55 (truncf .bf16 P0 bitsLt_bf16_f32) P1) slices_S256x1024_o0_640_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_24.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 640] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 640, by show (x 2).val + 640 < 1024; omega⟩ : S256x1024.Idx) (fun a => match a with | ⟨0, _⟩ => by show (x 3).val = 0 + (x 3).val; omega | ⟨1, _⟩ => by show (x 2).val + 640 = 640 + (x 2).val; omega)).trans ?_
    refine congrArg _ (funext fun a => Fin.ext ?_)
    match a with | ⟨0, _⟩ => show (x 3).val = (0 + 1 * (x 3).val); omega | ⟨1, _⟩ => show (x 2).val + 640 = (640 + 1 * (x 2).val); omega
  show FloatOps.truncf .bf16 bitsLt_bf16_f32 ((transpose S128x256 [1, 0] (extractStridedSlice S256x128 ![0, 640] (k0_pay55 (truncf .bf16 P0 bitsLt_bf16_f32) P1) slices_S256x1024_o0_640_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_24.idx x)))
  rw [e1]

/-- Piece 6 (through `r0_25`) at its index `x` is `E17` at the block index under it. -/
theorem piece17_6 (P0 : Vec F S256x1024 .f32) (P1 : Vec F S1024x1024 .bf16) (x : S1x1x128x256.Idx) : (k0_pay63 (k0_pay55 (k0_pay2 P0) P1)) x = E17 P0 P1 (r0_25.idx x) := by
  have hx0 : (x 0).val < 1 := (x 0).isLt
  have hx1 : (x 1).val < 1 := (x 1).isLt
  have hx2 : (x 2).val < 128 := (x 2).isLt
  have hx3 : (x 3).val < 256 := (x 3).isLt
  rw [lay17_6_eq P0 P1]
  show (shapeCast S1x1x128x256 (truncf .bf16 (transpose S128x256 [1, 0] (extractStridedSlice S256x128 ![0, 768] (k0_pay55 (truncf .bf16 P0 bitsLt_bf16_f32) P1) slices_S256x1024_o0_768_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_25.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 768] (k0_pay55 (truncf .bf16 P0 bitsLt_bf16_f32) P1) slices_S256x1024_o0_768_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_25.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 768] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 768, by show (x 2).val + 768 < 1024; omega⟩ : S256x1024.Idx) (fun a => match a with | ⟨0, _⟩ => by show (x 3).val = 0 + (x 3).val; omega | ⟨1, _⟩ => by show (x 2).val + 768 = 768 + (x 2).val; omega)).trans ?_
    refine congrArg _ (funext fun a => Fin.ext ?_)
    match a with | ⟨0, _⟩ => show (x 3).val = (0 + 1 * (x 3).val); omega | ⟨1, _⟩ => show (x 2).val + 768 = (768 + 1 * (x 2).val); omega
  show FloatOps.truncf .bf16 bitsLt_bf16_f32 ((transpose S128x256 [1, 0] (extractStridedSlice S256x128 ![0, 768] (k0_pay55 (truncf .bf16 P0 bitsLt_bf16_f32) P1) slices_S256x1024_o0_768_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_25.idx x)))
  rw [e1]

/-- Piece 7 (through `r0_26`) at its index `x` is `E17` at the block index under it. -/
theorem piece17_7 (P0 : Vec F S256x1024 .f32) (P1 : Vec F S1024x1024 .bf16) (x : S1x1x128x256.Idx) : (k0_pay64 (k0_pay55 (k0_pay2 P0) P1)) x = E17 P0 P1 (r0_26.idx x) := by
  have hx0 : (x 0).val < 1 := (x 0).isLt
  have hx1 : (x 1).val < 1 := (x 1).isLt
  have hx2 : (x 2).val < 128 := (x 2).isLt
  have hx3 : (x 3).val < 256 := (x 3).isLt
  rw [lay17_7_eq P0 P1]
  show (shapeCast S1x1x128x256 (truncf .bf16 (transpose S128x256 [1, 0] (extractStridedSlice S256x128 ![0, 896] (k0_pay55 (truncf .bf16 P0 bitsLt_bf16_f32) P1) slices_S256x1024_o0_896_S256x128) transposes_S256x128_p1_0_S128x256) bitsLt_bf16_f32) shapeCasts_S128x256_S1x1x128x256) x = FloatOps.truncf .bf16 bitsLt_bf16_f32 ((k0_pay55 (truncf .bf16 P0 bitsLt_bf16_f32) P1) (ix17_0 (r0_26.idx x)))
  refine (shapeCast_apply _ _ x (fun a => match a with | ⟨0, _⟩ => ⟨(x 2).val, by show (x 2).val < 128; omega⟩ | ⟨1, _⟩ => ⟨(x 3).val, by show (x 3).val < 256; omega⟩ : S128x256.Idx) (by rw [Shape.rowMajor_val_two, Shape.rowMajor_val_four]; show (x 2).val * 256 + (x 3).val = (((x 0).val * 1 + (x 1).val) * 128 + (x 2).val) * 256 + (x 3).val; omega)).trans ?_
  have e1 : (transpose S128x256 [1, 0] (extractStridedSlice S256x128 ![0, 896] (k0_pay55 (truncf .bf16 P0 bitsLt_bf16_f32) P1) slices_S256x1024_o0_896_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx) = ((k0_pay55 (truncf .bf16 P0 bitsLt_bf16_f32) P1) (ix17_0 (r0_26.idx x))) := by
    refine (transpose_apply [1, 0] _ _ (fun a => match a with | ⟨0, _⟩ => ⟨(x 2).val, by show (x 2).val < 128; omega⟩ | ⟨1, _⟩ => ⟨(x 3).val, by show (x 3).val < 256; omega⟩ : S128x256.Idx) (fun a => match a with | ⟨0, _⟩ => ⟨(x 3).val, by show (x 3).val < 256; omega⟩ | ⟨1, _⟩ => ⟨(x 2).val, by show (x 2).val < 128; omega⟩ : S256x128.Idx) (fun b => match b with | ⟨0, _⟩ => by show (x 2).val = (x 2).val; omega | ⟨1, _⟩ => by show (x 3).val = (x 3).val; omega)).trans ?_
    refine (extractStridedSlice_apply ![0, 896] _ _ (fun a => match a with | ⟨0, _⟩ => ⟨(x 3).val, by show (x 3).val < 256; omega⟩ | ⟨1, _⟩ => ⟨(x 2).val, by show (x 2).val < 128; omega⟩ : S256x128.Idx) (fun a => match a with | ⟨0, _⟩ => ⟨(x 3).val, by show (x 3).val < 256; omega⟩ | ⟨1, _⟩ => ⟨(x 2).val + 896, by show (x 2).val + 896 < 1024; omega⟩ : S256x1024.Idx) (fun a => match a with | ⟨0, _⟩ => by show (x 3).val = 0 + (x 3).val; omega | ⟨1, _⟩ => by show (x 2).val + 896 = 896 + (x 2).val; omega)).trans ?_
    refine congrArg _ (funext fun a => Fin.ext ?_)
    match a with | ⟨0, _⟩ => show (x 3).val = (0 + 1 * (x 3).val); omega | ⟨1, _⟩ => show (x 2).val + 896 = (896 + 1 * (x 2).val); omega
  show FloatOps.truncf .bf16 bitsLt_bf16_f32 ((transpose S128x256 [1, 0] (extractStridedSlice S256x128 ![0, 896] (k0_pay55 (truncf .bf16 P0 bitsLt_bf16_f32) P1) slices_S256x1024_o0_896_S256x128) transposes_S256x128_p1_0_S128x256) (fun a => match a with | ⟨0, _⟩ => ⟨(x 2).val, by show (x 2).val < 128; omega⟩ | ⟨1, _⟩ => ⟨(x 3).val, by show (x 3).val < 256; omega⟩ : S128x256.Idx)) = FloatOps.truncf .bf16 bitsLt_bf16_f32 ((k0_pay55 (truncf .bf16 P0 bitsLt_bf16_f32) P1) (ix17_0 (r0_26.idx x)))
  rw [e1]

/-- THE CANON OF THE PIECES is `E17`: what point after point leaves in the block (the frame's `out0_17` is this canon at
    the point's operands), stated over the operands as variables — each piece at its index is `E17` at the block index under
    it (`piece17_j`), and the pieces cover the block (the frame's `cover0_17`). -/
theorem canon17_eq (P0 : Vec F S256x1024 .f32) (P1 : Vec F S1024x1024 .bf16) (y : S1x1x1024x256.Idx) :
    View.canon [⟨r0_26, k0_pay64 (k0_pay55 (k0_pay2 P0) P1)⟩, ⟨r0_25, k0_pay63 (k0_pay55 (k0_pay2 P0) P1)⟩, ⟨r0_24, k0_pay62 (k0_pay55 (k0_pay2 P0) P1)⟩, ⟨r0_23, k0_pay61 (k0_pay60 (k0_pay2 P0) P1)⟩, ⟨r0_22, k0_pay59 (k0_pay2 P0) P1⟩, ⟨r0_21, k0_pay58 (k0_pay2 P0) P1⟩, ⟨r0_20, k0_pay57 (k0_pay2 P0) P1⟩, ⟨r0_19, k0_pay56 (k0_pay2 P0) P1⟩] y = E17 P0 P1 y := by
  refine View.canon_apply_of_pieces (E17 P0 P1) _ ?_ y (cover0_17 _ _ _ _ _ _ _ _ y)
  intro pc hpc
  rcases List.mem_cons.mp hpc with rfl | hpc  -- piece 7, through `r0_26`
  · exact fun x => piece17_7 P0 P1 x
  rcases List.mem_cons.mp hpc with rfl | hpc  -- piece 6, through `r0_25`
  · exact fun x => piece17_6 P0 P1 x
  rcases List.mem_cons.mp hpc with rfl | hpc  -- piece 5, through `r0_24`
  · exact fun x => piece17_5 P0 P1 x
  rcases List.mem_cons.mp hpc with rfl | hpc  -- piece 4, through `r0_23`
  · exact fun x => piece17_4 P0 P1 x
  rcases List.mem_cons.mp hpc with rfl | hpc  -- piece 3, through `r0_22`
  · exact fun x => piece17_3 P0 P1 x
  rcases List.mem_cons.mp hpc with rfl | hpc  -- piece 2, through `r0_21`
  · exact fun x => piece17_2 P0 P1 x
  rcases List.mem_cons.mp hpc with rfl | hpc  -- piece 1, through `r0_20`
  · exact fun x => piece17_1 P0 P1 x
  rcases List.mem_cons.mp hpc with rfl | hpc  -- piece 0, through `r0_19`
  · exact fun x => piece17_0 P0 P1 x
  nomatch hpc

end Cert.Proof.InCan

end
-- ==== Proof.InKer.lean ====
module

public import proofs.«01_k».proof.Proof.InHost
public import proofs.«01_k».proof.Proof.InCan
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.In

open Cert.InprojIdeal Cert.InprojIdeal.Gen
open Idealize.ShloMosaic Idealize.ShloMosaic.TcCoe Idealize.ShloMosaic.Tactic

/-! ## The kernel's block values at an index -/

/-- A row's product with a matrix, at a column. -/
def pm {n w : Nat} (x : Fin n → Fin 1024 → EReal) (W : Fin 1024 → Fin w → EReal) (r : Fin n) (j : Fin w) : EReal := ∑ k : Fin 1024, x r k * W k j

/-- The rotation as the kernel takes it: within a group of 128 columns, the column itself, the one eight after it and the
    one eight before it, each by its table. -/
def rotK (f : Fin 1024 → EReal) (a b c : Fin 128 → EReal) (e : Fin 1024) : EReal :=
  f e * a ⟨e.val % 128, Nat.mod_lt _ (by decide)⟩
    + f ⟨e.val / 128 * 128 + (e.val % 128 + 8) % 128, by omega⟩ * b ⟨e.val % 128, Nat.mod_lt _ (by decide)⟩
    + f ⟨e.val / 128 * 128 + (e.val % 128 + 120) % 128, by omega⟩ * c ⟨e.val % 128, Nat.mod_lt _ (by decide)⟩

/-- The scale of the queries. -/
def qs : EReal := Named.named (F := Ideal) (φ := .f32) Cert.InprojIdeal.κ "qscale" 0x3E38AA3B#32

variable (x0 : Vec Ideal S256x1024 .f32) (x1 : Vec Ideal S1024x1024 .bf16) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S256x128 .f32) (x8 : Vec Ideal S256x128 .f32) (x9 : Vec Ideal S256x128 .f32)

theorem pm_at (r : Fin 256) (e : Fin 1024) : (k0_pay6 x0 x1 (ix2 r e) : EReal) = pm (fun r k => x0 (ix2 r k)) (fun k j => x1 (ix2 k j)) r e := by
  pointwise [k0_pay6, k0_pay2, pm]

theorem rotK_of (f : Fin 1024 → EReal) (a b c : Fin 128 → EReal) (e e0 e1 e2 : Fin 1024) (l : Fin 128) (h0 : e0.val = e.val) (hl : l.val = e.val % 128)
    (h1 : e1.val = e.val / 128 * 128 + (e.val % 128 + 8) % 128) (h2 : e2.val = e.val / 128 * 128 + (e.val % 128 + 120) % 128) :
    f e0 * a l + f e1 * b l + f e2 * c l = rotK f a b c e := by
  have h3 : e0 = e := Fin.ext h0
  have h4 : l = ⟨e.val % 128, Nat.mod_lt _ (by decide)⟩ := Fin.ext hl
  have h5 : e1 = ⟨e.val / 128 * 128 + (e.val % 128 + 8) % 128, by omega⟩ := Fin.ext h1
  have h6 : e2 = ⟨e.val / 128 * 128 + (e.val % 128 + 120) % 128, by omega⟩ := Fin.ext h2
  exact congrArg₂ (· + ·) (congrArg₂ (· + ·) (congrArg₂ (· * ·) (congrArg f h3) (congrArg a h4)) (congrArg₂ (· * ·) (congrArg f h5) (congrArg b h4)))
    (congrArg₂ (· * ·) (congrArg f h6) (congrArg c h4))

/-- A block's rotated queries or keys. -/
def R (x0 : Vec Ideal S256x1024 .f32) (w : Vec Ideal S1024x1024 .bf16) (r : Fin 256) (e : Fin 1024) : EReal :=
  rotK (fun e => k0_pay6 x0 w (ix2 r e)) (fun l => x7 (ix2 r l)) (fun l => x8 (ix2 r l)) (fun l => x9 (ix2 r l)) e

theorem idx_0 (r : Fin 256) (l : Fin 128) : r0_3.idx (ix2 r l) = ix2 r (⟨0 + l.val, by omega⟩ : Fin 1024) :=
  funext fun a => Fin.ext (match a with | ⟨0, _⟩ => (by show 0 + 1 * r.val = r.val; omega) | ⟨1, _⟩ => (by show 0 + 1 * l.val = 0 + l.val; omega))
theorem idxt_0 (u : Fin 1) (l : Fin 128) (r : Fin 256) : r0_11.idx (ix3 u l r) = ix3 u (⟨0 + l.val, by omega⟩ : Fin 1024) r :=
  funext fun a => Fin.ext (match a with | ⟨0, _⟩ => (by show 0 + 1 * u.val = u.val; omega) | ⟨1, _⟩ => (by show 0 + 1 * l.val = 0 + l.val; omega) | ⟨2, _⟩ => (by show 0 + 1 * r.val = r.val; omega))
theorem idx_1 (r : Fin 256) (l : Fin 128) : r0_4.idx (ix2 r l) = ix2 r (⟨128 + l.val, by omega⟩ : Fin 1024) :=
  funext fun a => Fin.ext (match a with | ⟨0, _⟩ => (by show 0 + 1 * r.val = r.val; omega) | ⟨1, _⟩ => (by show 128 + 1 * l.val = 128 + l.val; omega))
theorem idxt_1 (u : Fin 1) (l : Fin 128) (r : Fin 256) : r0_12.idx (ix3 u l r) = ix3 u (⟨128 + l.val, by omega⟩ : Fin 1024) r :=
  funext fun a => Fin.ext (match a with | ⟨0, _⟩ => (by show 0 + 1 * u.val = u.val; omega) | ⟨1, _⟩ => (by show 128 + 1 * l.val = 128 + l.val; omega) | ⟨2, _⟩ => (by show 0 + 1 * r.val = r.val; omega))
theorem idx_2 (r : Fin 256) (l : Fin 128) : r0_5.idx (ix2 r l) = ix2 r (⟨256 + l.val, by omega⟩ : Fin 1024) :=
  funext fun a => Fin.ext (match a with | ⟨0, _⟩ => (by show 0 + 1 * r.val = r.val; omega) | ⟨1, _⟩ => (by show 256 + 1 * l.val = 256 + l.val; omega))
theorem idxt_2 (u : Fin 1) (l : Fin 128) (r : Fin 256) : r0_13.idx (ix3 u l r) = ix3 u (⟨256 + l.val, by omega⟩ : Fin 1024) r :=
  funext fun a => Fin.ext (match a with | ⟨0, _⟩ => (by show 0 + 1 * u.val = u.val; omega) | ⟨1, _⟩ => (by show 256 + 1 * l.val = 256 + l.val; omega) | ⟨2, _⟩ => (by show 0 + 1 * r.val = r.val; omega))
theorem idx_3 (r : Fin 256) (l : Fin 128) : r0_6.idx (ix2 r l) = ix2 r (⟨384 + l.val, by omega⟩ : Fin 1024) :=
  funext fun a => Fin.ext (match a with | ⟨0, _⟩ => (by show 0 + 1 * r.val = r.val; omega) | ⟨1, _⟩ => (by show 384 + 1 * l.val = 384 + l.val; omega))
theorem idxt_3 (u : Fin 1) (l : Fin 128) (r : Fin 256) : r0_14.idx (ix3 u l r) = ix3 u (⟨384 + l.val, by omega⟩ : Fin 1024) r :=
  funext fun a => Fin.ext (match a with | ⟨0, _⟩ => (by show 0 + 1 * u.val = u.val; omega) | ⟨1, _⟩ => (by show 384 + 1 * l.val = 384 + l.val; omega) | ⟨2, _⟩ => (by show 0 + 1 * r.val = r.val; omega))
theorem idx_4 (r : Fin 256) (l : Fin 128) : r0_7.idx (ix2 r l) = ix2 r (⟨512 + l.val, by omega⟩ : Fin 1024) :=
  funext fun a => Fin.ext (match a with | ⟨0, _⟩ => (by show 0 + 1 * r.val = r.val; omega) | ⟨1, _⟩ => (by show 512 + 1 * l.val = 512 + l.val; omega))
theorem idxt_4 (u : Fin 1) (l : Fin 128) (r : Fin 256) : r0_15.idx (ix3 u l r) = ix3 u (⟨512 + l.val, by omega⟩ : Fin 1024) r :=
  funext fun a => Fin.ext (match a with | ⟨0, _⟩ => (by show 0 + 1 * u.val = u.val; omega) | ⟨1, _⟩ => (by show 512 + 1 * l.val = 512 + l.val; omega) | ⟨2, _⟩ => (by show 0 + 1 * r.val = r.val; omega))
theorem idx_5 (r : Fin 256) (l : Fin 128) : r0_8.idx (ix2 r l) = ix2 r (⟨640 + l.val, by omega⟩ : Fin 1024) :=
  funext fun a => Fin.ext (match a with | ⟨0, _⟩ => (by show 0 + 1 * r.val = r.val; omega) | ⟨1, _⟩ => (by show 640 + 1 * l.val = 640 + l.val; omega))
theorem idxt_5 (u : Fin 1) (l : Fin 128) (r : Fin 256) : r0_16.idx (ix3 u l r) = ix3 u (⟨640 + l.val, by omega⟩ : Fin 1024) r :=
  funext fun a => Fin.ext (match a with | ⟨0, _⟩ => (by show 0 + 1 * u.val = u.val; omega) | ⟨1, _⟩ => (by show 640 + 1 * l.val = 640 + l.val; omega) | ⟨2, _⟩ => (by show 0 + 1 * r.val = r.val; omega))
theorem idx_6 (r : Fin 256) (l : Fin 128) : r0_9.idx (ix2 r l) = ix2 r (⟨768 + l.val, by omega⟩ : Fin 1024) :=
  funext fun a => Fin.ext (match a with | ⟨0, _⟩ => (by show 0 + 1 * r.val = r.val; omega) | ⟨1, _⟩ => (by show 768 + 1 * l.val = 768 + l.val; omega))
theorem idxt_6 (u : Fin 1) (l : Fin 128) (r : Fin 256) : r0_17.idx (ix3 u l r) = ix3 u (⟨768 + l.val, by omega⟩ : Fin 1024) r :=
  funext fun a => Fin.ext (match a with | ⟨0, _⟩ => (by show 0 + 1 * u.val = u.val; omega) | ⟨1, _⟩ => (by show 768 + 1 * l.val = 768 + l.val; omega) | ⟨2, _⟩ => (by show 0 + 1 * r.val = r.val; omega))
theorem idx_7 (r : Fin 256) (l : Fin 128) : r0_10.idx (ix2 r l) = ix2 r (⟨896 + l.val, by omega⟩ : Fin 1024) :=
  funext fun a => Fin.ext (match a with | ⟨0, _⟩ => (by show 0 + 1 * r.val = r.val; omega) | ⟨1, _⟩ => (by show 896 + 1 * l.val = 896 + l.val; omega))
theorem idxt_7 (u : Fin 1) (l : Fin 128) (r : Fin 256) : r0_18.idx (ix3 u l r) = ix3 u (⟨896 + l.val, by omega⟩ : Fin 1024) r :=
  funext fun a => Fin.ext (match a with | ⟨0, _⟩ => (by show 0 + 1 * u.val = u.val; omega) | ⟨1, _⟩ => (by show 896 + 1 * l.val = 896 + l.val; omega) | ⟨2, _⟩ => (by show 0 + 1 * r.val = r.val; omega))

theorem k0_pay2_id (x : Vec Ideal S256x1024 .f32) : (k0_pay2 x : S256x1024.Idx → EReal) = x := by
  funext j; pointwise [k0_pay2]
theorem p25 (w : Vec Ideal S1024x1024 .bf16) : k0_pay25 (k0_pay2 x0) w = k0_pay6 x0 w := by
  rfl

/-! ### The queries -/

theorem q_0 (r : Fin 256) (l : Fin 128) : (k0_pay17 (k0_pay7 x0 x7 x8 x9 x1) (ix2 r l) : EReal) = R x7 x8 x9 x0 x1 r ⟨0 + l.val, by omega⟩ * qs := by
  pointwise [k0_pay17, k0_pay7, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_1 (r : Fin 256) (l : Fin 128) : (k0_pay18 (k0_pay8 x0 x7 x8 x9 x1) (ix2 r l) : EReal) = R x7 x8 x9 x0 x1 r ⟨128 + l.val, by omega⟩ * qs := by
  pointwise [k0_pay18, k0_pay8, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_2 (r : Fin 256) (l : Fin 128) : (k0_pay19 (k0_pay9 x0 x7 x8 x9 x1) (Named.named κ "qscale" 0x3E38AA3B#32) (ix2 r l) : EReal) = R x7 x8 x9 x0 x1 r ⟨256 + l.val, by omega⟩ * qs := by
  pointwise [k0_pay19, k0_pay9, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_3 (r : Fin 256) (l : Fin 128) : (k0_pay20 (k0_pay12 (k0_pay5 x9) (k0_pay10 x0 x1) (k0_pay11 x0 x7 x8 x1) 8#32) (ix2 r l) : EReal) = R x7 x8 x9 x0 x1 r ⟨384 + l.val, by omega⟩ * qs := by
  pointwise [k0_pay20, k0_pay12, k0_pay11, k0_pay10, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_4 (r : Fin 256) (l : Fin 128) : (k0_pay21 (k0_pay13 (k0_pay3 x7) (k0_pay4 x8) (k0_pay5 x9) (k0_pay6 x0 x1)) (ix2 r l) : EReal) = R x7 x8 x9 x0 x1 r ⟨512 + l.val, by omega⟩ * qs := by
  pointwise [k0_pay21, k0_pay13, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_5 (r : Fin 256) (l : Fin 128) : (k0_pay22 (k0_pay14 (k0_pay3 x7) (k0_pay4 x8) (k0_pay5 x9) (k0_pay6 x0 x1)) (ix2 r l) : EReal) = R x7 x8 x9 x0 x1 r ⟨640 + l.val, by omega⟩ * qs := by
  pointwise [k0_pay22, k0_pay14, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_6 (r : Fin 256) (l : Fin 128) : (k0_pay23 (k0_pay15 (k0_pay3 x7) (k0_pay4 x8) (k0_pay5 x9) (k0_pay6 x0 x1)) (ix2 r l) : EReal) = R x7 x8 x9 x0 x1 r ⟨768 + l.val, by omega⟩ * qs := by
  pointwise [k0_pay23, k0_pay15, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)
theorem q_7 (r : Fin 256) (l : Fin 128) : (k0_pay24 (k0_pay16 (k0_pay3 x7) (k0_pay4 x8) (k0_pay5 x9) (k0_pay6 x0 x1)) (ix2 r l) : EReal) = R x7 x8 x9 x0 x1 r ⟨896 + l.val, by omega⟩ * qs := by
  pointwise [k0_pay24, k0_pay16, k0_pay3, k0_pay4, k0_pay5]
  refine congrArg (· * qs) (rotK_of (fun e => k0_pay6 x0 x1 (ix2 r e)) (fun l => x7 (ix2 r l)) (fun l => x8 (ix2 r l)) (fun l => x9 (ix2 r l)) _ _ _ _ _ ?_ ?_ ?_ ?_) <;> first | rfl | omega | (simp only []; omega)

theorem out10_at (r : Fin 256) (e : Fin 1024) : (out0_10 x0 x1 x2 x3 x4 x5 x6 x7 x8 x9 (ix2 r e) : EReal) = R x7 x8 x9 x0 x1 r e * qs := by
  unfold_out out0_10
  simp (disch := decide) only [View.ld_unit_lit']
  refine View.canon_apply_of_pieces (Val := Elt Ideal) (fun y : S256x1024.Idx => (R x7 x8 x9 x0 x1 (y 0) (y 1) * qs : EReal)) _ ?_ (ix2 r e) (cover0_10 _ _ _ _ _ _ _ _ _)
  intro pc hpc
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_10.idx (ix2 r l))
    rw [idx_7]
    exact q_7 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_9.idx (ix2 r l))
    rw [idx_6]
    exact q_6 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_8.idx (ix2 r l))
    rw [idx_5]
    exact q_5 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_7.idx (ix2 r l))
    rw [idx_4]
    exact q_4 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_6.idx (ix2 r l))
    rw [idx_3]
    exact q_3 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_5.idx (ix2 r l))
    rw [idx_2]
    exact q_2 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_4.idx (ix2 r l))
    rw [idx_1]
    exact q_1 x0 x1 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x1 (y 0) (y 1) * qs : EReal)) (r0_3.idx (ix2 r l))
    rw [idx_0]
    exact q_0 x0 x1 x7 x8 x9 r l
  exact nomatch hpc

/-! ### The keys -/

theorem k_0 (r : Fin 256) (l : Fin 128) : (k0_pay28 (k0_pay5 x9) (k0_pay26 (k0_pay2 x0) x2) (k0_pay27 (k0_pay2 x0) (k0_pay3 x7) (k0_pay4 x8) x2) 8#32 (ix2 r l) : EReal) = R x7 x8 x9 x0 x2 r ⟨0 + l.val, by omega⟩ := by
  pointwise [k0_pay28, k0_pay27, k0_pay26, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_1 (r : Fin 256) (l : Fin 128) : (k0_pay29 (k0_pay3 x7) (k0_pay4 x8) (k0_pay5 x9) (k0_pay25 (k0_pay2 x0) x2) (ix2 r l) : EReal) = R x7 x8 x9 x0 x2 r ⟨128 + l.val, by omega⟩ := by
  pointwise [k0_pay29, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_2 (r : Fin 256) (l : Fin 128) : (k0_pay30 (k0_pay3 x7) (k0_pay4 x8) (k0_pay5 x9) (k0_pay25 (k0_pay2 x0) x2) (ix2 r l) : EReal) = R x7 x8 x9 x0 x2 r ⟨256 + l.val, by omega⟩ := by
  pointwise [k0_pay30, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_3 (r : Fin 256) (l : Fin 128) : (k0_pay31 (k0_pay3 x7) (k0_pay4 x8) (k0_pay5 x9) (k0_pay25 (k0_pay2 x0) x2) (ix2 r l) : EReal) = R x7 x8 x9 x0 x2 r ⟨384 + l.val, by omega⟩ := by
  pointwise [k0_pay31, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_4 (r : Fin 256) (l : Fin 128) : (k0_pay32 (k0_pay3 x7) (k0_pay4 x8) (k0_pay5 x9) (k0_pay25 (k0_pay2 x0) x2) (ix2 r l) : EReal) = R x7 x8 x9 x0 x2 r ⟨512 + l.val, by omega⟩ := by
  pointwise [k0_pay32, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_5 (r : Fin 256) (l : Fin 128) : (k0_pay33 (k0_pay3 x7) (k0_pay4 x8) (k0_pay5 x9) (k0_pay25 (k0_pay2 x0) x2) (ix2 r l) : EReal) = R x7 x8 x9 x0 x2 r ⟨640 + l.val, by omega⟩ := by
  pointwise [k0_pay33, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_6 (r : Fin 256) (l : Fin 128) : (k0_pay36 (k0_pay5 x9) (k0_pay34 (k0_pay25 (k0_pay2 x0) x2)) (k0_pay35 (k0_pay3 x7) (k0_pay4 x8) (k0_pay25 (k0_pay2 x0) x2)) 8#32 (ix2 r l) : EReal) = R x7 x8 x9 x0 x2 r ⟨768 + l.val, by omega⟩ := by
  pointwise [k0_pay36, k0_pay35, k0_pay34, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem k_7 (r : Fin 256) (l : Fin 128) : (k0_pay37 (k0_pay3 x7) (k0_pay4 x8) (k0_pay5 x9) (k0_pay25 (k0_pay2 x0) x2) (ix2 r l) : EReal) = R x7 x8 x9 x0 x2 r ⟨896 + l.val, by omega⟩ := by
  pointwise [k0_pay37, k0_pay3, k0_pay4, k0_pay5]
  refine rotK_of (fun e => k0_pay25 (k0_pay2 x0) x2 (ix2 r e)) (fun l => x7 (ix2 r l)) (fun l => x8 (ix2 r l)) (fun l => x9 (ix2 r l)) _ _ _ _ _ ?_ ?_ ?_ ?_ <;> first | rfl | omega | (simp only []; omega)
theorem kb_0 (P : FVec Ideal S256x128 .f32) (r : Fin 256) (l : Fin 128) : (k0_pay38 P (ix2 r l) : EReal) = P (ix2 r l) := by
  pointwise [k0_pay38]
theorem kt_0 (P : FVec Ideal S256x128 .f32) (u : Fin 1) (l : Fin 128) (r : Fin 256) : (k0_pay39 P (ix3 u l r) : EReal) = P (ix2 r l) := by
  pointwise [k0_pay39]
theorem kb_1 (P : FVec Ideal S256x128 .f32) (r : Fin 256) (l : Fin 128) : (k0_pay40 P (ix2 r l) : EReal) = P (ix2 r l) := by
  pointwise [k0_pay40]
theorem kt_1 (P : FVec Ideal S256x128 .f32) (u : Fin 1) (l : Fin 128) (r : Fin 256) : (k0_pay41 P (ix3 u l r) : EReal) = P (ix2 r l) := by
  pointwise [k0_pay41]
theorem kb_2 (P : FVec Ideal S256x128 .f32) (r : Fin 256) (l : Fin 128) : (k0_pay42 P (ix2 r l) : EReal) = P (ix2 r l) := by
  pointwise [k0_pay42]
theorem kt_2 (P : FVec Ideal S256x128 .f32) (u : Fin 1) (l : Fin 128) (r : Fin 256) : (k0_pay43 P (ix3 u l r) : EReal) = P (ix2 r l) := by
  pointwise [k0_pay43]
theorem kb_3 (P : FVec Ideal S256x128 .f32) (r : Fin 256) (l : Fin 128) : (k0_pay44 P (ix2 r l) : EReal) = P (ix2 r l) := by
  pointwise [k0_pay44]
theorem kt_3 (P : FVec Ideal S256x128 .f32) (u : Fin 1) (l : Fin 128) (r : Fin 256) : (k0_pay46 (k0_pay45 P) (ix3 u l r) : EReal) = P (ix2 r l) := by
  pointwise [k0_pay46, k0_pay45]
theorem kb_4 (P : FVec Ideal S256x128 .f32) (r : Fin 256) (l : Fin 128) : (k0_pay47 P (ix2 r l) : EReal) = P (ix2 r l) := by
  pointwise [k0_pay47]
theorem kt_4 (P : FVec Ideal S256x128 .f32) (u : Fin 1) (l : Fin 128) (r : Fin 256) : (k0_pay48 P (ix3 u l r) : EReal) = P (ix2 r l) := by
  pointwise [k0_pay48]
theorem kb_5 (P : FVec Ideal S256x128 .f32) (r : Fin 256) (l : Fin 128) : (k0_pay49 P (ix2 r l) : EReal) = P (ix2 r l) := by
  pointwise [k0_pay49]
theorem kt_5 (P : FVec Ideal S256x128 .f32) (u : Fin 1) (l : Fin 128) (r : Fin 256) : (k0_pay50 P (ix3 u l r) : EReal) = P (ix2 r l) := by
  pointwise [k0_pay50]
theorem kb_6 (P : FVec Ideal S256x128 .f32) (r : Fin 256) (l : Fin 128) : (k0_pay51 P (ix2 r l) : EReal) = P (ix2 r l) := by
  pointwise [k0_pay51]
theorem kt_6 (P : FVec Ideal S256x128 .f32) (u : Fin 1) (l : Fin 128) (r : Fin 256) : (k0_pay52 P (ix3 u l r) : EReal) = P (ix2 r l) := by
  pointwise [k0_pay52]
theorem kb_7 (P : FVec Ideal S256x128 .f32) (r : Fin 256) (l : Fin 128) : (k0_pay53 P (ix2 r l) : EReal) = P (ix2 r l) := by
  pointwise [k0_pay53]
theorem kt_7 (P : FVec Ideal S256x128 .f32) (u : Fin 1) (l : Fin 128) (r : Fin 256) : (k0_pay54 P (ix3 u l r) : EReal) = P (ix2 r l) := by
  pointwise [k0_pay54]

theorem out16_at (r : Fin 256) (e : Fin 1024) : (out0_16 x0 x1 x2 x3 x4 x5 x6 x7 x8 x9 (ix2 r e) : EReal) = R x7 x8 x9 x0 x2 r e := by
  unfold_out out0_16
  simp (disch := decide) only [View.ld_unit_lit']
  refine View.canon_apply_of_pieces (Val := Elt Ideal) (fun y : S256x1024.Idx => (R x7 x8 x9 x0 x2 (y 0) (y 1) : EReal)) _ ?_ (ix2 r e) (cover0_16 _ _ _ _ _ _ _ _ _)
  intro pc hpc
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_10.idx (ix2 r l))
    rw [idx_7]
    exact (kb_7 _ r l).trans (k_7 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_9.idx (ix2 r l))
    rw [idx_6]
    exact (kb_6 _ r l).trans (k_6 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_8.idx (ix2 r l))
    rw [idx_5]
    exact (kb_5 _ r l).trans (k_5 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_7.idx (ix2 r l))
    rw [idx_4]
    exact (kb_4 _ r l).trans (k_4 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_6.idx (ix2 r l))
    rw [idx_3]
    exact (kb_3 _ r l).trans (k_3 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_5.idx (ix2 r l))
    rw [idx_2]
    exact (kb_2 _ r l).trans (k_2 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_4.idx (ix2 r l))
    rw [idx_1]
    exact (kb_1 _ r l).trans (k_1 x0 x2 x7 x8 x9 r l)
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_3.idx (ix2 r l))
    rw [idx_0]
    exact (kb_0 _ r l).trans (k_0 x0 x2 x7 x8 x9 r l)
  exact nomatch hpc

theorem out11_at (u : Fin 1) (e : Fin 1024) (r : Fin 256) : (out0_11 x0 x1 x2 x3 x4 x5 x6 x7 x8 x9 (ix3 u e r) : EReal) = R x7 x8 x9 x0 x2 r e := by
  unfold_out out0_11
  simp (disch := decide) only [View.ld_unit_lit']
  refine View.canon_apply_of_pieces (Val := Elt Ideal) (fun y : S1x1024x256.Idx => (R x7 x8 x9 x0 x2 (y 2) (y 1) : EReal)) _ ?_ (ix3 u e r) (cover0_11 _ _ _ _ _ _ _ _ _)
  intro pc hpc
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_18.idx (ix3 u l r))
    rw [idxt_7]
    exact (kt_7 _ u l r).trans (k_7 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_17.idx (ix3 u l r))
    rw [idxt_6]
    exact (kt_6 _ u l r).trans (k_6 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_16.idx (ix3 u l r))
    rw [idxt_5]
    exact (kt_5 _ u l r).trans (k_5 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_15.idx (ix3 u l r))
    rw [idxt_4]
    exact (kt_4 _ u l r).trans (k_4 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_14.idx (ix3 u l r))
    rw [idxt_3]
    exact (kt_3 _ u l r).trans (k_3 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_13.idx (ix3 u l r))
    rw [idxt_2]
    exact (kt_2 _ u l r).trans (k_2 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_12.idx (ix3 u l r))
    rw [idxt_1]
    exact (kt_1 _ u l r).trans (k_1 x0 x2 x7 x8 x9 r l)
  rcases List.mem_cons.mp hpc with rfl | hpc
  · intro x
    obtain ⟨u, l, r, rfl⟩ : ∃ (u : Fin 1) (l : Fin 128) (r : Fin 256), x = ix3 u l r := ⟨x 0, x 1, x 2, eq_ix3 x⟩
    show _ = (fun y : S1x1024x256.Idx => (R x7 x8 x9 x0 x2 (y 2) (y 1) : EReal)) (r0_11.idx (ix3 u l r))
    rw [idxt_0]
    exact (kt_0 _ u l r).trans (k_0 x0 x2 x7 x8 x9 r l)
  exact nomatch hpc

/-! ### The columns that are not rotated -/

theorem out12_at (r : Fin 256) (e : Fin 1024) : (out0_12 x0 x1 x2 x3 x4 x5 x6 x7 x8 x9 (ix2 r e) : EReal) = pm (fun r k => x0 (ix2 r k)) (fun k j => x3 (ix2 k j)) r e := by
  unfold_out out0_12
  simp (disch := decide) only [View.canon_cons_unit_lit', View.ld_unit_lit']
  pointwise [k0_pay55, k0_pay2, pm]
theorem out13_at (r : Fin 256) (e : Fin 1024) : (out0_13 x0 x1 x2 x3 x4 x5 x6 x7 x8 x9 (ix2 r e) : EReal) = pm (fun r k => x0 (ix2 r k)) (fun k j => x4 (ix2 k j)) r e := by
  unfold_out out0_13
  simp (disch := decide) only [View.canon_cons_unit_lit', View.ld_unit_lit']
  pointwise [k0_pay65, k0_pay2, pm]
theorem out14_at (r : Fin 256) (e : Fin 1536) : (out0_14 x0 x1 x2 x3 x4 x5 x6 x7 x8 x9 (ix2 r e) : EReal) = pm (fun r k => x0 (ix2 r k)) (fun k j => x5 (ix2 k j)) r e := by
  unfold_out out0_14
  simp (disch := decide) only [View.canon_cons_unit_lit', View.ld_unit_lit']
  pointwise [k0_pay66, k0_pay2, pm]
theorem out15_at (r : Fin 256) (e : Fin 128) : (out0_15 x0 x1 x2 x3 x4 x5 x6 x7 x8 x9 (ix2 r e) : EReal) = pm (fun r k => x0 (ix2 r k)) (fun k j => x6 (ix2 k j)) r e := by
  unfold_out out0_15
  simp (disch := decide) only [View.canon_cons_unit_lit', View.ld_unit_lit']
  pointwise [k0_pay1, k0_pay67, k0_pay2, pm]
theorem out17_at (u v : Fin 1) (e : Fin 1024) (r : Fin 256) : (out0_17 x0 x1 x2 x3 x4 x5 x6 x7 x8 x9 (ix4 u v e r) : EReal) = pm (fun r k => x0 (ix2 r k)) (fun k j => x3 (ix2 k j)) r e := by
  unfold_out out0_17
  simp (disch := decide) only [View.ld_unit_lit']
  refine (Cert.Proof.InCan.canon17_eq x0 x3 (ix4 u v e r)).trans ?_
  have h : Cert.Proof.InCan.ix17_0 (ix4 u v e r) = ix2 r e := funext fun a => match a with | ⟨0, _⟩ => rfl | ⟨1, _⟩ => rfl
  show (k0_pay55 (truncf .bf16 x0 bitsLt_bf16_f32) x3 (Cert.Proof.InCan.ix17_0 (ix4 u v e r)) : EReal) = _
  rw [h]
  pointwise [k0_pay55, pm]

end Cert.Proof.In
end
-- ==== Proof.InRead.lean ====
module

public import proofs.«01_k».proof.Proof.InKer
public import Idealize.ShloMosaic.Lib.IdealHost

@[expose] public section

set_option maxRecDepth 16384

noncomputable section

namespace Cert.Proof.In

open Cert.InprojReferenceIdeal Cert.InprojReferenceIdeal.Read
open Idealize.ShloMosaic Idealize.ShloMosaic.TcCoe Idealize.ShloMosaic.Tactic

/-! ## The reference's results at an index -/

/-- The rotation as the reference takes it: of each head's 64 columns the first eight and the next eight are the two
    halves of the rotated pairs, the other columns are left as they are. -/
def rotR (f : Fin 1024 → EReal) (p : Fin 8192) (e : Fin 1024) : EReal :=
  if h : e.val % 64 < 8 then f e * cosT p ⟨e.val % 64, h⟩ - f ⟨e.val / 64 * 64 + (e.val % 64 + 8), by omega⟩ * sinT p ⟨e.val % 64, h⟩
  else if h' : e.val % 64 - 8 < 8 then f e * cosT p ⟨e.val % 64 - 8, h'⟩ + f ⟨e.val / 64 * 64 + (e.val % 64 - 8), by omega⟩ * sinT p ⟨e.val % 64 - 8, h'⟩
  else f e

variable (x : (⟨S16384x1024, .f32⟩ : BufTy).Contents (Elt Ideal)) (w : (⟨S1024x5648, .f32⟩ : BufTy).Contents (Elt Ideal))

/-- With the tables' rows the kernel's rotation is the reference's. -/
theorem rotK_eq (f : Fin 1024 → EReal) (a b c : Fin 128 → EReal) (p : Fin 8192)
    (ha : ∀ l : Fin 128, a l = if h : l.val % 64 < 8 then cosT p ⟨l.val % 64, h⟩ else if h' : l.val % 64 - 8 < 8 then cosT p ⟨l.val % 64 - 8, h'⟩ else 1)
    (hb : ∀ l : Fin 128, b l = if h : l.val % 64 < 8 then -sinT p ⟨l.val % 64, h⟩ else if h' : l.val % 64 - 8 < 8 then 0 else 0)
    (hc : ∀ l : Fin 128, c l = if h : l.val % 64 < 8 then 0 else if h' : l.val % 64 - 8 < 8 then sinT p ⟨l.val % 64 - 8, h'⟩ else 0) (e : Fin 1024) :
    rotK f a b c e = rotR f p e := by
  have hm : e.val % 128 % 64 = e.val % 64 := by omega
  unfold rotK rotR
  simp only [ha, hb, hc, hm]
  by_cases h : e.val % 64 < 8
  · simp only [dif_pos h, mul_zero, add_zero, mul_neg]
    rw [sub_eq_add_neg]
    refine congrArg (fun z => f e * cosT p ⟨e.val % 64, h⟩ + -(f z * sinT p ⟨e.val % 64, h⟩)) (Fin.ext ?_)
    show e.val / 128 * 128 + (e.val % 128 + 8) % 128 = e.val / 64 * 64 + (e.val % 64 + 8)
    omega
  · by_cases h' : e.val % 64 - 8 < 8
    · simp only [dif_neg h, dif_pos h', mul_zero, add_zero]
      refine congrArg (fun z => f e * cosT p ⟨e.val % 64 - 8, h'⟩ + f z * sinT p ⟨e.val % 64 - 8, h'⟩) (Fin.ext ?_)
      show e.val / 128 * 128 + (e.val % 128 + 120) % 128 = e.val / 64 * 64 + (e.val % 64 - 8)
      omega
    · simp only [dif_neg h, dif_neg h', mul_zero, add_zero, mul_one]

theorem v41_at (r : Fin 16384) (e : Fin 1024) : (val_main_v41 (F := Ideal) x w (ix2 r e) : EReal)
    = rotR (fun e => val_main_v1 (F := Ideal) x w (ix2 r e)) ⟨r.val % 8192, Nat.mod_lt _ (by decide)⟩ e := by
  pointwise [val_main_v41, val_main_v40, val_main_v33, val_main_v30, val_main_v32, val_main_v38, val_main_v35, val_main_v37, val_main_v39, val_main_v36, val_main_v34, val_main_v31, val_main_v29, val_main_v28, val_main_v27, val_main_v26, val_main_v24, val_main_v7]
  unfold rotR cosT sinT
  refine dite_congr rfl (fun h => ?_) fun h => dite_congr rfl (fun h' => ?_) fun h' => ?_
  · exact congrArg₂ (· - ·) rfl (congrArg₂ (· * ·) (congrArg (fun e => val_main_v1 (F := Ideal) x w (ix2 r e)) (Fin.ext (by show _ + (8 + _) = _ + (_ + 8); omega))) rfl)
  · exact congrArg₂ (· + ·) (congrArg₂ (· * ·) (congrArg (fun e => val_main_v1 (F := Ideal) x w (ix2 r e)) (Fin.ext (by show e.val / 64 * 64 + (8 + (e.val % 64 - 8)) = e.val; omega))) rfl) rfl
  · exact congrArg (fun e => val_main_v1 (F := Ideal) x w (ix2 r e)) (Fin.ext (by show e.val / 64 * 64 + (16 + (e.val % 64 - 8 - 8)) = e.val; omega))
theorem v82_at (r : Fin 16384) (e : Fin 1024) : (val_main_v82 (F := Ideal) x w (ix2 r e) : EReal)
    = rotR (fun e => val_main_v2 (F := Ideal) x w (ix2 r e)) ⟨r.val % 8192, Nat.mod_lt _ (by decide)⟩ e := by
  pointwise [val_main_v82, val_main_v81, val_main_v74, val_main_v71, val_main_v73, val_main_v79, val_main_v76, val_main_v78, val_main_v80, val_main_v77, val_main_v75, val_main_v72, val_main_v70, val_main_v69, val_main_v68, val_main_v67, val_main_v65, val_main_v48]
  unfold rotR cosT sinT
  refine dite_congr rfl (fun h => ?_) fun h => dite_congr rfl (fun h' => ?_) fun h' => ?_
  · exact congrArg₂ (· - ·) rfl (congrArg₂ (· * ·) (congrArg (fun e => val_main_v2 (F := Ideal) x w (ix2 r e)) (Fin.ext (by show _ + (8 + _) = _ + (_ + 8); omega))) rfl)
  · exact congrArg₂ (· + ·) (congrArg₂ (· * ·) (congrArg (fun e => val_main_v2 (F := Ideal) x w (ix2 r e)) (Fin.ext (by show e.val / 64 * 64 + (8 + (e.val % 64 - 8)) = e.val; omega))) rfl) rfl
  · exact congrArg (fun e => val_main_v2 (F := Ideal) x w (ix2 r e)) (Fin.ext (by show e.val / 64 * 64 + (16 + (e.val % 64 - 8 - 8)) = e.val; omega))

theorem two_eq : (Ideal.ofBits .f32 0x40000000#32 : EReal) = ((2 : ℝ) : EReal) := by
  simp [Ideal.ofBits, Ideal.ieee, -EReal.coe_mul]
  try norm_num
theorem eighth_eq : (Ideal.ofBits .f32 0x3E000000#32 : EReal) = ((8⁻¹ : ℝ) : EReal) := by
  simp [Ideal.ofBits, Ideal.ieee, -EReal.coe_mul]
  try norm_num
theorem log2_eq : Ideal.log (Ideal.ofBits .f32 0x40000000#32 : EReal) = ((Real.log 2 : ℝ) : EReal) := by
  rw [two_eq]
  exact (if_neg (by norm_num : ¬ (2 : ℝ) ≤ 0))
theorem log2_ne : Real.log 2 ≠ 0 := (Real.log_pos one_lt_two).ne'

theorem v88_at (r : Fin 16384) (e : Fin 1024) : (val_main_v88 (F := Ideal) x w (ix2 r e) : EReal)
    = val_main_v41 (F := Ideal) x w (ix2 r e) * ((8⁻¹ * (Real.log 2)⁻¹ : ℝ) : EReal) := by
  pointwise [val_main_v88, val_main_v47, val_main_v46, val_main_v45, val_main_v44, val_main_v43, val_main_v42, val_main_cst_2, val_main_cst_3]
  show Ideal.div (val_main_v41 x w (ix2 r e) * Ideal.ofBits .f32 0x3E000000#32) (Ideal.log (Ideal.ofBits .f32 0x40000000#32)) = _
  rw [log2_eq, eighth_eq, Ideal.div_coe log2_ne, mul_assoc, one_div, ← EReal.coe_mul]
theorem v84_at (b : Fin 2) (e : Fin 1024) (p : Fin 8192) : (val_main_v84 (F := Ideal) x w (ix3 b e p) : EReal)
    = val_main_v82 (F := Ideal) x w (ix2 (⟨b.val * 8192 + p.val, by omega⟩ : Fin 16384) e) := by
  rw [val_main_v84_apply, val_main_v83_apply]
  refine congrArg (val_main_v82 (F := Ideal) x w) (funext fun a => Fin.ext (match a with | ⟨0, _⟩ => ?_ | ⟨1, _⟩ => ?_))
  · show ((b.val * 8192 + p.val) * 1024 + e.val) / 1024 = b.val * 8192 + p.val
    omega
  · show ((b.val * 8192 + p.val) * 1024 + e.val) % 1024 = e.val
    omega
theorem v89_at (r : Fin 16384) (e : Fin 1024) : (val_main_v89 (F := Ideal) x w (ix2 r e) : EReal) = val_main_v82 (F := Ideal) x w (ix2 r e) := by
  pointwise [val_main_v89]
theorem v90_at (b : Fin 2) (s : Fin 32) (e : Fin 1024) (r : Fin 256) : (val_main_v90 (F := Ideal) x w (ix4 b s e r) : EReal)
    = val_main_v3 (F := Ideal) x w (ix2 (⟨(b.val * 32 + s.val) * 256 + r.val, by omega⟩ : Fin 16384) e) := by
  pointwise [val_main_v90, val_main_v86, val_main_v85]
  exact congrArg (fun r => val_main_v3 (F := Ideal) x w (ix2 r e)) (Fin.ext (by show b.val * 8192 + s.val * 256 + r.val = (b.val * 32 + s.val) * 256 + r.val; omega))
theorem v1_at (r : Fin 16384) (e : Fin 1024) : (val_main_v1 (F := Ideal) x w (ix2 r e) : EReal) = ∑ k : Fin 1024, x (ix2 r k) * w (ix2 k (⟨e.val, by omega⟩ : Fin 5648)) := by
  pointwise [val_main_v1, val_main_v0]
theorem v2_at (r : Fin 16384) (e : Fin 1024) : (val_main_v2 (F := Ideal) x w (ix2 r e) : EReal) = ∑ k : Fin 1024, x (ix2 r k) * w (ix2 k (⟨1024 + e.val, by omega⟩ : Fin 5648)) := by
  pointwise [val_main_v2, val_main_v0]
theorem v3_at (r : Fin 16384) (e : Fin 1024) : (val_main_v3 (F := Ideal) x w (ix2 r e) : EReal) = ∑ k : Fin 1024, x (ix2 r k) * w (ix2 k (⟨2048 + e.val, by omega⟩ : Fin 5648)) := by
  pointwise [val_main_v3, val_main_v0]
theorem v4_at (r : Fin 16384) (e : Fin 1024) : (val_main_v4 (F := Ideal) x w (ix2 r e) : EReal) = ∑ k : Fin 1024, x (ix2 r k) * w (ix2 k (⟨3072 + e.val, by omega⟩ : Fin 5648)) := by
  pointwise [val_main_v4, val_main_v0]
theorem v5_at (r : Fin 16384) (e : Fin 1536) : (val_main_v5 (F := Ideal) x w (ix2 r e) : EReal) = ∑ k : Fin 1024, x (ix2 r k) * w (ix2 k (⟨4096 + e.val, by omega⟩ : Fin 5648)) := by
  pointwise [val_main_v5, val_main_v0]
theorem v87_at (r : Fin 16384) (e : Fin 128) : (val_main_v87 (F := Ideal) x w (ix2 r e) : EReal) = if h : e.val < 16 then ∑ k : Fin 1024, x (ix2 r k) * w (ix2 k (⟨5632 + e.val, by omega⟩ : Fin 5648)) else 0 := by
  pointwise [val_main_v87, val_main_v6, val_main_v0]
  refine dite_congr rfl (fun h => rfl) fun h => ?_
  show (((0#32 : BitVec 32).toInt : ℝ) : EReal) = 0
  simp
end Cert.Proof.In
end
-- ==== Proof.InArr.lean ====
module

public import proofs.«01_k».proof.Proof.InRead
public import Idealize.ShloMosaic.Lib.Pipeline.ValueKit.Geometry
public import Idealize.ShloMosaic.Lib.Pipeline.Value

@[expose] public section

set_option maxRecDepth 16384

noncomputable section

namespace Cert.Proof.In

open Cert.InprojIdeal Cert.InprojIdeal.Gen
open Idealize.ShloMosaic Idealize.ShloMosaic.TcCoe Idealize.ShloMosaic.Tactic
open Idealize.ShloMosaic.Pipeline (Dat Cfg Window)

/-! ## The blocks of the arrays -/

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![t.val % 32, 0] := (by decide +kernel : ∀ t : Fin grid0.N, win0_7.index t = ![t.val % 32, 0])
theorem ix_8 : ∀ t : Fin cfg0.N, win0_8.index t = ![t.val % 32, 0] := (by decide +kernel : ∀ t : Fin grid0.N, win0_8.index t = ![t.val % 32, 0])
theorem ix_9 : ∀ t : Fin cfg0.N, win0_9.index t = ![t.val % 32, 0] := (by decide +kernel : ∀ t : Fin grid0.N, win0_9.index t = ![t.val % 32, 0])
theorem ix_10 : ∀ t : Fin cfg0.N, win0_10.index t = ![t.val, 0] := (by decide +kernel : ∀ t : Fin grid0.N, win0_10.index t = ![t.val, 0])
theorem ix_11 : ∀ t : Fin cfg0.N, win0_11.index t = ![t.val / 32, 0, t.val % 32] := (by decide +kernel : ∀ t : Fin grid0.N, win0_11.index t = ![t.val / 32, 0, t.val % 32])
theorem ix_12 : ∀ t : Fin cfg0.N, win0_12.index t = ![t.val, 0] := (by decide +kernel : ∀ t : Fin grid0.N, win0_12.index t = ![t.val, 0])
theorem ix_13 : ∀ t : Fin cfg0.N, win0_13.index t = ![t.val, 0] := (by decide +kernel : ∀ t : Fin grid0.N, win0_13.index t = ![t.val, 0])
theorem ix_14 : ∀ t : Fin cfg0.N, win0_14.index t = ![t.val, 0] := (by decide +kernel : ∀ t : Fin grid0.N, win0_14.index t = ![t.val, 0])
theorem ix_15 : ∀ t : Fin cfg0.N, win0_15.index t = ![t.val, 0] := (by decide +kernel : ∀ t : Fin grid0.N, win0_15.index t = ![t.val, 0])
theorem ix_16 : ∀ t : Fin cfg0.N, win0_16.index t = ![t.val, 0] := (by decide +kernel : ∀ t : Fin grid0.N, win0_16.index t = ![t.val, 0])
theorem ix_17 : ∀ t : Fin cfg0.N, win0_17.index t = ![t.val / 32, t.val % 32, 0, 0] := (by decide +kernel : ∀ t : Fin grid0.N, win0_17.index t = ![t.val / 32, t.val % 32, 0, 0])
theorem lim (t : Fin cfg0.N) : t.val < 64 := t.isLt

variable (m : (ℓ : Loc nD τ sig) → Buf (Elt Ideal) ℓ) (c : Dev nD)

abbrev aX : (⟨S16384x1024, .f32⟩ : BufTy).Contents (Elt Ideal) := m ((c.tc : Thread nD τ).loc main_arg0)
abbrev aW : (⟨S1024x5648, .f32⟩ : BufTy).Contents (Elt Ideal) := m ((c.tc : Thread nD τ).loc main_arg1)

theorem blk_0 (t : Fin cfg0.N) (r : Fin 256) (d : Fin 1024) : iblk m c 0 t (ix2 r d) = aX m c (ix2 (⟨t.val * 256 + r.val, by have := lim t; omega⟩ : Fin 16384) d) := by
  blk_ext [iblk, V_main_arg0, ix_0]
theorem blk_1 (t : Fin cfg0.N) (k : Fin 1024) (d : Fin 1024) : iblk m c 1 t (ix2 k d) = aW m c (ix2 k (⟨d.val, by omega⟩ : Fin 5648)) := by
  refine Eq.trans ?_ (V_1 m c k d)
  blk_ext [iblk, ix_1]
theorem blk_2 (t : Fin cfg0.N) (k : Fin 1024) (d : Fin 1024) : iblk m c 2 t (ix2 k d) = aW m c (ix2 k (⟨1024 + d.val, by omega⟩ : Fin 5648)) := by
  refine Eq.trans ?_ (V_2 m c k d)
  blk_ext [iblk, ix_2]
theorem blk_3 (t : Fin cfg0.N) (k : Fin 1024) (d : Fin 1024) : iblk m c 3 t (ix2 k d) = aW m c (ix2 k (⟨2048 + d.val, by omega⟩ : Fin 5648)) := by
  refine Eq.trans ?_ (V_3 m c k d)
  blk_ext [iblk, ix_3]
theorem blk_4 (t : Fin cfg0.N) (k : Fin 1024) (d : Fin 1024) : iblk m c 4 t (ix2 k d) = aW m c (ix2 k (⟨3072 + d.val, by omega⟩ : Fin 5648)) := by
  refine Eq.trans ?_ (V_4 m c k d)
  blk_ext [iblk, ix_4]
theorem blk_5 (t : Fin cfg0.N) (k : Fin 1024) (d : Fin 1536) : iblk m c 5 t (ix2 k d) = aW m c (ix2 k (⟨4096 + d.val, by omega⟩ : Fin 5648)) := by
  refine Eq.trans ?_ (V_5 m c k d)
  blk_ext [iblk, ix_5]
theorem blk_6 (t : Fin cfg0.N) (k : Fin 1024) (d : Fin 128) : (iblk m c 6 t (ix2 k d) : EReal) = if h : d.val < 16 then aW m c (ix2 k (⟨5632 + d.val, by omega⟩ : Fin 5648)) else 0 := by
  refine Eq.trans ?_ (V_7 m c k d)
  blk_ext [iblk, ix_6]
theorem blk_7 (t : Fin cfg0.N) (r : Fin 256) (P : Fin 8192) (hP : P.val = t.val % 32 * 256 + r.val) (l : Fin 128) : (iblk m c 7 t (ix2 r l) : EReal) = if h : l.val % 64 < 8 then cosT P ⟨l.val % 64, h⟩ else if h' : l.val % 64 - 8 < 8 then cosT P ⟨l.val % 64 - 8, h'⟩ else 1 := by
  have e : (⟨t.val % 32 * 256 + r.val, by clear hP; omega⟩ : Fin 8192) = P := Fin.ext hP.symm
  refine Eq.trans ?_ (V_35 m c P l)
  rw [← e]
  blk_ext [iblk, ix_7]
theorem blk_8 (t : Fin cfg0.N) (r : Fin 256) (P : Fin 8192) (hP : P.val = t.val % 32 * 256 + r.val) (l : Fin 128) : (iblk m c 8 t (ix2 r l) : EReal) = if h : l.val % 64 < 8 then -sinT P ⟨l.val % 64, h⟩ else if h' : l.val % 64 - 8 < 8 then 0 else 0 := by
  have e : (⟨t.val % 32 * 256 + r.val, by clear hP; omega⟩ : Fin 8192) = P := Fin.ext hP.symm
  refine Eq.trans ?_ (V_38 m c P l)
  rw [← e]
  blk_ext [iblk, ix_8]
theorem blk_9 (t : Fin cfg0.N) (r : Fin 256) (P : Fin 8192) (hP : P.val = t.val % 32 * 256 + r.val) (l : Fin 128) : (iblk m c 9 t (ix2 r l) : EReal) = if h : l.val % 64 < 8 then 0 else if h' : l.val % 64 - 8 < 8 then sinT P ⟨l.val % 64 - 8, h'⟩ else 0 := by
  have e : (⟨t.val % 32 * 256 + r.val, by clear hP; omega⟩ : Fin 8192) = P := Fin.ext hP.symm
  refine Eq.trans ?_ (V_41 m c P l)
  rw [← e]
  blk_ext [iblk, ix_9]

/-! ## The arrays the kernel leaves -/

theorem R_q (t : Fin cfg0.N) (r : Fin 256) (e : Fin 1024) : R (iblk m c 7 t) (iblk m c 8 t) (iblk m c 9 t) (iblk m c 0 t) (iblk m c 1 t) r e
    = Cert.InprojReferenceIdeal.Read.val_main_v41 (F := Ideal) (aX m c) (aW m c) (ix2 (⟨t.val * 256 + r.val, by have := lim t; omega⟩ : Fin 16384) e) := by
  have ht := lim t
  have hP : (t.val * 256 + r.val) % 8192 = t.val % 32 * 256 + r.val := by omega
  rw [Cert.Proof.In.v41_at]
  unfold R
  rw [rotK_eq _ _ _ _ ⟨(t.val * 256 + r.val) % 8192, Nat.mod_lt _ (by decide)⟩ (fun l => blk_7 m c t r _ hP l) (fun l => blk_8 m c t r _ hP l) (fun l => blk_9 m c t r _ hP l) e]
  refine congrArg (fun f => rotR f _ e) (funext fun j => ?_)
  rw [pm_at, Cert.Proof.In.v1_at]
  unfold pm
  simp only [blk_0, blk_1]
theorem R_k (t : Fin cfg0.N) (r : Fin 256) (e : Fin 1024) : R (iblk m c 7 t) (iblk m c 8 t) (iblk m c 9 t) (iblk m c 0 t) (iblk m c 2 t) r e
    = Cert.InprojReferenceIdeal.Read.val_main_v82 (F := Ideal) (aX m c) (aW m c) (ix2 (⟨t.val * 256 + r.val, by have := lim t; omega⟩ : Fin 16384) e) := by
  have ht := lim t
  have hP : (t.val * 256 + r.val) % 8192 = t.val % 32 * 256 + r.val := by omega
  rw [Cert.Proof.In.v82_at]
  unfold R
  rw [rotK_eq _ _ _ _ ⟨(t.val * 256 + r.val) % 8192, Nat.mod_lt _ (by decide)⟩ (fun l => blk_7 m c t r _ hP l) (fun l => blk_8 m c t r _ hP l) (fun l => blk_9 m c t r _ hP l) e]
  refine congrArg (fun f => rotR f _ e) (funext fun j => ?_)
  rw [pm_at, Cert.Proof.In.v2_at]
  unfold pm
  simp only [blk_0, blk_2]

theorem arr_10 : (dats m 0 c).arrAt 10 cfg0.N = Cert.InprojReferenceIdeal.Read.val_main_v88 (F := Ideal) (aX m c) (aW m c) := by
  refine (dats m 0 c).arrAt_eq_of_covers 10 _ (by decide +kernel) fun t hf y => ?_
  rw [after0_10]
  obtain ⟨r, e, rfl⟩ : ∃ (r : Fin 256) (e : Fin 1024), y = ix2 r e := ⟨y 0, y 1, eq_ix2 y⟩
  have ht := lim t
  have hemb : ((cfg0.win 10).blk t).view.emb (ix2 r e) = ix2 (⟨t.val * 256 + r.val, by omega⟩ : Fin 16384) e := funext fun a => by
    fin_cases a
    · exact Fin.ext (by show _ = t.val * 256 + r.val; blk_simp [ix_10]; try first | rfl | omega)
    · exact Fin.ext (by show _ = e.val; blk_simp [ix_10]; try first | rfl | omega)
  have hval : (out0_10 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v88 (F := Ideal) (aX m c) (aW m c) (ix2 (⟨t.val * 256 + r.val, by omega⟩ : Fin 16384) e) := by
    refine (out10_at _ _ _ _ _ _ _ _ _ _ _ _).trans ?_
    rw [Cert.Proof.In.v88_at, R_q]
    rfl
  generalize out0_10 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v88 (F := Ideal) (aX m c) (aW m c) = z at hval ⊢
  generalize ((cfg0.win 10).blk t).view.emb (ix2 r e) = i at hemb ⊢
  subst hemb
  exact hval

theorem arr_16 : (dats m 0 c).arrAt 16 cfg0.N = Cert.InprojReferenceIdeal.Read.val_main_v89 (F := Ideal) (aX m c) (aW m c) := by
  refine (dats m 0 c).arrAt_eq_of_covers 16 _ (by decide +kernel) fun t hf y => ?_
  rw [after0_16]
  obtain ⟨r, e, rfl⟩ : ∃ (r : Fin 256) (e : Fin 1024), y = ix2 r e := ⟨y 0, y 1, eq_ix2 y⟩
  have ht := lim t
  have hemb : ((cfg0.win 16).blk t).view.emb (ix2 r e) = ix2 (⟨t.val * 256 + r.val, by omega⟩ : Fin 16384) e := funext fun a => by
    fin_cases a
    · exact Fin.ext (by show _ = t.val * 256 + r.val; blk_simp [ix_16]; try first | rfl | omega)
    · exact Fin.ext (by show _ = e.val; blk_simp [ix_16]; try first | rfl | omega)
  have hval : (out0_16 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v89 (F := Ideal) (aX m c) (aW m c) (ix2 (⟨t.val * 256 + r.val, by omega⟩ : Fin 16384) e) := by
    refine (out16_at _ _ _ _ _ _ _ _ _ _ _ _).trans ?_
    rw [Cert.Proof.In.v89_at, R_k]
  generalize out0_16 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v89 (F := Ideal) (aX m c) (aW m c) = z at hval ⊢
  generalize ((cfg0.win 16).blk t).view.emb (ix2 r e) = i at hemb ⊢
  subst hemb
  exact hval

theorem arr_11 : (dats m 0 c).arrAt 11 cfg0.N = Cert.InprojReferenceIdeal.Read.val_main_v84 (F := Ideal) (aX m c) (aW m c) := by
  refine (dats m 0 c).arrAt_eq_of_covers 11 _ (by decide +kernel) fun t hf y => ?_
  rw [after0_11]
  obtain ⟨u, e, r, rfl⟩ : ∃ (u : Fin 1) (e : Fin 1024) (r : Fin 256), y = ix3 u e r := ⟨y 0, y 1, y 2, eq_ix3 y⟩
  have ht := lim t
  have hemb : ((cfg0.win 11).blk t).view.emb (ix3 u e r) = ix3 (⟨t.val / 32, by omega⟩ : Fin 2) e (⟨t.val % 32 * 256 + r.val, by omega⟩ : Fin 8192) := funext fun a => by
    fin_cases a
    · exact Fin.ext (by show _ = t.val / 32; blk_simp [ix_11]; try first | rfl | omega)
    · exact Fin.ext (by show _ = e.val; blk_simp [ix_11]; try first | rfl | omega)
    · exact Fin.ext (by show _ = t.val % 32 * 256 + r.val; blk_simp [ix_11]; try first | rfl | omega)
  have hval : (out0_11 (iblk m c 0 t) (iblk m c 1 t) (iblk m c 2 t) (iblk m c 3 t) (iblk m c 4 t) (iblk m c 5 t) (iblk m c 6 t) (iblk m c 7 t) (iblk m c 8 t) (iblk m c 9 t) (ix3 u e r) : EReal) = Cert.InprojReferenceIdeal.Read.val_main_v84 (F := Ideal) (aX m c) (aW m c) (ix3 (⟨t.val / 32, by omega⟩ : Fin 2) e (⟨t.val % 32 * 256 + r.val, by omega⟩ : Fin 8192)) := by
    refine (out11_at _ _ _ _ _ _ _ _ _ _ _ _ _).trans ?_
    rw [Cert.Proof.In.v84_at, R_k]
    exact congrArg (fun r => Cert.InprojReferenceIdeal.Read.val_main_v82 (F := Ideal) (aX m c) (aW m c) (ix2 r e)) (Fin.ext (by show t.val * 256 + r.val = t.val / 32 * 8192 + (t.val % 32 * 256 + r.val); omega))
  generalize out0_11 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v84 (F := Ideal) (aX m c) (aW m c) = z at hval ⊢
  generalize ((cfg0.win 11).blk t).view.emb (ix3 u e r) = i at hemb ⊢
  subst hemb
  exact hval

theorem arr_12 : (dats m 0 c).arrAt 12 cfg0.N = Cert.InprojReferenceIdeal.Read.val_main_v3 (F := Ideal) (aX m c) (aW m c) := by
  refine (dats m 0 c).arrAt_eq_of_covers 12 _ (by decide +kernel) fun t hf y => ?_
  rw [after0_12]
  obtain ⟨r, e, rfl⟩ : ∃ (r : Fin 256) (e : Fin 1024), y = ix2 r e := ⟨y 0, y 1, eq_ix2 y⟩
  have ht := lim t
  have hemb : ((cfg0.win 12).blk t).view.emb (ix2 r e) = ix2 (⟨t.val * 256 + r.val, by omega⟩ : Fin 16384) e := funext fun a => by
    fin_cases a
    · exact Fin.ext (by show _ = t.val * 256 + r.val; blk_simp [ix_12]; try first | rfl | omega)
    · exact Fin.ext (by show _ = e.val; blk_simp [ix_12]; try first | rfl | omega)
  have hval : (out0_12 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v3 (F := Ideal) (aX m c) (aW m c) (ix2 (⟨t.val * 256 + r.val, by omega⟩ : Fin 16384) e) := by
    refine (out12_at _ _ _ _ _ _ _ _ _ _ _ _).trans ?_
    rw [Cert.Proof.In.v3_at]
    unfold pm
    simp only [blk_0, blk_3]
  generalize out0_12 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v3 (F := Ideal) (aX m c) (aW m c) = z at hval ⊢
  generalize ((cfg0.win 12).blk t).view.emb (ix2 r e) = i at hemb ⊢
  subst hemb
  exact hval

theorem arr_13 : (dats m 0 c).arrAt 13 cfg0.N = Cert.InprojReferenceIdeal.Read.val_main_v4 (F := Ideal) (aX m c) (aW m c) := by
  refine (dats m 0 c).arrAt_eq_of_covers 13 _ (by decide +kernel) fun t hf y => ?_
  rw [after0_13]
  obtain ⟨r, e, rfl⟩ : ∃ (r : Fin 256) (e : Fin 1024), y = ix2 r e := ⟨y 0, y 1, eq_ix2 y⟩
  have ht := lim t
  have hemb : ((cfg0.win 13).blk t).view.emb (ix2 r e) = ix2 (⟨t.val * 256 + r.val, by omega⟩ : Fin 16384) e := funext fun a => by
    fin_cases a
    · exact Fin.ext (by show _ = t.val * 256 + r.val; blk_simp [ix_13]; try first | rfl | omega)
    · exact Fin.ext (by show _ = e.val; blk_simp [ix_13]; try first | rfl | omega)
  have hval : (out0_13 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v4 (F := Ideal) (aX m c) (aW m c) (ix2 (⟨t.val * 256 + r.val, by omega⟩ : Fin 16384) e) := by
    refine (out13_at _ _ _ _ _ _ _ _ _ _ _ _).trans ?_
    rw [Cert.Proof.In.v4_at]
    unfold pm
    simp only [blk_0, blk_4]
  generalize out0_13 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v4 (F := Ideal) (aX m c) (aW m c) = z at hval ⊢
  generalize ((cfg0.win 13).blk t).view.emb (ix2 r e) = i at hemb ⊢
  subst hemb
  exact hval

theorem arr_14 : (dats m 0 c).arrAt 14 cfg0.N = Cert.InprojReferenceIdeal.Read.val_main_v5 (F := Ideal) (aX m c) (aW m c) := by
  refine (dats m 0 c).arrAt_eq_of_covers 14 _ (by decide +kernel) fun t hf y => ?_
  rw [after0_14]
  obtain ⟨r, e, rfl⟩ : ∃ (r : Fin 256) (e : Fin 1536), y = ix2 r e := ⟨y 0, y 1, eq_ix2 y⟩
  have ht := lim t
  have hemb : ((cfg0.win 14).blk t).view.emb (ix2 r e) = ix2 (⟨t.val * 256 + r.val, by omega⟩ : Fin 16384) e := funext fun a => by
    fin_cases a
    · exact Fin.ext (by show _ = t.val * 256 + r.val; blk_simp [ix_14]; try first | rfl | omega)
    · exact Fin.ext (by show _ = e.val; blk_simp [ix_14]; try first | rfl | omega)
  have hval : (out0_14 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v5 (F := Ideal) (aX m c) (aW m c) (ix2 (⟨t.val * 256 + r.val, by omega⟩ : Fin 16384) e) := by
    refine (out14_at _ _ _ _ _ _ _ _ _ _ _ _).trans ?_
    rw [Cert.Proof.In.v5_at]
    unfold pm
    simp only [blk_0, blk_5]
  generalize out0_14 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v5 (F := Ideal) (aX m c) (aW m c) = z at hval ⊢
  generalize ((cfg0.win 14).blk t).view.emb (ix2 r e) = i at hemb ⊢
  subst hemb
  exact hval

theorem arr_15 : (dats m 0 c).arrAt 15 cfg0.N = Cert.InprojReferenceIdeal.Read.val_main_v87 (F := Ideal) (aX m c) (aW m c) := by
  refine (dats m 0 c).arrAt_eq_of_covers 15 _ (by decide +kernel) fun t hf y => ?_
  rw [after0_15]
  obtain ⟨r, e, rfl⟩ : ∃ (r : Fin 256) (e : Fin 128), y = ix2 r e := ⟨y 0, y 1, eq_ix2 y⟩
  have ht := lim t
  have hemb : ((cfg0.win 15).blk t).view.emb (ix2 r e) = ix2 (⟨t.val * 256 + r.val, by omega⟩ : Fin 16384) e := funext fun a => by
    fin_cases a
    · exact Fin.ext (by show _ = t.val * 256 + r.val; blk_simp [ix_15]; try first | rfl | omega)
    · exact Fin.ext (by show _ = e.val; blk_simp [ix_15]; try first | rfl | omega)
  have hval : (out0_15 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = Cert.InprojReferenceIdeal.Read.val_main_v87 (F := Ideal) (aX m c) (aW m c) (ix2 (⟨t.val * 256 + r.val, by omega⟩ : Fin 16384) e) := by
    refine (out15_at _ _ _ _ _ _ _ _ _ _ _ _).trans ?_
    rw [Cert.Proof.In.v87_at]
    unfold pm
    by_cases h : e.val < 16
    · simp only [blk_0, blk_6, dif_pos h]
    · simp only [blk_0, blk_6, dif_neg h, mul_zero, Finset.sum_const_zero]
  generalize out0_15 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v87 (F := Ideal) (aX m c) (aW m c) = z at hval ⊢
  generalize ((cfg0.win 15).blk t).view.emb (ix2 r e) = i at hemb ⊢
  subst hemb
  exact hval

theorem arr_17 : (dats m 0 c).arrAt 17 cfg0.N = Cert.InprojReferenceIdeal.Read.val_main_v90 (F := Ideal) (aX m c) (aW m c) := by
  refine (dats m 0 c).arrAt_eq_of_covers 17 _ (by decide +kernel) fun t hf y => ?_
  rw [after0_17]
  obtain ⟨u, v, e, r, rfl⟩ : ∃ (u : Fin 1) (v : Fin 1) (e : Fin 1024) (r : Fin 256), y = ix4 u v e r := ⟨y 0, y 1, y 2, y 3, eq_ix4 y⟩
  have ht := lim t
  have hemb : ((cfg0.win 17).blk t).view.emb (ix4 u v e r) = ix4 (⟨t.val / 32, by omega⟩ : Fin 2) (⟨t.val % 32, by omega⟩ : Fin 32) e r := funext fun a => by
    fin_cases a
    · exact Fin.ext (by show _ = t.val / 32; blk_simp [ix_17]; try first | rfl | omega)
    · exact Fin.ext (by show _ = t.val % 32; blk_simp [ix_17]; try first | rfl | omega)
    · exact Fin.ext (by show _ = e.val; blk_simp [ix_17]; try first | rfl | omega)
    · exact Fin.ext (by show _ = r.val; blk_simp [ix_17]; try first | rfl | omega)
  have hval : (out0_17 (iblk m c 0 t) (iblk m c 1 t) (iblk m c 2 t) (iblk m c 3 t) (iblk m c 4 t) (iblk m c 5 t) (iblk m c 6 t) (iblk m c 7 t) (iblk m c 8 t) (iblk m c 9 t) (ix4 u v e r) : EReal) = Cert.InprojReferenceIdeal.Read.val_main_v90 (F := Ideal) (aX m c) (aW m c) (ix4 (⟨t.val / 32, by omega⟩ : Fin 2) (⟨t.val % 32, by omega⟩ : Fin 32) e r) := by
    refine (out17_at _ _ _ _ _ _ _ _ _ _ _ _ _ _).trans ?_
    rw [Cert.Proof.In.v90_at, Cert.Proof.In.v3_at]
    unfold pm
    simp only [blk_0, blk_3]
    have hr : (⟨t.val * 256 + r.val, by omega⟩ : Fin 16384) = ⟨(t.val / 32 * 32 + t.val % 32) * 256 + r.val, by omega⟩ := Fin.ext (by show t.val * 256 + r.val = (t.val / 32 * 32 + t.val % 32) * 256 + r.val; omega)
    rw [hr]
  generalize out0_17 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize Cert.InprojReferenceIdeal.Read.val_main_v90 (F := Ideal) (aX m c) (aW m c) = z at hval ⊢
  generalize ((cfg0.win 17).blk t).view.emb (ix4 u v e r) = i at hemb ⊢
  subst hemb
  exact hval

end Cert.Proof.In
end
-- ==== Proof.InVal.lean ====
module

public import proofs.«01_k».proof.Proof.InArr

@[expose] public section

set_option maxRecDepth 16384

noncomputable section

namespace Cert.Proof.In

open Cert.InprojIdeal Cert.InprojIdeal.Gen
open Idealize.ShloMosaic Idealize.ShloMosaic.TcCoe Idealize.ShloMosaic.Tactic Idealize.ShloMosaic.StableHlo Idealize.SL.Sem

/-! ## What the host makes of the call's arrays -/

theorem after_44 (W : Valuation τ sig (Elt Ideal)) :
    StableHlo.after (List.flatten [hostOps1]) W (Proc.devRef .tc main_v44) = transpose S2x8192x16x64 [0, 3, 1, 2]
      (shapeCast S2x16x64x8192 (W (Proc.devRef .tc main_v42_1) : (⟨S2x1024x8192, .f32⟩ : BufTy).Contents (Elt Ideal)) shapeCasts_S2x1024x8192_S2x16x64x8192)
      transposes_S2x16x64x8192_S2x8192x16x64_0_3_1_2 := by
  after_reads_simp
  rfl
theorem after_45 (W : Valuation τ sig (Elt Ideal)) :
    StableHlo.after (List.flatten [hostOps1]) W (Proc.devRef .tc main_v45)
      = shapeCast S2x8192x8x128 (W (Proc.devRef .tc main_v42_2) : (⟨S16384x1024, .f32⟩ : BufTy).Contents (Elt Ideal)) shapeCasts_S16384x1024_S2x8192x8x128 := by
  after_reads_simp
  rfl
theorem after_47 (W : Valuation τ sig (Elt Ideal)) :
    StableHlo.after (List.flatten [hostOps1]) W (Proc.devRef .tc main_v47) = extractStridedSlice S2x3x1536 ![0, 8189, 0]
      (shapeCast S2x8192x1536 (W (Proc.devRef .tc main_v42_4) : (⟨S16384x1536, .f32⟩ : BufTy).Contents (Elt Ideal)) shapeCasts_S16384x1536_S2x8192x1536)
      slices_S2x8192x1536_S2x3x1536_0_8189_0 := by
  after_reads_simp
  rfl

variable (m : (ℓ : Loc nD τ sig) → Buf (Elt Ideal) ℓ) (c : Dev nD)

/-- What every buffer outside the call's arrays holds at the end. -/
abbrev Z (b : Ref sig .tc) := Pipeline.afterTail₀ cfgs (dats m) 0 (V0 m) [hostOps1] c b

theorem arr_inj : Function.Injective (Pipeline.arrRef spec0) := by
  intro w w' h
  revert w w'
  decide

/-- The call's arrays as the host finds them. -/
theorem found (w : Fin 18) : Pipeline.withArrays (cfgs 0).spec c (V0 m c) (fun w => (dats m 0 c).arrAt w (cfgs 0).N) (Proc.devRef .tc (Pipeline.arrRef (cfgs 0).spec w)) = (dats m 0 c).arrAt w cfg0.N :=
  Pipeline.withArrays_arr (cfgs 0).spec arr_inj c (V0 m c) _ w

/-- Keys laid out by prompt, column and position, cut into heads and turned to prompt, position, head and column, are the
    rotated keys. -/
theorem turned (x : (⟨S16384x1024, .f32⟩ : BufTy).Contents (Elt Ideal)) (w : (⟨S1024x5648, .f32⟩ : BufTy).Contents (Elt Ideal)) :
    transpose S2x8192x16x64 [0, 3, 1, 2] (shapeCast S2x16x64x8192 (Cert.InprojReferenceIdeal.Read.val_main_v84 (F := Ideal) x w) shapeCasts_S2x1024x8192_S2x16x64x8192)
      transposes_S2x16x64x8192_S2x8192x16x64_0_3_1_2 = Cert.InprojReferenceIdeal.Read.val_main_v81 (F := Ideal) x w := by
  funext i
  obtain ⟨b, p, h, d, rfl⟩ : ∃ (b : Fin 2) (p : Fin 8192) (h : Fin 16) (d : Fin 64), i = ix4 b p h d := ⟨i 0, i 1, i 2, i 3, eq_ix4 i⟩
  have hv := Cert.Proof.In.v84_at x w b (⟨h.val * 64 + d.val, by omega⟩ : Fin 1024) p
  rw [Cert.InprojReferenceIdeal.Read.val_main_v82_apply] at hv
  have hi : Cert.InprojReferenceIdeal.Read.idx_main_v82 (ix2 (⟨b.val * 8192 + p.val, by omega⟩ : Fin 16384) (⟨h.val * 64 + d.val, by omega⟩ : Fin 1024)) = ix4 b p h d := by
    funext a
    refine Fin.ext ?_
    match a with
    | ⟨0, _⟩ => show ((b.val * 8192 + p.val) * 1024 + (h.val * 64 + d.val)) / 8388608 = b.val; omega
    | ⟨1, _⟩ => show ((b.val * 8192 + p.val) * 1024 + (h.val * 64 + d.val)) / 1024 % 8192 = p.val; omega
    | ⟨2, _⟩ => show ((b.val * 8192 + p.val) * 1024 + (h.val * 64 + d.val)) / 64 % 16 = h.val; omega
    | ⟨3, _⟩ => show ((b.val * 8192 + p.val) * 1024 + (h.val * 64 + d.val)) % 64 = d.val; omega
  rw [hi] at hv
  generalize Cert.InprojReferenceIdeal.Read.val_main_v81 (F := Ideal) x w = z at hv ⊢
  generalize Cert.InprojReferenceIdeal.Read.val_main_v84 (F := Ideal) x w = y at hv ⊢
  refine (transpose_apply [0, 3, 1, 2] _ transposes_S2x16x64x8192_S2x8192x16x64_0_3_1_2 (ix4 b p h d) (ix4 b h d p) (fun a => match a with
    | ⟨0, _⟩ => rfl | ⟨1, _⟩ => rfl | ⟨2, _⟩ => rfl | ⟨3, _⟩ => rfl)).trans ?_
  refine (shapeCast_apply y shapeCasts_S2x1024x8192_S2x16x64x8192 (ix4 b h d p) (ix3 b (⟨h.val * 64 + d.val, by omega⟩ : Fin 1024) p) (by
    rewrite [Shape.rowMajor_val_three, Shape.rowMajor_val_four]
    show (b.val * 1024 + (h.val * 64 + d.val)) * 8192 + p.val = ((b.val * 16 + h.val) * 64 + d.val) * 8192 + p.val
    omega)).trans ?_
  exact hv

/-- The prompts' keys, by token, head and column. -/
theorem z_44 : Z m c main_v44 = Cert.InprojReferenceIdeal.Read.val_main_v81 (F := Ideal) (aX m c) (aW m c) := by
  unfold Z Pipeline.afterTail₀
  refine (after_44 _).trans (Eq.trans ?_ (turned (aX m c) (aW m c)))
  exact congrArg (fun z : (⟨S2x1024x8192, .f32⟩ : BufTy).Contents (Elt Ideal) => transpose S2x8192x16x64 [0, 3, 1, 2] (shapeCast S2x16x64x8192 z shapeCasts_S2x1024x8192_S2x16x64x8192)
      transposes_S2x16x64x8192_S2x8192x16x64_0_3_1_2) ((found m c 11).trans (arr_11 m c))
/-- The prompts' values, by token, head and column. -/
theorem z_45 : Z m c main_v45 = Cert.InprojReferenceIdeal.Read.val_main_v91 (F := Ideal) (aX m c) (aW m c) := by
  unfold Z Pipeline.afterTail₀
  refine (after_45 _).trans (Eq.trans ?_ (Cert.InprojReferenceIdeal.Read.val_main_v91_eq (aX m c) (aW m c)))
  exact congrArg (fun z : (⟨S16384x1024, .f32⟩ : BufTy).Contents (Elt Ideal) => shapeCast S2x8192x8x128 z shapeCasts_S16384x1024_S2x8192x8x128)
    ((found m c 12).trans ((arr_12 m c).trans (Cert.InprojReferenceIdeal.Read.val_main_v3_eq (aX m c) (aW m c)).symm))
theorem last_rows (x : (⟨S16384x1024, .f32⟩ : BufTy).Contents (Elt Ideal)) (w : (⟨S1024x5648, .f32⟩ : BufTy).Contents (Elt Ideal))
    (z : (⟨S16384x1536, .f32⟩ : BufTy).Contents (Elt Ideal)) (hz : z = Cert.InprojReferenceIdeal.Read.val_main_v5 (F := Ideal) x w) :
    extractStridedSlice S2x3x1536 ![0, 8189, 0] (shapeCast S2x8192x1536 z shapeCasts_S16384x1536_S2x8192x1536) slices_S2x8192x1536_S2x3x1536_0_8189_0
      = Cert.InprojReferenceIdeal.Read.val_main_v93 (F := Ideal) x w := by
  unfold Cert.InprojReferenceIdeal.Read.val_main_v93 Cert.InprojReferenceIdeal.Read.val_main_v92
  rw [hz]
/-- The prompts' convolution states. -/
theorem z_47 : Z m c main_v47 = Cert.InprojReferenceIdeal.Read.val_main_v93 (F := Ideal) (aX m c) (aW m c) := by
  unfold Z Pipeline.afterTail₀
  refine (after_47 _).trans ?_
  exact last_rows _ _ _ ((found m c 14).trans (arr_14 m c))

set_option maxHeartbeats 4000000 in
/-- The idealized call and the host after it run to an end with these eleven results, the arguments kept. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v42_0) = Cert.InprojReferenceIdeal.Read.val_main_v88 (F := Ideal) (aX m c) (aW m c)
      ∧ r.2.mem ((c.tc : Thread nD τ).loc main_v42_1) = Cert.InprojReferenceIdeal.Read.val_main_v84 (F := Ideal) (aX m c) (aW m c)
      ∧ r.2.mem ((c.tc : Thread nD τ).loc main_v42_2) = Cert.InprojReferenceIdeal.Read.val_main_v3 (F := Ideal) (aX m c) (aW m c)
      ∧ r.2.mem ((c.tc : Thread nD τ).loc main_v42_3) = Cert.InprojReferenceIdeal.Read.val_main_v4 (F := Ideal) (aX m c) (aW m c)
      ∧ r.2.mem ((c.tc : Thread nD τ).loc main_v42_4) = Cert.InprojReferenceIdeal.Read.val_main_v5 (F := Ideal) (aX m c) (aW m c)
      ∧ r.2.mem ((c.tc : Thread nD τ).loc main_v42_5) = Cert.InprojReferenceIdeal.Read.val_main_v87 (F := Ideal) (aX m c) (aW m c)
      ∧ r.2.mem ((c.tc : Thread nD τ).loc main_v42_6) = Cert.InprojReferenceIdeal.Read.val_main_v89 (F := Ideal) (aX m c) (aW m c)
      ∧ r.2.mem ((c.tc : Thread nD τ).loc main_v42_7) = Cert.InprojReferenceIdeal.Read.val_main_v90 (F := Ideal) (aX m c) (aW m c)
      ∧ r.2.mem ((c.tc : Thread nD τ).loc main_v44) = Cert.InprojReferenceIdeal.Read.val_main_v81 (F := Ideal) (aX m c) (aW m c)
      ∧ r.2.mem ((c.tc : Thread nD τ).loc main_v45) = Cert.InprojReferenceIdeal.Read.val_main_v91 (F := Ideal) (aX m c) (aW m c)
      ∧ r.2.mem ((c.tc : Thread nD τ).loc main_v47) = Cert.InprojReferenceIdeal.Read.val_main_v93 (F := Ideal) (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
    ((h c).1 10).trans (arr_10 m c),
    ((h c).1 11).trans (arr_11 m c),
    ((h c).1 12).trans (arr_12 m c),
    ((h c).1 13).trans (arr_13 m c),
    ((h c).1 14).trans (arr_14 m c),
    ((h c).1 15).trans (arr_15 m c),
    ((h c).1 16).trans (arr_16 m c),
    ((h c).1 17).trans (arr_17 m c),
    ((h c).2 main_v44 (Pipeline.mem_restRefs_of main_v44 (by decide) (by decide))).trans (z_44 m c),
    ((h c).2 main_v45 (Pipeline.mem_restRefs_of main_v45 (by decide) (by decide))).trans (z_45 m c),
    ((h c).2 main_v47 (Pipeline.mem_restRefs_of main_v47 (by decide) (by decide))).trans (z_47 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩)
    (run_main m g)

end Cert.Proof.In
end
-- ==== Proof.SaRef.lean ====
module

public import proofs.«01_k».proof.Proof.Gen.Sample.Frame
public import proofs.«01_k».proof.Proof.Gen.SampleIdeal.Frame
public import proofs.«01_k».proof.Proof.Gen.SampleReferenceIdeal
public import proofs.«01_k».proof.Proof.Gen.SampleReferenceIdeal.Run
public import proofs.«01_k».proof.Proof.Gen.SampleReferenceIdeal.Read

@[expose] public section

noncomputable section

end
-- ==== Proof.SaKer.lean ====
module

public import proofs.«01_k».proof.Proof.SaRef
public import proofs.«01_k».proof.Proof.InRead
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.Sa

open Cert.SampleIdeal Cert.SampleIdeal.Gen
open Cert.Proof.In (pm rotK rotK_of)
open Idealize.ShloMosaic Idealize.ShloMosaic.TcCoe Idealize.ShloMosaic.Tactic

/-! ## The samples' call: its block values at an index -/

variable (x0 : Vec Ideal S256x1024 .f32) (x1 : Vec Ideal S1024x1024 .bf16) (x2 : Vec Ideal S1024x1024 .bf16) (x3 : Vec Ideal S1024x1024 .bf16) (x4 : Vec Ideal S1024x1024 .bf16) (x5 : Vec Ideal S1024x1536 .bf16) (x6 : Vec Ideal S1024x128 .bf16) (x7 : Vec Ideal S256x128 .f32) (x8 : Vec Ideal S256x128 .f32) (x9 : Vec Ideal S256x128 .f32)

/-- A block's rotated keys. -/
def R (x0 : Vec Ideal S256x1024 .f32) (w : Vec Ideal S1024x1024 .bf16) (r : Fin 256) (e : Fin 1024) : EReal :=
  rotK (fun e => k0_pay27 (k0_pay4 x0) w (ix2 r e)) (fun l => x7 (ix2 r l)) (fun l => x8 (ix2 r l)) (fun l => x9 (ix2 r l)) e

theorem pm_at (r : Fin 256) (e : Fin 1024) : (k0_pay27 (k0_pay4 x0) x2 (ix2 r e) : EReal) = pm (fun r k => x0 (ix2 r k)) (fun k j => x2 (ix2 k j)) r e := by
  pointwise [k0_pay27, k0_pay4, pm]

theorem idx_0 (r : Fin 256) (l : Fin 128) : r0_3.idx (ix2 r l) = ix2 r (⟨0 + l.val, by omega⟩ : Fin 1024) :=
  funext fun a => Fin.ext (match a with | ⟨0, _⟩ => (by show 0 + 1 * r.val = r.val; omega) | ⟨1, _⟩ => (by show 0 + 1 * l.val = 0 + l.val; omega))
theorem idx_1 (r : Fin 256) (l : Fin 128) : r0_4.idx (ix2 r l) = ix2 r (⟨128 + l.val, by omega⟩ : Fin 1024) :=
  funext fun a => Fin.ext (match a with | ⟨0, _⟩ => (by show 0 + 1 * r.val = r.val; omega) | ⟨1, _⟩ => (by show 128 + 1 * l.val = 128 + l.val; omega))
theorem idx_2 (r : Fin 256) (l : Fin 128) : r0_5.idx (ix2 r l) = ix2 r (⟨256 + l.val, by omega⟩ : Fin 1024) :=
  funext fun a => Fin.ext (match a with | ⟨0, _⟩ => (by show 0 + 1 * r.val = r.val; omega) | ⟨1, _⟩ => (by show 256 + 1 * l.val = 256 + l.val; omega))
theorem idx_3 (r : Fin 256) (l : Fin 128) : r0_6.idx (ix2 r l) = ix2 r (⟨384 + l.val, by omega⟩ : Fin 1024) :=
  funext fun a => Fin.ext (match a with | ⟨0, _⟩ => (by show 0 + 1 * r.val = r.val; omega) | ⟨1, _⟩ => (by show 384 + 1 * l.val = 384 + l.val; omega))
theorem idx_4 (r : Fin 256) (l : Fin 128) : r0_7.idx (ix2 r l) = ix2 r (⟨512 + l.val, by omega⟩ : Fin 1024) :=
  funext fun a => Fin.ext (match a with | ⟨0, _⟩ => (by show 0 + 1 * r.val = r.val; omega) | ⟨1, _⟩ => (by show 512 + 1 * l.val = 512 + l.val; omega))
theorem idx_5 (r : Fin 256) (l : Fin 128) : r0_8.idx (ix2 r l) = ix2 r (⟨640 + l.val, by omega⟩ : Fin 1024) :=
  funext fun a => Fin.ext (match a with | ⟨0, _⟩ => (by show 0 + 1 * r.val = r.val; omega) | ⟨1, _⟩ => (by show 640 + 1 * l.val = 640 + l.val; omega))
theorem idx_6 (r : Fin 256) (l : Fin 128) : r0_9.idx (ix2 r l) = ix2 r (⟨768 + l.val, by omega⟩ : Fin 1024) :=
  funext fun a => Fin.ext (match a with | ⟨0, _⟩ => (by show 0 + 1 * r.val = r.val; omega) | ⟨1, _⟩ => (by show 768 + 1 * l.val = 768 + l.val; omega))
theorem idx_7 (r : Fin 256) (l : Fin 128) : r0_10.idx (ix2 r l) = ix2 r (⟨896 + l.val, by omega⟩ : Fin 1024) :=
  funext fun a => Fin.ext (match a with | ⟨0, _⟩ => (by show 0 + 1 * r.val = r.val; omega) | ⟨1, _⟩ => (by show 896 + 1 * l.val = 896 + l.val; omega))

theorem k_0 (r : Fin 256) (l : Fin 128) : (k0_pay30 (k0_pay7 x9) (k0_pay28 (k0_pay4 x0) x2) (k0_pay29 (k0_pay4 x0) (k0_pay5 x7) (k0_pay6 x8) x2) (ix2 r l) : EReal) = R x7 x8 x9 x0 x2 r ⟨0 + l.val, by omega⟩ := by
  pointwise [k0_pay30, k0_pay29, k0_pay28, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_1 (r : Fin 256) (l : Fin 128) : (k0_pay31 (k0_pay5 x7) (k0_pay6 x8) (k0_pay7 x9) (k0_pay27 (k0_pay4 x0) x2) (ix2 r l) : EReal) = R x7 x8 x9 x0 x2 r ⟨128 + l.val, by omega⟩ := by
  pointwise [k0_pay31, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_2 (r : Fin 256) (l : Fin 128) : (k0_pay32 (k0_pay5 x7) (k0_pay6 x8) (k0_pay7 x9) (k0_pay27 (k0_pay4 x0) x2) (ix2 r l) : EReal) = R x7 x8 x9 x0 x2 r ⟨256 + l.val, by omega⟩ := by
  pointwise [k0_pay32, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_3 (r : Fin 256) (l : Fin 128) : (k0_pay33 (k0_pay5 x7) (k0_pay6 x8) (k0_pay7 x9) (k0_pay27 (k0_pay4 x0) x2) (ix2 r l) : EReal) = R x7 x8 x9 x0 x2 r ⟨384 + l.val, by omega⟩ := by
  pointwise [k0_pay33, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_4 (r : Fin 256) (l : Fin 128) : (k0_pay34 (k0_pay5 x7) (k0_pay6 x8) (k0_pay7 x9) (k0_pay27 (k0_pay4 x0) x2) (ix2 r l) : EReal) = R x7 x8 x9 x0 x2 r ⟨512 + l.val, by omega⟩ := by
  pointwise [k0_pay34, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_5 (r : Fin 256) (l : Fin 128) : (k0_pay35 (k0_pay5 x7) (k0_pay6 x8) (k0_pay7 x9) (k0_pay27 (k0_pay4 x0) x2) (ix2 r l) : EReal) = R x7 x8 x9 x0 x2 r ⟨640 + l.val, by omega⟩ := by
  pointwise [k0_pay35, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_6 (r : Fin 256) (l : Fin 128) : (k0_pay38 (k0_pay7 x9) (k0_pay36 (k0_pay27 (k0_pay4 x0) x2)) (k0_pay37 (k0_pay5 x7) (k0_pay6 x8) (k0_pay27 (k0_pay4 x0) x2)) (ix2 r l) : EReal) = R x7 x8 x9 x0 x2 r ⟨768 + l.val, by omega⟩ := by
  pointwise [k0_pay38, k0_pay37, k0_pay36, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)
theorem k_7 (r : Fin 256) (l : Fin 128) : (k0_pay39 (k0_pay5 x7) (k0_pay6 x8) (k0_pay7 x9) (k0_pay27 (k0_pay4 x0) x2) (ix2 r l) : EReal) = R x7 x8 x9 x0 x2 r ⟨896 + l.val, by omega⟩ := by
  pointwise [k0_pay39, k0_pay5, k0_pay6, k0_pay7]
  refine rotK_of (fun e => k0_pay27 (k0_pay4 x0) x2 (ix2 r e)) (fun l => x7 (ix2 r l)) (fun l => x8 (ix2 r l)) (fun l => x9 (ix2 r l)) _ _ _ _ _ ?_ ?_ ?_ ?_ <;> first | rfl | omega | (simp only []; omega)

theorem out12_at (r : Fin 256) (e : Fin 1024) : (out0_12 x0 x1 x2 x3 x4 x5 x6 x7 x8 x9 (ix2 r e) : EReal) = pm (fun r k => x0 (ix2 r k)) (fun k j => x3 (ix2 k j)) r e := by
  unfold_out out0_12
  simp (disch := decide) only [View.canon_cons_unit_lit', View.ld_unit_lit']
  pointwise [k0_pay40, k0_pay4, pm]
theorem out14_at (r : Fin 256) (e : Fin 1536) : (out0_14 x0 x1 x2 x3 x4 x5 x6 x7 x8 x9 (ix2 r e) : EReal) = pm (fun r k => x0 (ix2 r k)) (fun k j => x5 (ix2 k j)) r e := by
  unfold_out out0_14
  simp (disch := decide) only [View.canon_cons_unit_lit', View.ld_unit_lit']
  pointwise [k0_pay2, k0_pay4, pm]

theorem out11_at (r : Fin 256) (e : Fin 1024) : (out0_11 x0 x1 x2 x3 x4 x5 x6 x7 x8 x9 (ix2 r e) : EReal) = R x7 x8 x9 x0 x2 r e := by
  unfold_out out0_11
  simp (disch := decide) only [View.ld_unit_lit']
  refine View.canon_apply_of_pieces (Val := Elt Ideal) (fun y : S256x1024.Idx => (R x7 x8 x9 x0 x2 (y 0) (y 1) : EReal)) _ ?_ (ix2 r e) (cover0_11 _ _ _ _ _ _ _ _ _)
  intro pc hpc
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_10.idx (ix2 r l))
    rw [idx_7]
    exact k_7 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_9.idx (ix2 r l))
    rw [idx_6]
    exact k_6 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_8.idx (ix2 r l))
    rw [idx_5]
    exact k_5 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_7.idx (ix2 r l))
    rw [idx_4]
    exact k_4 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_6.idx (ix2 r l))
    rw [idx_3]
    exact k_3 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_5.idx (ix2 r l))
    rw [idx_2]
    exact k_2 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_4.idx (ix2 r l))
    rw [idx_1]
    exact k_1 x0 x2 x7 x8 x9 r l
  rcases List.mem_cons.mp hpc with rfl | hpc
  · intro x
    obtain ⟨r, l, rfl⟩ : ∃ (r : Fin 256) (l : Fin 128), x = ix2 r l := ⟨x 0, x 1, eq_ix2 x⟩
    show _ = (fun y : S256x1024.Idx => (R x7 x8 x9 x0 x2 (y 0) (y 1) : EReal)) (r0_3.idx (ix2 r l))
    rw [idx_0]
    exact k_0 x0 x2 x7 x8 x9 r l
  exact nomatch hpc

end Cert.Proof.Sa
end
-- ==== Proof.SaHost.lean ====
module

public import proofs.«01_k».proof.Proof.SaRef
public import proofs.«01_k».proof.Proof.InRead
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.Sa

open Cert.SampleIdeal Cert.SampleIdeal.Gen
open Idealize.ShloMosaic Idealize.ShloMosaic.TcCoe Idealize.ShloMosaic.Tactic Idealize.ShloMosaic.StableHlo

/-- The cosine of token `p`'s angle of frequency `i`. -/
def cosS (p : Fin 4) (i : Fin 8) : EReal := Cert.SampleReferenceIdeal.Read.val_main_v25 (F := Ideal) (ix2 p i)
/-- The sine of token `p`'s angle of frequency `i`. -/
def sinS (p : Fin 4) (i : Fin 8) : EReal := Cert.SampleReferenceIdeal.Read.val_main_v27 (F := Ideal) (ix2 p i)

/-! ## What the host hands to the samples' call -/

variable (m : (ℓ : Loc nD τ sig) → Buf (Elt Ideal) ℓ) (c : Dev nD)

theorem V_2 (k : Fin 1024) (j : Fin 1024) : (V m c main_v2 : (⟨S1024x1024, .bf16⟩ : BufTy).Contents (Elt Ideal)) (ix2 k j) = m ((c.tc : Thread nD τ).loc main_arg1) (ix2 k (⟨1024 + j.val, by omega⟩ : Fin 5648)) := by
  unfold V
  after_reads_at
theorem V_3 (k : Fin 1024) (j : Fin 1024) : (V m c main_v3 : (⟨S1024x1024, .bf16⟩ : BufTy).Contents (Elt Ideal)) (ix2 k j) = m ((c.tc : Thread nD τ).loc main_arg1) (ix2 k (⟨2048 + j.val, by omega⟩ : Fin 5648)) := by
  unfold V
  after_reads_at
theorem V_5 (k : Fin 1024) (j : Fin 1536) : (V m c main_v5 : (⟨S1024x1536, .bf16⟩ : BufTy).Contents (Elt Ideal)) (ix2 k j) = m ((c.tc : Thread nD τ).loc main_arg1) (ix2 k (⟨4096 + j.val, by omega⟩ : Fin 5648)) := by
  unfold V
  after_reads_at

theorem V_18 (b : Fin 128) (i : Fin 4) (P : Fin 1024) (hP : P.val = b.val * 8 + (3 + i.val)) (k : Fin 1024) : (V m c main_v18 : (⟨S1024x1024, .f32⟩ : BufTy).Contents (Elt Ideal)) (ix2 P k) = m ((c.tc : Thread nD τ).loc main_arg0) (ix3 b i k) := by
  unfold V
  after_reads_at
  have h1 : P.val / 8 = b.val := by omega
  have h2 : P.val % 8 - 3 = i.val := by omega
  have h3 : P.val / 8 < 128 ∧ 3 ≤ P.val % 8 ∧ P.val % 8 - 3 < 4 := by omega
  rw [dif_pos h3]
  exact congrArg₂ (fun b i => m ((c.tc : Thread nD τ).loc main_arg0) (ix3 b i k)) (Fin.ext h1) (Fin.ext h2)

/-- A padded row's clipped position, counted from the tokens before it. -/
theorem clipped : ∀ p : Fin 4, IntOp.addi (IntOp.minsi 3#32 (IntOp.maxsi 0#32 (IntOp.subi (BitVec.ofNat 32 (3 + p.val)) 3#32))) 2048#32 = IntOp.addi 2048#32 (BitVec.ofNat 32 p.val) := by decide

theorem V_45 (P : Fin 1024) (p : Fin 4) (hP : P.val % 8 = 3 + p.val) (l : Fin 128) : (V m c main_v45 : (⟨S1024x128, .f32⟩ : BufTy).Contents (Elt Ideal)) (ix2 P l)
    = (if h : l.val % 64 < 8 then cosS p ⟨l.val % 64, h⟩ else if h' : l.val % 64 - 8 < 8 then cosS p ⟨l.val % 64 - 8, h'⟩ else 1 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    pointwise [cosS, Cert.SampleReferenceIdeal.Read.val_main_v25, Cert.SampleReferenceIdeal.Read.val_main_v24, Cert.SampleReferenceIdeal.Read.val_main_v23, Cert.SampleReferenceIdeal.Read.val_main_v22, Cert.SampleReferenceIdeal.Read.val_main_v21, Cert.SampleReferenceIdeal.Read.val_main_v20, Cert.SampleReferenceIdeal.Read.val_main_v19, Cert.SampleReferenceIdeal.Read.val_main_v18, Cert.SampleReferenceIdeal.Read.val_main_v17, Cert.SampleReferenceIdeal.Read.val_main_v16, Cert.SampleReferenceIdeal.Read.val_main_v15, Cert.SampleReferenceIdeal.Read.val_main_v14, Cert.SampleReferenceIdeal.Read.val_main_v13, Cert.SampleReferenceIdeal.Read.val_main_v12, Cert.SampleReferenceIdeal.Read.val_main_v11, Cert.SampleReferenceIdeal.Read.val_main_v10, Cert.SampleReferenceIdeal.Read.val_main_v9, Cert.SampleReferenceIdeal.Read.val_main_v8, Cert.SampleReferenceIdeal.Read.val_main_c, Cert.SampleReferenceIdeal.Read.val_main_cst, Cert.SampleReferenceIdeal.Read.val_main_cst_0, Cert.SampleReferenceIdeal.Read.val_main_cst_1]
    simp only [hP]
    refine congrArg Ideal.cos (congrArg₂ (· * ·) (congrArg (FloatOps.sitofp (F := Ideal) FTy.f32) ?_) rfl)
    simp only [TRef.toBuf, TRef.ofBuf, cast_eq, id]
    pointwise
    exact clipped p
  · after_reads_simp
    pointwise [cosS, Cert.SampleReferenceIdeal.Read.val_main_v25, Cert.SampleReferenceIdeal.Read.val_main_v24, Cert.SampleReferenceIdeal.Read.val_main_v23, Cert.SampleReferenceIdeal.Read.val_main_v22, Cert.SampleReferenceIdeal.Read.val_main_v21, Cert.SampleReferenceIdeal.Read.val_main_v20, Cert.SampleReferenceIdeal.Read.val_main_v19, Cert.SampleReferenceIdeal.Read.val_main_v18, Cert.SampleReferenceIdeal.Read.val_main_v17, Cert.SampleReferenceIdeal.Read.val_main_v16, Cert.SampleReferenceIdeal.Read.val_main_v15, Cert.SampleReferenceIdeal.Read.val_main_v14, Cert.SampleReferenceIdeal.Read.val_main_v13, Cert.SampleReferenceIdeal.Read.val_main_v12, Cert.SampleReferenceIdeal.Read.val_main_v11, Cert.SampleReferenceIdeal.Read.val_main_v10, Cert.SampleReferenceIdeal.Read.val_main_v9, Cert.SampleReferenceIdeal.Read.val_main_v8, Cert.SampleReferenceIdeal.Read.val_main_c, Cert.SampleReferenceIdeal.Read.val_main_cst, Cert.SampleReferenceIdeal.Read.val_main_cst_0, Cert.SampleReferenceIdeal.Read.val_main_cst_1]
    simp only [hP]
    refine congrArg Ideal.cos (congrArg₂ (· * ·) (congrArg (FloatOps.sitofp (F := Ideal) FTy.f32) ?_) rfl)
    simp only [TRef.toBuf, TRef.ofBuf, cast_eq, id]
    pointwise
    exact clipped p
  · after_reads_simp
    pointwise

theorem V_48 (P : Fin 1024) (p : Fin 4) (hP : P.val % 8 = 3 + p.val) (l : Fin 128) : (V m c main_v48 : (⟨S1024x128, .f32⟩ : BufTy).Contents (Elt Ideal)) (ix2 P l)
    = (if h : l.val % 64 < 8 then -sinS p ⟨l.val % 64, h⟩ else if h' : l.val % 64 - 8 < 8 then 0 else 0 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    pointwise [sinS, Cert.SampleReferenceIdeal.Read.val_main_v27, Cert.SampleReferenceIdeal.Read.val_main_v24, Cert.SampleReferenceIdeal.Read.val_main_v23, Cert.SampleReferenceIdeal.Read.val_main_v22, Cert.SampleReferenceIdeal.Read.val_main_v21, Cert.SampleReferenceIdeal.Read.val_main_v20, Cert.SampleReferenceIdeal.Read.val_main_v19, Cert.SampleReferenceIdeal.Read.val_main_v18, Cert.SampleReferenceIdeal.Read.val_main_v17, Cert.SampleReferenceIdeal.Read.val_main_v16, Cert.SampleReferenceIdeal.Read.val_main_v15, Cert.SampleReferenceIdeal.Read.val_main_v14, Cert.SampleReferenceIdeal.Read.val_main_v13, Cert.SampleReferenceIdeal.Read.val_main_v12, Cert.SampleReferenceIdeal.Read.val_main_v11, Cert.SampleReferenceIdeal.Read.val_main_v10, Cert.SampleReferenceIdeal.Read.val_main_v9, Cert.SampleReferenceIdeal.Read.val_main_v8, Cert.SampleReferenceIdeal.Read.val_main_c, Cert.SampleReferenceIdeal.Read.val_main_cst, Cert.SampleReferenceIdeal.Read.val_main_cst_0, Cert.SampleReferenceIdeal.Read.val_main_cst_1]
    simp only [hP]
    refine congrArg (fun z => -Ideal.sin z) (congrArg₂ (· * ·) (congrArg (FloatOps.sitofp (F := Ideal) FTy.f32) ?_) rfl)
    simp only [TRef.toBuf, TRef.ofBuf, cast_eq, id]
    pointwise
    exact clipped p
  · after_reads_simp
    pointwise
  · after_reads_simp
    pointwise

theorem V_51 (P : Fin 1024) (p : Fin 4) (hP : P.val % 8 = 3 + p.val) (l : Fin 128) : (V m c main_v51 : (⟨S1024x128, .f32⟩ : BufTy).Contents (Elt Ideal)) (ix2 P l)
    = (if h : l.val % 64 < 8 then 0 else if h' : l.val % 64 - 8 < 8 then sinS p ⟨l.val % 64 - 8, h'⟩ else 0 : EReal) := by
  unfold V
  after_reads_simp
  simp only [Matrix.cons_val_zero, Matrix.cons_val_one, Matrix.cons_val]
  clean_types
  pointwise
  refine dite_congr rfl (fun h => ?_) fun h => dite_congr rfl (fun h' => ?_) fun h' => ?_
  · after_reads_simp
    pointwise
  · after_reads_simp
    pointwise [sinS, Cert.SampleReferenceIdeal.Read.val_main_v27, Cert.SampleReferenceIdeal.Read.val_main_v24, Cert.SampleReferenceIdeal.Read.val_main_v23, Cert.SampleReferenceIdeal.Read.val_main_v22, Cert.SampleReferenceIdeal.Read.val_main_v21, Cert.SampleReferenceIdeal.Read.val_main_v20, Cert.SampleReferenceIdeal.Read.val_main_v19, Cert.SampleReferenceIdeal.Read.val_main_v18, Cert.SampleReferenceIdeal.Read.val_main_v17, Cert.SampleReferenceIdeal.Read.val_main_v16, Cert.SampleReferenceIdeal.Read.val_main_v15, Cert.SampleReferenceIdeal.Read.val_main_v14, Cert.SampleReferenceIdeal.Read.val_main_v13, Cert.SampleReferenceIdeal.Read.val_main_v12, Cert.SampleReferenceIdeal.Read.val_main_v11, Cert.SampleReferenceIdeal.Read.val_main_v10, Cert.SampleReferenceIdeal.Read.val_main_v9, Cert.SampleReferenceIdeal.Read.val_main_v8, Cert.SampleReferenceIdeal.Read.val_main_c, Cert.SampleReferenceIdeal.Read.val_main_cst, Cert.SampleReferenceIdeal.Read.val_main_cst_0, Cert.SampleReferenceIdeal.Read.val_main_cst_1]
    simp only [hP]
    refine congrArg Ideal.sin (congrArg₂ (· * ·) (congrArg (FloatOps.sitofp (F := Ideal) FTy.f32) ?_) rfl)
    simp only [TRef.toBuf, TRef.ofBuf, cast_eq, id]
    pointwise
    exact clipped p
  · after_reads_simp
    pointwise

end Cert.Proof.Sa
end
-- ==== Proof.SaRead.lean ====
module

public import proofs.«01_k».proof.Proof.SaRef
public import proofs.«01_k».proof.Proof.InRead
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.Sa

open Cert.SampleReferenceIdeal Cert.SampleReferenceIdeal.Read
open Cert.Proof.In (rotK)
open Idealize.ShloMosaic Idealize.ShloMosaic.TcCoe Idealize.ShloMosaic.Tactic

/-! ## The samples' reference results at an index -/

/-- The rotation as the reference takes it, with the cosines and the sines of one position. -/
def rotG (f : Fin 1024 → EReal) (cs sn : Fin 8 → EReal) (e : Fin 1024) : EReal :=
  if h : e.val % 64 < 8 then f e * cs ⟨e.val % 64, h⟩ - f ⟨e.val / 64 * 64 + (e.val % 64 + 8), by omega⟩ * sn ⟨e.val % 64, h⟩
  else if h' : e.val % 64 - 8 < 8 then f e * cs ⟨e.val % 64 - 8, h'⟩ + f ⟨e.val / 64 * 64 + (e.val % 64 - 8), by omega⟩ * sn ⟨e.val % 64 - 8, h'⟩
  else f e

variable (x : (⟨S128x4x1024, .f32⟩ : BufTy).Contents (Elt Ideal)) (w : (⟨S1024x5648, .f32⟩ : BufTy).Contents (Elt Ideal))

/-- With the tables' rows the kernel's rotation is the reference's. -/
theorem rotK_eq (f : Fin 1024 → EReal) (a b c : Fin 128 → EReal) (cs sn : Fin 8 → EReal)
    (ha : ∀ l : Fin 128, a l = if h : l.val % 64 < 8 then cs ⟨l.val % 64, h⟩ else if h' : l.val % 64 - 8 < 8 then cs ⟨l.val % 64 - 8, h'⟩ else 1)
    (hb : ∀ l : Fin 128, b l = if h : l.val % 64 < 8 then -sn ⟨l.val % 64, h⟩ else if h' : l.val % 64 - 8 < 8 then 0 else 0)
    (hc : ∀ l : Fin 128, c l = if h : l.val % 64 < 8 then 0 else if h' : l.val % 64 - 8 < 8 then sn ⟨l.val % 64 - 8, h'⟩ else 0) (e : Fin 1024) :
    rotK f a b c e = rotG f cs sn e := by
  have hm : e.val % 128 % 64 = e.val % 64 := by omega
  unfold Cert.Proof.In.rotK rotG
  simp only [ha, hb, hc, hm]
  by_cases h : e.val % 64 < 8
  · simp only [dif_pos h, mul_zero, add_zero, mul_neg]
    rw [sub_eq_add_neg]
    refine congrArg (fun z => f e * cs ⟨e.val % 64, h⟩ + -(f z * sn ⟨e.val % 64, h⟩)) (Fin.ext ?_)
    show e.val / 128 * 128 + (e.val % 128 + 8) % 128 = e.val / 64 * 64 + (e.val % 64 + 8)
    omega
  · by_cases h' : e.val % 64 - 8 < 8
    · simp only [dif_neg h, dif_pos h', mul_zero, add_zero]
      refine congrArg (fun z => f e * cs ⟨e.val % 64 - 8, h'⟩ + f z * sn ⟨e.val % 64 - 8, h'⟩) (Fin.ext ?_)
      show e.val / 128 * 128 + (e.val % 128 + 120) % 128 = e.val / 64 * 64 + (e.val % 64 - 8)
      omega
    · simp only [dif_neg h, dif_neg h', mul_zero, add_zero, mul_one]

theorem v2_at (b : Fin 128) (i : Fin 4) (e : Fin 1024) : (val_main_v2 (F := Ideal) x w (ix3 b i e) : EReal) = ∑ k : Fin 1024, x (ix3 b i k) * w (ix2 k (⟨1024 + e.val, by omega⟩ : Fin 5648)) := by
  pointwise [val_main_v2, val_main_v0]
theorem v43_at (b : Fin 128) (i : Fin 4) (h : Fin 8) (d : Fin 128) : (val_main_v43 (F := Ideal) x w (ix4 b i h d) : EReal) = ∑ k : Fin 1024, x (ix3 b i k) * w (ix2 k (⟨2048 + (h.val * 128 + d.val), by omega⟩ : Fin 5648)) := by
  pointwise [val_main_v43, val_main_v3, val_main_v0]
theorem v44_at (b : Fin 128) (i : Fin 3) (e : Fin 1536) : (val_main_v44 (F := Ideal) x w (ix3 b i e) : EReal) = ∑ k : Fin 1024, x (ix3 b (⟨1 + i.val, by omega⟩ : Fin 4) k) * w (ix2 k (⟨4096 + e.val, by omega⟩ : Fin 5648)) := by
  pointwise [val_main_v44, val_main_v5, val_main_v0]
theorem v42_at (b : Fin 128) (i : Fin 4) (h : Fin 16) (d : Fin 64) : (val_main_v42 (F := Ideal) x w (ix4 b i h d) : EReal)
    = rotG (fun e => val_main_v2 (F := Ideal) x w (ix3 b i e)) (fun j => val_main_v25 (F := Ideal) (ix2 i j)) (fun j => val_main_v27 (F := Ideal) (ix2 i j)) ⟨h.val * 64 + d.val, by omega⟩ := by
  have hm : (h.val * 64 + d.val) % 64 = d.val := by omega
  have hd : (h.val * 64 + d.val) / 64 = h.val := by omega
  unfold rotG
  simp only [hm, hd]
  pointwise [val_main_v42, val_main_v41, val_main_v40, val_main_v39, val_main_v38, val_main_v37, val_main_v36, val_main_v35, val_main_v34, val_main_v33, val_main_v32, val_main_v31, val_main_v30, val_main_v29, val_main_v28, val_main_v26, val_main_v7]
  have hf : ∀ (j j' : Fin 1024), j.val = j'.val → val_main_v2 (F := Ideal) x w (ix3 b i j) = val_main_v2 (F := Ideal) x w (ix3 b i j') := fun j j' hj => congrArg (fun e => val_main_v2 (F := Ideal) x w (ix3 b i e)) (Fin.ext hj)
  refine dite_congr rfl (fun h1 => ?_) fun h1 => dite_congr rfl (fun h2 => ?_) fun h2 => ?_
  · exact congrArg₂ (· - ·) rfl (congrArg₂ (· * ·) (hf _ _ (by simp only []; omega)) rfl)
  · exact congrArg₂ (· + ·) (congrArg₂ (· * ·) (hf _ _ (by simp only []; omega)) rfl) rfl
  · exact hf _ _ (by simp only []; omega)

end Cert.Proof.Sa
end
-- ==== Proof.SaArr.lean ====
module

public import proofs.«01_k».proof.Proof.SaKer
public import proofs.«01_k».proof.Proof.SaHost
public import proofs.«01_k».proof.Proof.SaRead
public import proofs.«01_k».proof.Proof.InRead
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.Sa

open Cert.SampleIdeal Cert.SampleIdeal.Gen
open Cert.Proof.In (pm rotK)
open Idealize.ShloMosaic Idealize.ShloMosaic.TcCoe Idealize.ShloMosaic.Tactic
open Idealize.ShloMosaic.Pipeline (Dat Cfg Window)

/-! ## The blocks of the arrays -/

theorem ix_0 : ∀ t : Fin cfg0.N, win0_0.index t = ![t.val, 0] := (by decide +kernel : ∀ t : Fin grid0.N, win0_0.index t = ![t.val, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_5 : ∀ t : Fin cfg0.N, win0_5.index t = ![0, 0] := (by decide +kernel : ∀ t : Fin grid0.N, win0_5.index t = ![0, 0])
theorem ix_7 : ∀ t : Fin cfg0.N, win0_7.index t = ![t.val, 0] := (by decide +kernel : ∀ t : Fin grid0.N, win0_7.index t = ![t.val, 0])
theorem ix_8 : ∀ t : Fin cfg0.N, win0_8.index t = ![t.val, 0] := (by decide +kernel : ∀ t : Fin grid0.N, win0_8.index t = ![t.val, 0])
theorem ix_9 : ∀ t : Fin cfg0.N, win0_9.index t = ![t.val, 0] := (by decide +kernel : ∀ t : Fin grid0.N, win0_9.index t = ![t.val, 0])
theorem ix_11 : ∀ t : Fin cfg0.N, win0_11.index t = ![t.val, 0] := (by decide +kernel : ∀ t : Fin grid0.N, win0_11.index t = ![t.val, 0])
theorem ix_12 : ∀ t : Fin cfg0.N, win0_12.index t = ![t.val, 0] := (by decide +kernel : ∀ t : Fin grid0.N, win0_12.index t = ![t.val, 0])
theorem ix_14 : ∀ t : Fin cfg0.N, win0_14.index t = ![t.val, 0] := (by decide +kernel : ∀ t : Fin grid0.N, win0_14.index t = ![t.val, 0])
theorem lim (t : Fin cfg0.N) : t.val < 4 := t.isLt

variable (m : (ℓ : Loc nD τ sig) → Buf (Elt Ideal) ℓ) (c : Dev nD)

abbrev aX : (⟨S128x4x1024, .f32⟩ : BufTy).Contents (Elt Ideal) := m ((c.tc : Thread nD τ).loc main_arg0)
abbrev aW : (⟨S1024x5648, .f32⟩ : BufTy).Contents (Elt Ideal) := m ((c.tc : Thread nD τ).loc main_arg1)

/-- The padded rows. -/
abbrev hX : (⟨S1024x1024, .f32⟩ : BufTy).Contents (Elt Ideal) := V m c main_v18
/-- The tables. -/
abbrev hA : (⟨S1024x128, .f32⟩ : BufTy).Contents (Elt Ideal) := V m c main_v45
abbrev hB : (⟨S1024x128, .f32⟩ : BufTy).Contents (Elt Ideal) := V m c main_v48
abbrev hC : (⟨S1024x128, .f32⟩ : BufTy).Contents (Elt Ideal) := V m c main_v51

theorem blk_0 (t : Fin cfg0.N) (r : Fin 256) (d : Fin 1024) : (iblk m c 0 t (ix2 r d) : EReal) = hX m c (ix2 (⟨t.val * 256 + r.val, by have := lim t; omega⟩ : Fin 1024) d) := by
  blk_ext [iblk, ix_0]
theorem blk_7 (t : Fin cfg0.N) (r : Fin 256) (d : Fin 128) : (iblk m c 7 t (ix2 r d) : EReal) = hA m c (ix2 (⟨t.val * 256 + r.val, by have := lim t; omega⟩ : Fin 1024) d) := by
  blk_ext [iblk, ix_7]
theorem blk_8 (t : Fin cfg0.N) (r : Fin 256) (d : Fin 128) : (iblk m c 8 t (ix2 r d) : EReal) = hB m c (ix2 (⟨t.val * 256 + r.val, by have := lim t; omega⟩ : Fin 1024) d) := by
  blk_ext [iblk, ix_8]
theorem blk_9 (t : Fin cfg0.N) (r : Fin 256) (d : Fin 128) : (iblk m c 9 t (ix2 r d) : EReal) = hC m c (ix2 (⟨t.val * 256 + r.val, by have := lim t; omega⟩ : Fin 1024) d) := by
  blk_ext [iblk, ix_9]
theorem blk_2 (t : Fin cfg0.N) (k : Fin 1024) (d : Fin 1024) : iblk m c 2 t (ix2 k d) = aW m c (ix2 k (⟨1024 + d.val, by omega⟩ : Fin 5648)) := by
  refine Eq.trans ?_ (V_2 m c k d)
  blk_ext [iblk, ix_2]
theorem blk_3 (t : Fin cfg0.N) (k : Fin 1024) (d : Fin 1024) : iblk m c 3 t (ix2 k d) = aW m c (ix2 k (⟨2048 + d.val, by omega⟩ : Fin 5648)) := by
  refine Eq.trans ?_ (V_3 m c k d)
  blk_ext [iblk, ix_3]
theorem blk_5 (t : Fin cfg0.N) (k : Fin 1024) (d : Fin 1536) : iblk m c 5 t (ix2 k d) = aW m c (ix2 k (⟨4096 + d.val, by omega⟩ : Fin 5648)) := by
  refine Eq.trans ?_ (V_5 m c k d)
  blk_ext [iblk, ix_5]

/-! ## The arrays the samples' call leaves, over the padded rows -/

/-- The keys before their rotation. -/
def rowK (P : Fin 1024) (e : Fin 1024) : EReal := ∑ k : Fin 1024, hX m c (ix2 P k) * aW m c (ix2 k (⟨1024 + e.val, by omega⟩ : Fin 5648))
/-- The keys. -/
def K11 : (⟨S1024x1024, .f32⟩ : BufTy).Contents (Elt Ideal) := fun y => rotK (rowK m c (y 0)) (fun l => hA m c (ix2 (y 0) l)) (fun l => hB m c (ix2 (y 0) l)) (fun l => hC m c (ix2 (y 0) l)) (y 1)
/-- The values. -/
def K12 : (⟨S1024x1024, .f32⟩ : BufTy).Contents (Elt Ideal) := fun y => ∑ k : Fin 1024, hX m c (ix2 (y 0) k) * aW m c (ix2 k (⟨2048 + (y 1).val, by have := (y 1).isLt; change (y 1).val < 1024 at this; omega⟩ : Fin 5648))
/-- The convolution's inputs. -/
def K14 : (⟨S1024x1536, .f32⟩ : BufTy).Contents (Elt Ideal) := fun y => ∑ k : Fin 1024, hX m c (ix2 (y 0) k) * aW m c (ix2 k (⟨4096 + (y 1).val, by have := (y 1).isLt; change (y 1).val < 1536 at this; omega⟩ : Fin 5648))

theorem arr_11 : (dats m 0 c).arrAt 11 cfg0.N = K11 m c := by
  refine (dats m 0 c).arrAt_eq_of_covers 11 _ (by decide +kernel) fun t hf y => ?_
  rw [after0_11]
  obtain ⟨r, e, rfl⟩ : ∃ (r : Fin 256) (e : Fin 1024), y = ix2 r e := ⟨y 0, y 1, eq_ix2 y⟩
  have ht := lim t
  have hemb : ((cfg0.win 11).blk t).view.emb (ix2 r e) = ix2 (⟨t.val * 256 + r.val, by omega⟩ : Fin 1024) e := funext fun a => by
    fin_cases a
    · exact Fin.ext (by show _ = t.val * 256 + r.val; blk_simp [ix_11]; try first | rfl | omega)
    · exact Fin.ext (by show _ = e.val; blk_simp [ix_11]; try first | rfl | omega)
  have hval : (out0_11 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = K11 m c (ix2 (⟨t.val * 256 + r.val, by omega⟩ : Fin 1024) e) := by
    refine (out11_at _ _ _ _ _ _ _ _ _ _ _ _).trans ?_
    unfold R
    show _ = rotK (rowK m c _) _ _ _ e
    simp only [pm_at, blk_7, blk_8, blk_9]
    refine congrArg (fun f => rotK f _ _ _ e) (funext fun j => ?_)
    unfold pm rowK
    simp only [blk_0, blk_2]
    rfl
  generalize out0_11 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize K11 m c = z at hval ⊢
  generalize ((cfg0.win 11).blk t).view.emb (ix2 r e) = i at hemb ⊢
  subst hemb
  exact hval

theorem arr_12 : (dats m 0 c).arrAt 12 cfg0.N = K12 m c := by
  refine (dats m 0 c).arrAt_eq_of_covers 12 _ (by decide +kernel) fun t hf y => ?_
  rw [after0_12]
  obtain ⟨r, e, rfl⟩ : ∃ (r : Fin 256) (e : Fin 1024), y = ix2 r e := ⟨y 0, y 1, eq_ix2 y⟩
  have ht := lim t
  have hemb : ((cfg0.win 12).blk t).view.emb (ix2 r e) = ix2 (⟨t.val * 256 + r.val, by omega⟩ : Fin 1024) e := funext fun a => by
    fin_cases a
    · exact Fin.ext (by show _ = t.val * 256 + r.val; blk_simp [ix_12]; try first | rfl | omega)
    · exact Fin.ext (by show _ = e.val; blk_simp [ix_12]; try first | rfl | omega)
  have hval : (out0_12 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = K12 m c (ix2 (⟨t.val * 256 + r.val, by omega⟩ : Fin 1024) e) := by
    refine (out12_at _ _ _ _ _ _ _ _ _ _ _ _).trans ?_
    unfold pm
    simp only [blk_0, blk_3]
    rfl
  generalize out0_12 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize K12 m c = z at hval ⊢
  generalize ((cfg0.win 12).blk t).view.emb (ix2 r e) = i at hemb ⊢
  subst hemb
  exact hval

theorem arr_14 : (dats m 0 c).arrAt 14 cfg0.N = K14 m c := by
  refine (dats m 0 c).arrAt_eq_of_covers 14 _ (by decide +kernel) fun t hf y => ?_
  rw [after0_14]
  obtain ⟨r, e, rfl⟩ : ∃ (r : Fin 256) (e : Fin 1536), y = ix2 r e := ⟨y 0, y 1, eq_ix2 y⟩
  have ht := lim t
  have hemb : ((cfg0.win 14).blk t).view.emb (ix2 r e) = ix2 (⟨t.val * 256 + r.val, by omega⟩ : Fin 1024) e := funext fun a => by
    fin_cases a
    · exact Fin.ext (by show _ = t.val * 256 + r.val; blk_simp [ix_14]; try first | rfl | omega)
    · exact Fin.ext (by show _ = e.val; blk_simp [ix_14]; try first | rfl | omega)
  have hval : (out0_14 (iblk m c 0 t) (iblk m c 1 t) (iblk m c 2 t) (iblk m c 3 t) (iblk m c 4 t) (iblk m c 5 t) (iblk m c 6 t) (iblk m c 7 t) (iblk m c 8 t) (iblk m c 9 t) (ix2 r e) : EReal) = K14 m c (ix2 (⟨t.val * 256 + r.val, by omega⟩ : Fin 1024) e) := by
    refine (out14_at _ _ _ _ _ _ _ _ _ _ _ _).trans ?_
    unfold pm
    simp only [blk_0, blk_5]
    rfl
  generalize out0_14 (iblk m c 0 t) (iblk m c 1 t) (iblk m c 2 t) (iblk m c 3 t) (iblk m c 4 t) (iblk m c 5 t) (iblk m c 6 t) (iblk m c 7 t) (iblk m c 8 t) (iblk m c 9 t) = o at hval ⊢
  generalize K14 m c = z at hval ⊢
  generalize ((cfg0.win 14).blk t).view.emb (ix2 r e) = i at hemb ⊢
  subst hemb
  exact hval

end Cert.Proof.Sa
end
-- ==== Proof.SaVal.lean ====
module

public import proofs.«01_k».proof.Proof.SaArr
public import proofs.«01_k».proof.Proof.InRead
public import Idealize.ShloMosaic.Lib.Pipeline.ValueKit.Geometry
public import Idealize.ShloMosaic.Lib.Pipeline.Value
public import Idealize.ShloMosaic.Lib.Pointwise
public import Idealize.ShloMosaic.Lib.StableHlo.ReadAt
public import Idealize.ShloMosaic.Lib.Claim
public import Idealize.ShloMosaic.Lib.Pipeline.ValueKit.Tiles
public import Idealize.ShloMosaic.Lib.Pipeline.ValueKit.Acc
public import Idealize.ShloMosaic.Lib.IdealHost

@[expose] public section

set_option maxRecDepth 16384

noncomputable section

namespace Cert.Proof.Sa

open Cert.SampleIdeal Cert.SampleIdeal.Gen
open Cert.Proof.In (pm rotK)
open Idealize.ShloMosaic Idealize.ShloMosaic.TcCoe Idealize.ShloMosaic.Tactic Idealize.ShloMosaic.StableHlo Idealize.SL.Sem

/-! ## What the host makes of the samples' arrays -/

theorem after_60 (W : Valuation τ sig (Elt Ideal)) :
    StableHlo.after (List.flatten [hostOps1]) W (Proc.devRef .tc main_v60)
      = shapeCast S128x4x16x64 (extractStridedSlice S128x4x1024 ![0, 3, 0] (shapeCast S128x8x1024 (W (Proc.devRef .tc main_v52_1) : (⟨S1024x1024, .f32⟩ : BufTy).Contents (Elt Ideal)) shapeCasts_S1024x1024_S128x8x1024) slices_S128x8x1024_S128x4x1024_0_3_0) shapeCasts_S128x4x1024_S128x4x16x64 := by
  after_reads_simp
  rfl
theorem after_61 (W : Valuation τ sig (Elt Ideal)) :
    StableHlo.after (List.flatten [hostOps1]) W (Proc.devRef .tc main_v61)
      = shapeCast S128x4x8x128 (extractStridedSlice S128x4x1024 ![0, 3, 0] (shapeCast S128x8x1024 (W (Proc.devRef .tc main_v52_2) : (⟨S1024x1024, .f32⟩ : BufTy).Contents (Elt Ideal)) shapeCasts_S1024x1024_S128x8x1024) slices_S128x8x1024_S128x4x1024_0_3_0) shapeCasts_S128x4x1024_S128x4x8x128 := by
  after_reads_simp
  rfl
theorem after_59 (W : Valuation τ sig (Elt Ideal)) :
    StableHlo.after (List.flatten [hostOps1]) W (Proc.devRef .tc main_v59)
      = extractStridedSlice S128x3x1536 ![0, 1, 0] (extractStridedSlice S128x4x1536 ![0, 3, 0] (shapeCast S128x8x1536 (W (Proc.devRef .tc main_v52_4) : (⟨S1024x1536, .f32⟩ : BufTy).Contents (Elt Ideal)) shapeCasts_S1024x1536_S128x8x1536) slices_S128x8x1536_S128x4x1536_0_3_0) slices_S128x4x1536_S128x3x1536_0_1_0 := by
  after_reads_simp
  rfl

theorem cut_60 (z : (⟨S1024x1024, .f32⟩ : BufTy).Contents (Elt Ideal)) (b : Fin 128) (i : Fin 4) (h : Fin 16) (d : Fin 64) :
    (shapeCast S128x4x16x64 (extractStridedSlice S128x4x1024 ![0, 3, 0] (shapeCast S128x8x1024 z shapeCasts_S1024x1024_S128x8x1024) slices_S128x8x1024_S128x4x1024_0_3_0) shapeCasts_S128x4x1024_S128x4x16x64 (ix4 b i h d) : EReal) = z (ix2 (⟨b.val * 8 + (3 + i.val), by omega⟩ : Fin 1024) (⟨h.val * 64 + d.val, by omega⟩ : Fin 1024)) := by
  pointwise
theorem cut_61 (z : (⟨S1024x1024, .f32⟩ : BufTy).Contents (Elt Ideal)) (b : Fin 128) (i : Fin 4) (h : Fin 8) (d : Fin 128) :
    (shapeCast S128x4x8x128 (extractStridedSlice S128x4x1024 ![0, 3, 0] (shapeCast S128x8x1024 z shapeCasts_S1024x1024_S128x8x1024) slices_S128x8x1024_S128x4x1024_0_3_0) shapeCasts_S128x4x1024_S128x4x8x128 (ix4 b i h d) : EReal) = z (ix2 (⟨b.val * 8 + (3 + i.val), by omega⟩ : Fin 1024) (⟨h.val * 128 + d.val, by omega⟩ : Fin 1024)) := by
  pointwise
theorem cut_59 (z : (⟨S1024x1536, .f32⟩ : BufTy).Contents (Elt Ideal)) (b : Fin 128) (i : Fin 3) (e : Fin 1536) :
    (extractStridedSlice S128x3x1536 ![0, 1, 0] (extractStridedSlice S128x4x1536 ![0, 3, 0] (shapeCast S128x8x1536 z shapeCasts_S1024x1536_S128x8x1536) slices_S128x8x1536_S128x4x1536_0_3_0) slices_S128x4x1536_S128x3x1536_0_1_0 (ix3 b i e) : EReal) = z (ix2 (⟨b.val * 8 + (3 + (1 + i.val)), by omega⟩ : Fin 1024) e) := by
  pointwise

variable (m : (ℓ : Loc nD τ sig) → Buf (Elt Ideal) ℓ) (c : Dev nD)

/-- A token's row of the padded rows. -/
theorem hX_at (b : Fin 128) (i : Fin 4) (P : Fin 1024) (hP : P.val = b.val * 8 + (3 + i.val)) (k : Fin 1024) : (hX m c (ix2 P k) : EReal) = aX m c (ix3 b i k) :=
  V_18 m c b i P hP k

/-- A token's keys. -/
theorem K11_at (b : Fin 128) (i : Fin 4) (P : Fin 1024) (hP : P.val = b.val * 8 + (3 + i.val)) (e : Fin 1024) : (K11 m c (ix2 P e) : EReal)
    = rotG (fun e => Cert.SampleReferenceIdeal.Read.val_main_v2 (F := Ideal) (aX m c) (aW m c) (ix3 b i e)) (fun j => Cert.SampleReferenceIdeal.Read.val_main_v25 (F := Ideal) (ix2 i j)) (fun j => Cert.SampleReferenceIdeal.Read.val_main_v27 (F := Ideal) (ix2 i j)) e := by
  have hm : P.val % 8 = 3 + i.val := by omega
  show rotK (rowK m c P) (fun l => hA m c (ix2 P l)) (fun l => hB m c (ix2 P l)) (fun l => hC m c (ix2 P l)) e = _
  rw [rotK_eq _ _ _ _ (cosS i) (sinS i) (fun l => V_45 m c P i hm l) (fun l => V_48 m c P i hm l) (fun l => V_51 m c P i hm l) e]
  refine congrArg (fun f => rotG f (cosS i) (sinS i) e) (funext fun j => ?_)
  rw [v2_at]
  unfold rowK
  simp only [hX_at m c b i P hP]
theorem K12_at (b : Fin 128) (i : Fin 4) (P : Fin 1024) (hP : P.val = b.val * 8 + (3 + i.val)) (e : Fin 1024) : (K12 m c (ix2 P e) : EReal)
    = ∑ k : Fin 1024, aX m c (ix3 b i k) * aW m c (ix2 k (⟨2048 + e.val, by omega⟩ : Fin 5648)) := by
  show ∑ k : Fin 1024, hX m c (ix2 P k) * aW m c (ix2 k (⟨2048 + e.val, by omega⟩ : Fin 5648)) = _
  simp only [hX_at m c b i P hP]
theorem K14_at (b : Fin 128) (i : Fin 4) (P : Fin 1024) (hP : P.val = b.val * 8 + (3 + i.val)) (e : Fin 1536) : (K14 m c (ix2 P e) : EReal)
    = ∑ k : Fin 1024, aX m c (ix3 b i k) * aW m c (ix2 k (⟨4096 + e.val, by omega⟩ : Fin 5648)) := by
  show ∑ k : Fin 1024, hX m c (ix2 P k) * aW m c (ix2 k (⟨4096 + e.val, by omega⟩ : Fin 5648)) = _
  simp only [hX_at m c b i P hP]

theorem made_60 (z : (⟨S1024x1024, .f32⟩ : BufTy).Contents (Elt Ideal)) (hz : z = K11 m c) : shapeCast S128x4x16x64 (extractStridedSlice S128x4x1024 ![0, 3, 0] (shapeCast S128x8x1024 z shapeCasts_S1024x1024_S128x8x1024) slices_S128x8x1024_S128x4x1024_0_3_0) shapeCasts_S128x4x1024_S128x4x16x64 = Cert.SampleReferenceIdeal.Read.val_main_v42 (F := Ideal) (aX m c) (aW m c) := by
  funext y
  obtain ⟨b, i, h, d, rfl⟩ : ∃ (b : Fin 128) (i : Fin 4) (h : Fin 16) (d : Fin 64), y = ix4 b i h d := ⟨y 0, y 1, y 2, y 3, eq_ix4 y⟩
  refine (cut_60 z b i h d).trans (Eq.trans ?_ (v42_at (aX m c) (aW m c) b i h d).symm)
  rw [hz]
  exact K11_at m c b i _ rfl _
theorem made_61 (z : (⟨S1024x1024, .f32⟩ : BufTy).Contents (Elt Ideal)) (hz : z = K12 m c) : shapeCast S128x4x8x128 (extractStridedSlice S128x4x1024 ![0, 3, 0] (shapeCast S128x8x1024 z shapeCasts_S1024x1024_S128x8x1024) slices_S128x8x1024_S128x4x1024_0_3_0) shapeCasts_S128x4x1024_S128x4x8x128 = Cert.SampleReferenceIdeal.Read.val_main_v43 (F := Ideal) (aX m c) (aW m c) := by
  funext y
  obtain ⟨b, i, h, d, rfl⟩ : ∃ (b : Fin 128) (i : Fin 4) (h : Fin 8) (d : Fin 128), y = ix4 b i h d := ⟨y 0, y 1, y 2, y 3, eq_ix4 y⟩
  refine (cut_61 z b i h d).trans (Eq.trans ?_ (v43_at (aX m c) (aW m c) b i h d).symm)
  rw [hz]
  exact K12_at m c b i _ rfl _
theorem made_59 (z : (⟨S1024x1536, .f32⟩ : BufTy).Contents (Elt Ideal)) (hz : z = K14 m c) : extractStridedSlice S128x3x1536 ![0, 1, 0] (extractStridedSlice S128x4x1536 ![0, 3, 0] (shapeCast S128x8x1536 z shapeCasts_S1024x1536_S128x8x1536) slices_S128x8x1536_S128x4x1536_0_3_0) slices_S128x4x1536_S128x3x1536_0_1_0 = Cert.SampleReferenceIdeal.Read.val_main_v44 (F := Ideal) (aX m c) (aW m c) := by
  funext y
  obtain ⟨b, i, e, rfl⟩ : ∃ (b : Fin 128) (i : Fin 3) (e : Fin 1536), y = ix3 b i e := ⟨y 0, y 1, y 2, eq_ix3 y⟩
  refine (cut_59 z b i e).trans (Eq.trans ?_ (v44_at (aX m c) (aW m c) b i e).symm)
  rw [hz]
  exact K14_at m c b (⟨1 + i.val, by omega⟩ : Fin 4) _ rfl _

/-- What every buffer outside the call's arrays holds at the end. -/
abbrev Z (b : Ref sig .tc) := Pipeline.afterTail₀ cfgs (dats m) 0 (V0 m) [hostOps1] c b

theorem arr_inj : Function.Injective (Pipeline.arrRef spec0) := by
  intro w w' h
  revert w w'
  decide

/-- The call's arrays as the host finds them. -/
theorem found (w : Fin 16) : Pipeline.withArrays (cfgs 0).spec c (V0 m c) (fun w => (dats m 0 c).arrAt w (cfgs 0).N) (Proc.devRef .tc (Pipeline.arrRef (cfgs 0).spec w)) = (dats m 0 c).arrAt w cfg0.N :=
  Pipeline.withArrays_arr (cfgs 0).spec arr_inj c (V0 m c) _ w

/-- The samples' keys, by sample, token, head and column. -/
theorem z_60 : Z m c main_v60 = Cert.SampleReferenceIdeal.Read.val_main_v42 (F := Ideal) (aX m c) (aW m c) := by
  unfold Z Pipeline.afterTail₀
  refine (after_60 _).trans ?_
  exact made_60 m c _ ((found m c 11).trans (arr_11 m c))
/-- The samples' values, by sample, token, head and column. -/
theorem z_61 : Z m c main_v61 = Cert.SampleReferenceIdeal.Read.val_main_v43 (F := Ideal) (aX m c) (aW m c) := by
  unfold Z Pipeline.afterTail₀
  refine (after_61 _).trans ?_
  exact made_61 m c _ ((found m c 12).trans (arr_12 m c))
/-- The samples' convolution states. -/
theorem z_59 : Z m c main_v59 = Cert.SampleReferenceIdeal.Read.val_main_v44 (F := Ideal) (aX m c) (aW m c) := by
  unfold Z Pipeline.afterTail₀
  refine (after_59 _).trans ?_
  exact made_59 m c _ ((found m c 14).trans (arr_14 m c))

set_option maxHeartbeats 4000000 in
/-- The idealized samples' call with the host around it runs to an end with these three results, the arguments kept. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v60) = Cert.SampleReferenceIdeal.Read.val_main_v42 (F := Ideal) (aX m c) (aW m c)
      ∧ r.2.mem ((c.tc : Thread nD τ).loc main_v61) = Cert.SampleReferenceIdeal.Read.val_main_v43 (F := Ideal) (aX m c) (aW m c)
      ∧ r.2.mem ((c.tc : Thread nD τ).loc main_v59) = Cert.SampleReferenceIdeal.Read.val_main_v44 (F := Ideal) (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
    ((h c).2 main_v60 (Pipeline.mem_restRefs_of main_v60 (by decide) (by decide))).trans (z_60 m c),
    ((h c).2 main_v61 (Pipeline.mem_restRefs_of main_v61 (by decide) (by decide))).trans (z_61 m c),
    ((h c).2 main_v59 (Pipeline.mem_restRefs_of main_v59 (by decide) (by decide))).trans (z_59 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m g)

end Cert.Proof.Sa
end
-- ==== Proof.PostMaths.lean ====
module

public import proofs.«01_k».proof.Proof.Maths
public import Idealize.ShloMosaic.Lib.IdealHost

@[expose] public section

set_option maxRecDepth 16384

noncomputable section

namespace Cert.Proof.Post

open Idealize.ShloMosaic

/-! ## The layer's end, of one token -/

/-- The number of features, as its word. -/
abbrev cN : EReal := Ideal.ofBits .f32 0x44800000#32
/-- The small number added to a variance. -/
abbrev cEps : EReal := Ideal.ofBits .f32 0x3727C5AC#32
/-- The weight of what a block adds to. -/
abbrev cAlpha : EReal := Ideal.ofBits .f32 0x3F9837F0#32

/-- A row's average. -/
def mean (x : Fin 1024 → EReal) : EReal := Ideal.div (∑ k, x k) cN

/-- A row normalised over its features, scaled and shifted. -/
def lnorm (x : Fin 1024 → EReal) (g b : Fin 1024 → EReal) (e : Fin 1024) : EReal :=
  (x e - mean x) * Ideal.rsqrt (Ideal.div (∑ k, (x k - mean x) * (x k - mean x)) cN + cEps) * g e + b e

/-- A row times a matrix. -/
def vecmat {n p : ℕ} (x : Fin n → EReal) (w : Fin n → Fin p → EReal) (e : Fin p) : EReal := ∑ k, x k * w k e

/-- The first normalised row: the input with the attention's and the state-space part's projections. -/
def first (a s x : Fin 1024 → EReal) (wa ws : Fin 1024 → Fin 1024 → EReal) (g b : Fin 1024 → EReal) : Fin 1024 → EReal :=
  lnorm (fun e => cAlpha * x e + (vecmat a wa e + vecmat s ws e)) g b

/-- A number times its logistic. -/
def silu (x : EReal) : EReal := x * Ideal.div 1 (1 + Ideal.exp (-x))

/-- The feed-forward part. -/
def ffn (h : Fin 1024 → EReal) (wg wu : Fin 1024 → Fin 2816 → EReal) (wo : Fin 2816 → Fin 1024 → EReal) : Fin 1024 → EReal :=
  vecmat (fun j => silu (vecmat h wg j) * vecmat h wu j) wo

/-- The prompt embedding, gated. -/
def pemb (h : Fin 1024 → EReal) (p : Fin 256 → EReal) (wp : Fin 256 → Fin 1024 → EReal) (wq : Fin 1024 → Fin 1024 → EReal) (e : Fin 1024) : EReal :=
  vecmat p wp e * Ideal.logistic (vecmat h wq e)

/-- The second normalised row. -/
def second (h f p : Fin 1024 → EReal) (g b : Fin 1024 → EReal) : Fin 1024 → EReal :=
  lnorm (fun e => cAlpha * h e + f e + p e) g b

/-! ## Real numbers -/

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem IsReal.sum {n : ℕ} {f : Fin n → EReal} (h : ∀ k, IsReal (f k)) : IsReal (∑ k, f k) := by
  choose r hr using h
  exact ⟨∑ k, r k, by rw [← coe_sum]; exact Finset.sum_congr rfl fun k _ => hr k⟩

theorem IsReal.vecmat {n p : ℕ} {x : Fin n → EReal} {w : Fin n → Fin p → EReal} (hx : ∀ k, IsReal (x k)) (hw : ∀ k e, IsReal (w k e)) (e : Fin p) :
    IsReal (vecmat x w e) := IsReal.sum fun k => (hx k).mul (hw k e)

theorem cN_eq : cN = ((1024 : ℝ) : EReal) := by
  show Ideal.ofBits .f32 0x44800000#32 = _
  simp [Ideal.ofBits, Ideal.ieee, -EReal.coe_mul]
  norm_num

theorem cEps_pos : ∃ r : ℝ, 0 < r ∧ cEps = (r : EReal) := by
  refine ⟨(10995116 : ℝ) / 2 ^ 40, by norm_num, ?_⟩
  show Ideal.ofBits .f32 0x3727C5AC#32 = _
  simp [Ideal.ofBits, Ideal.ieee, -EReal.coe_mul]
  norm_num

theorem cAlpha_real : IsReal cAlpha := by
  refine ⟨(9975792 : ℝ) / 2 ^ 23, ?_⟩
  show Ideal.ofBits .f32 0x3F9837F0#32 = _
  simp [Ideal.ofBits, Ideal.ieee, -EReal.coe_mul]
  norm_num

theorem cHalf_eq : Ideal.ofBits .f32 0x3F000000#32 = ((1 / 2 : ℝ) : EReal) := by
  simp [Ideal.ofBits, Ideal.ieee, -EReal.coe_mul]
  try norm_num

theorem cOne_eq : Ideal.ofBits .f32 0x3F800000#32 = (1 : EReal) := by
  simp [Ideal.ofBits, Ideal.ieee, -EReal.coe_mul]
  try norm_num

theorem div_real {x y : ℝ} (hy : y ≠ 0) : Ideal.div (x : EReal) (y : EReal) = ((x / y : ℝ) : EReal) := by
  simp [Ideal.div, hy, EReal.coe_div, div_eq_mul_inv]
  rw [EReal.coe_inv]

theorem lnorm_real {x g b : Fin 1024 → EReal} (hx : ∀ k, IsReal (x k)) (hg : ∀ k, IsReal (g k)) (hb : ∀ k, IsReal (b k)) (e : Fin 1024) : IsReal (lnorm x g b e) := by
  have hm : IsReal (mean x) := by
    obtain ⟨s, hs⟩ := IsReal.sum hx
    exact ⟨s / 1024, by unfold mean; rw [hs, cN_eq]; exact div_real (by norm_num)⟩
  obtain ⟨μ, hμ⟩ := hm
  choose r hr using hx
  obtain ⟨ε, hε, eε⟩ := cEps_pos
  have hs : (∑ k, (x k - mean x) * (x k - mean x)) = ((∑ k, (r k - μ) * (r k - μ) : ℝ) : EReal) := by
    rw [← coe_sum]
    exact Finset.sum_congr rfl fun k _ => by rw [hr k, hμ, ← EReal.coe_sub, ← EReal.coe_mul]
  have h0 : (0 : ℝ) ≤ ∑ k, (r k - μ) * (r k - μ) := Finset.sum_nonneg fun k _ => mul_self_nonneg _
  have hq : 0 < (∑ k, (r k - μ) * (r k - μ)) / 1024 + ε := by positivity
  refine IsReal.add (IsReal.mul (IsReal.mul ?_ ?_) (hg e)) (hb e)
  · exact IsReal.sub ⟨r e, hr e⟩ ⟨μ, hμ⟩
  · rw [hs, cN_eq, div_real (by norm_num), eε, ← EReal.coe_add, Ideal.rsqrt_coe, if_neg (not_lt.2 hq.le), if_neg hq.ne']
    exact ⟨_, rfl⟩

theorem first_real {a s x : Fin 1024 → EReal} {wa ws : Fin 1024 → Fin 1024 → EReal} {g b : Fin 1024 → EReal}
    (ha : ∀ k, IsReal (a k)) (hs : ∀ k, IsReal (s k)) (hx : ∀ k, IsReal (x k)) (hwa : ∀ k e, IsReal (wa k e)) (hws : ∀ k e, IsReal (ws k e))
    (hg : ∀ k, IsReal (g k)) (hb : ∀ k, IsReal (b k)) (e : Fin 1024) : IsReal (first a s x wa ws g b e) :=
  lnorm_real (fun e => (cAlpha_real.mul (hx e)).add ((IsReal.vecmat ha hwa e).add (IsReal.vecmat hs hws e))) hg hb e

/-! ## The gate, by the hyperbolic tangent -/

/-- A number times its logistic, by the hyperbolic tangent of its half. -/
def siluT (x : EReal) : EReal :=
  Ideal.ofBits .f32 0x3F000000#32 * x + Ideal.ofBits .f32 0x3F000000#32 * x * Ideal.tanh (Ideal.ofBits .f32 0x3F000000#32 * x)

theorem silu_real (x : ℝ) : 1 / 2 * x + 1 / 2 * x * Real.tanh (1 / 2 * x) = x * (1 / (1 + Real.exp (-x))) := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have h3 := Real.exp_pos (1 / 2 * x)
  have h4 := Real.exp_pos (-(1 / 2 * x))
  rw [Real.tanh_eq_sinh_div_cosh, Real.sinh_eq, Real.cosh_eq, h1]
  generalize Real.exp (1 / 2 * x) = p at *
  generalize Real.exp (-(1 / 2 * x)) = q at *
  have hq : 1 + q * q ≠ 0 := by positivity
  have hp : p + q ≠ 0 := by positivity
  field_simp
  linear_combination (2 * x * q) * h2

theorem siluT_eq {x : EReal} (h : IsReal x) : siluT x = silu x := by
  obtain ⟨x, rfl⟩ := h
  have hp : 1 + Real.exp (-x) ≠ 0 := by positivity
  unfold siluT silu
  rw [cHalf_eq, ← EReal.coe_mul, Ideal.tanh_coe, ← EReal.coe_mul, ← EReal.coe_add, silu_real, ← EReal.coe_neg, Ideal.exp_coe,
    show (1 : EReal) = ((1 : ℝ) : EReal) from rfl, ← EReal.coe_add, div_real hp, ← EReal.coe_mul]

theorem sum_halves (f : Fin 2816 → EReal) : (∑ k : Fin 1408, f ⟨k.val, by omega⟩) + (∑ k : Fin 1408, f ⟨1408 + k.val, by omega⟩) = ∑ k, f k :=
  (Fin.sum_univ_add (a := 1408) (b := 1408) f).symm

theorem sum_two (f : Fin 2048 → EReal) : (∑ k : Fin 1024, f ⟨k.val, by omega⟩) + (∑ k : Fin 1024, f ⟨1024 + k.val, by omega⟩) = ∑ k, f k :=
  (Fin.sum_univ_add (a := 1024) (b := 1024) f).symm

end Cert.Proof.Post

end
-- ==== Proof.PostPre.lean ====
module

public import proofs.«01_k».proof.Proof.Pre
public import proofs.«01_k».proof.Proof.PostMaths
public import proofs.«01_k».proof.Proof.Gen.Pre_finite_post
public import Idealize.ShloMosaic.Lib.Pointwise
public import Idealize.ShloMosaic.Lib.IdealHost

@[expose] public section

set_option maxRecDepth 16384

noncomputable section

namespace Cert.Proof.PostPre

open Cert.Pre_finite_post Cert.Pre_finite_post.Gen
open Idealize.ShloMosaic Idealize.ShloMosaic.TcCoe Idealize.ShloMosaic.Tactic
open Cert.Proof.Pre (fold_and real_of_lt)
open Cert.Proof.Post (IsReal)

/-! ## What the second call's precondition says -/

/-- A conjunction of every element says each. -/
theorem all_of_reduce {s u : Shape} {axes : List (Fin s.rank)} (x : IVec s 1) (init : IVec u 1) (h : s.ReducesTo axes S_) (hu : 0 < u.numel) (j : S_.Idx)
    (hx : Host.reduce IntOp.andi x init h hu j = 1#1) (i : s.Idx) : x i = 1#1 := by
  rw [Host.reduce_eq_fold] at hx
  exact fold_and _ _ _ hx i (Finset.mem_filter.2 ⟨Finset.mem_univ _, funext fun a => a.elim0⟩)

theorem eight (v0 v1 v2 v3 v4 v5 v6 v7 : IVec S1 1) (h : Host.reduce IntOp.andi (concatenate S8 0 [⟨S1, v0⟩, ⟨S1, v1⟩, ⟨S1, v2⟩, ⟨S1, v3⟩, ⟨S1, v4⟩, ⟨S1, v5⟩, ⟨S1, v6⟩, ⟨S1, v7⟩] concatenates_S1_S1_S1_S1_S1_S1_S1_S1_S8_d0)
      (constantI S_ 1 1#1) reducesTo_S8_S_d0 h_S_ ix0 = 1#1) :
    v0 (ix1 0) = 1#1 ∧ v1 (ix1 0) = 1#1 ∧ v2 (ix1 0) = 1#1 ∧ v3 (ix1 0) = 1#1 ∧ v4 (ix1 0) = 1#1 ∧ v5 (ix1 0) = 1#1 ∧ v6 (ix1 0) = 1#1 ∧ v7 (ix1 0) = 1#1 := by
  have hk := all_of_reduce _ _ _ _ _ h
  have e : ∀ (k : Fin 8) (w : IVec S1 1), concatenate S8 0 [⟨S1, v0⟩, ⟨S1, v1⟩, ⟨S1, v2⟩, ⟨S1, v3⟩, ⟨S1, v4⟩, ⟨S1, v5⟩, ⟨S1, v6⟩, ⟨S1, v7⟩] concatenates_S1_S1_S1_S1_S1_S1_S1_S1_S8_d0 (ix1 k) = w (ix1 0) → w (ix1 0) = 1#1 :=
    fun k w hw => hw ▸ hk (ix1 k)
  refine ⟨e 0 v0 ?_, e 1 v1 ?_, e 2 v2 ?_, e 3 v3 ?_, e 4 v4 ?_, e 5 v5 ?_, e 6 v6 ?_, e 7 v7 ?_⟩ <;> pointwise []

/-- The precondition says that each argument the gates are made of holds real numbers alone. -/
theorem real_args (a0 : FVec Ideal S16384x1024 .bf16) (a1 : FVec Ideal S16384x1024 .bf16) (a2 : FVec Ideal S16384x1024 .f32) (a3 : FVec Ideal S16384x256 .f32) (a4 : FVec Ideal S1024x1024 .bf16) (a5 : FVec Ideal S1024x1024 .bf16) (a6 : FVec Ideal S1024x2816 .bf16) (a7 : FVec Ideal S1024x2816 .bf16) (a8 : FVec Ideal S2816x1024 .bf16) (a9 : FVec Ideal S256x1024 .bf16) (a10 : FVec Ideal S1024x1024 .bf16) (a11 : FVec Ideal S1x1024 .f32) (a12 : FVec Ideal S1x1024 .f32) (a13 : FVec Ideal S1x1024 .f32) (a14 : FVec Ideal S1x1024 .f32)
    (h : Cert.Pre_finite_post.fn (F := Ideal) a0 a1 a2 a3 a4 a5 a6 a7 a8 a9 a10 a11 a12 a13 a14 = fun _ => 1#1) :
    (∀ i, IsReal (a0 i)) ∧ (∀ i, IsReal (a1 i)) ∧ (∀ i, IsReal (a2 i)) ∧ (∀ i, IsReal (a4 i)) ∧ (∀ i, IsReal (a5 i)) ∧ (∀ i, IsReal (a6 i)) ∧ (∀ i, IsReal (a11 i)) ∧ (∀ i, IsReal (a12 i)) := by
  have h0 := congrFun h ix0
  obtain ⟨h0, h1, h2, h3, h4, h5, h6, h7⟩ := eight _ _ _ _ _ _ _ _ h0
  refine ⟨fun i => ?_, fun i => ?_, fun i => ?_, fun i => ?_, fun i => ?_, fun i => ?_, fun i => ?_, fun i => ?_⟩
  · exact real_of_lt _ (all_of_reduce _ _ _ _ _ h0 i)
  · exact real_of_lt _ (all_of_reduce _ _ _ _ _ h1 i)
  · exact real_of_lt _ (all_of_reduce _ _ _ _ _ h2 i)
  · exact real_of_lt _ (all_of_reduce _ _ _ _ _ h3 i)
  · exact real_of_lt _ (all_of_reduce _ _ _ _ _ h4 i)
  · exact real_of_lt _ (all_of_reduce _ _ _ _ _ h5 i)
  · exact real_of_lt _ (all_of_reduce _ _ _ _ _ h6 i)
  · exact real_of_lt _ (all_of_reduce _ _ _ _ _ h7 i)

end Cert.Proof.PostPre

end
-- ==== Proof.PostKer.lean ====
module

public import proofs.«01_k».proof.Proof.PostMaths
public import proofs.«01_k».proof.Proof.Gen.PostIdeal.Frame
public import Idealize.ShloMosaic.Lib.Pointwise
public import Idealize.ShloMosaic.Lib.IdealHost

@[expose] public section

set_option maxRecDepth 16384

noncomputable section

namespace Cert.Proof.Post

open Cert.PostIdeal Cert.PostIdeal.Gen
open Idealize.ShloMosaic Idealize.ShloMosaic.TcCoe Idealize.ShloMosaic.Tactic

/-! ## The block a point writes, at an index -/

/-- The first normalised row, at an index. -/
theorem pay2_at (v0 : Vec Ideal S512x1024 .bf16) (v1 : Vec Ideal S1024x1024 .bf16) (v3 : Vec Ideal S512x1024 .bf16) (v4 : Vec Ideal S1024x1024 .bf16)
    (v7 : Vec Ideal S512x1024 .f32) (v11 v12 : Vec Ideal S1x1024 .f32) (r : Fin 512) (e : Fin 1024) :
    (k0_pay2 v0 v1 v3 v4 v7 v11 v12 (ix2 r e) : EReal)
      = first (fun k => v0 (ix2 r k)) (fun k => v3 (ix2 r k)) (fun k => v7 (ix2 r k)) (fun k e => v1 (ix2 k e)) (fun k e => v4 (ix2 k e))
          (fun e => v11 (ix2 0 e)) (fun e => v12 (ix2 0 e)) e := by
  unfold first lnorm mean vecmat
  pointwise [k0_pay2]

/-- The feed-forward part's gated half, at an index. -/
theorem pay4_at (v33 : FVec Ideal S512x1024 .bf16) (ga ua : Vec Ideal S1024x1408 .bf16) (oa : Vec Ideal S1408x1024 .bf16)
    (gb ub : Vec Ideal S1024x1408 .bf16) (ob : Vec Ideal S1408x1024 .bf16) (r : Fin 512) (e : Fin 1024) :
    (k0_pay4 v33 ga ua oa gb ub ob (ix2 r e) : EReal)
      = (∑ j : Fin 1408, (siluT (∑ k : Fin 1024, v33 (ix2 r k) * ga (ix2 k j)) * ∑ k : Fin 1024, v33 (ix2 r k) * ua (ix2 k j)) * oa (ix2 j e))
        + ∑ j : Fin 1408, (siluT (∑ k : Fin 1024, v33 (ix2 r k) * gb (ix2 k j)) * ∑ k : Fin 1024, v33 (ix2 r k) * ub (ix2 k j)) * ob (ix2 j e) := by
  unfold siluT
  pointwise [k0_pay4]

/-- The gated prompt embedding, at an index. -/
theorem pay5_at (v33 : FVec Ideal S512x1024 .bf16) (p : Vec Ideal S512x256 .f32) (wp : Vec Ideal S256x1024 .bf16) (wq : Vec Ideal S1024x1024 .bf16) (r : Fin 512) (e : Fin 1024) :
    (k0_pay5 v33 p wp wq (ix2 r e) : EReal)
      = pemb (fun k => v33 (ix2 r k)) (fun k => p (ix2 r k)) (fun k e => wp (ix2 k e)) (fun k e => wq (ix2 k e)) e := by
  unfold pemb vecmat
  pointwise [k0_pay5]

/-- The second normalised row, at an index. -/
theorem pay1_at (v32 v60 v68 : FVec Ideal S512x1024 .f32) (g b : Vec Ideal S1x1024 .f32) (r : Fin 512) (e : Fin 1024) :
    (k0_pay1 v32 v60 v68 g b (ix2 r e) : EReal)
      = second (fun k => v32 (ix2 r k)) (fun k => v60 (ix2 r k)) (fun k => v68 (ix2 r k)) (fun e => g (ix2 0 e)) (fun e => b (ix2 0 e)) e := by
  unfold second lnorm mean
  pointwise [k0_pay1]

end Cert.Proof.Post

end
-- ==== Proof.PostOut.lean ====
module

public import proofs.«01_k».proof.Proof.PostKer
public import proofs.«01_k».proof.Proof.Gen.PostIdeal.Value
public import Idealize.ShloMosaic.Lib.Pipeline.ValueKit.Geometry
public import Idealize.ShloMosaic.Lib.Pipeline.ValueKit.Tiles
public import Idealize.ShloMosaic.Lib.Pipeline.ValueKit.Acc
public import Idealize.ShloMosaic.Lib.Pipeline.Value

@[expose] public section

set_option maxRecDepth 16384

noncomputable section

namespace Cert.Proof.Post

open Cert.PostIdeal Cert.PostIdeal.Gen
open Idealize.ShloMosaic Idealize.ShloMosaic.TcCoe Idealize.ShloMosaic.Tactic
open Idealize.ShloMosaic.Pipeline (Dat Cfg Window)

/-! ## The block, from the blocks read -/

theorem ld_gate_lo (x : Vec Ideal S1024x2816 .bf16) (k : Fin 1024) (j : Fin 1408) : View.ld x r0_3 (ix2 k j) = x (ix2 k (⟨j.val, by omega⟩ : Fin 2816)) :=
  View.ld_unit_apply_of x _ _ _ _ _ (by intro a; fin_cases a <;> exact (Nat.zero_add _).symm)
theorem ld_gate_hi (x : Vec Ideal S1024x2816 .bf16) (k : Fin 1024) (j : Fin 1408) : View.ld x r0_5 (ix2 k j) = x (ix2 k (⟨1408 + j.val, by omega⟩ : Fin 2816)) :=
  View.ld_unit_apply_of x _ _ _ _ _ (by intro a; fin_cases a <;> first | rfl | exact (Nat.zero_add _).symm)
theorem ld_out_lo (x : Vec Ideal S2816x1024 .bf16) (j : Fin 1408) (e : Fin 1024) : View.ld x r0_4 (ix2 j e) = x (ix2 (⟨j.val, by omega⟩ : Fin 2816) e) :=
  View.ld_unit_apply_of x _ _ _ _ _ (by intro a; fin_cases a <;> exact (Nat.zero_add _).symm)
theorem ld_out_hi (x : Vec Ideal S2816x1024 .bf16) (j : Fin 1408) (e : Fin 1024) : View.ld x r0_6 (ix2 j e) = x (ix2 (⟨1408 + j.val, by omega⟩ : Fin 2816) e) :=
  View.ld_unit_apply_of x _ _ _ _ _ (by intro a; fin_cases a <;> first | rfl | exact (Nat.zero_add _).symm)

/-- The two halves of the feed-forward part are the whole, where the gates are real numbers. -/
theorem halves {h : Fin 1024 → EReal} {wg wu : Fin 1024 → Fin 2816 → EReal} {wo : Fin 2816 → Fin 1024 → EReal} (hr : ∀ j, IsReal (vecmat h wg j)) (e : Fin 1024) :
    (∑ j : Fin 1408, (siluT (∑ k, h k * wg k ⟨j.val, by omega⟩) * ∑ k, h k * wu k ⟨j.val, by omega⟩) * wo ⟨j.val, by omega⟩ e)
      + (∑ j : Fin 1408, (siluT (∑ k, h k * wg k ⟨1408 + j.val, by omega⟩) * ∑ k, h k * wu k ⟨1408 + j.val, by omega⟩) * wo ⟨1408 + j.val, by omega⟩ e)
      = ffn h wg wu wo e := by
  refine (sum_halves (fun j => (siluT (∑ k, h k * wg k j) * ∑ k, h k * wu k j) * wo j e)).trans ?_
  unfold ffn
  simp only [← siluT_eq (hr _)]
  rfl

/-- The feed-forward part, from the halves of its weights. -/
theorem ffn_at (w : FVec Ideal S512x1024 .bf16) (ga ua : Vec Ideal S1024x1408 .bf16) (oa : Vec Ideal S1408x1024 .bf16)
    (gb ub : Vec Ideal S1024x1408 .bf16) (ob : Vec Ideal S1408x1024 .bf16) (r : Fin 512) (e : Fin 1024)
    {h : Fin 1024 → EReal} {x6 x7 : Vec Ideal S1024x2816 .bf16} {x8 : Vec Ideal S2816x1024 .bf16}
    (hw : ∀ k, (w (ix2 r k) : EReal) = h k)
    (hga : ∀ (k : Fin 1024) (j : Fin 1408), ga (ix2 k j) = x6 (ix2 k (⟨j.val, by omega⟩ : Fin 2816))) (hua : ∀ (k : Fin 1024) (j : Fin 1408), ua (ix2 k j) = x7 (ix2 k (⟨j.val, by omega⟩ : Fin 2816)))
    (hoa : ∀ (j : Fin 1408) (e : Fin 1024), oa (ix2 j e) = x8 (ix2 (⟨j.val, by omega⟩ : Fin 2816) e))
    (hgb : ∀ (k : Fin 1024) (j : Fin 1408), gb (ix2 k j) = x6 (ix2 k (⟨1408 + j.val, by omega⟩ : Fin 2816))) (hub : ∀ (k : Fin 1024) (j : Fin 1408), ub (ix2 k j) = x7 (ix2 k (⟨1408 + j.val, by omega⟩ : Fin 2816)))
    (hob : ∀ (j : Fin 1408) (e : Fin 1024), ob (ix2 j e) = x8 (ix2 (⟨1408 + j.val, by omega⟩ : Fin 2816) e))
    (hr : ∀ j, IsReal (vecmat h (fun k j => x6 (ix2 k j)) j)) :
    (k0_pay4 w ga ua oa gb ub ob (ix2 r e) : EReal) = ffn h (fun k j => x6 (ix2 k j)) (fun k j => x7 (ix2 k j)) (fun j e => x8 (ix2 j e)) e := by
  refine (pay4_at w _ _ _ _ _ _ r e).trans ?_
  simp only [hw, hga, hua, hoa, hgb, hub, hob]
  exact halves (h := h) (wg := fun k j => x6 (ix2 k j)) (wu := fun k j => x7 (ix2 k j)) (wo := fun j e => x8 (ix2 j e)) hr e

section

variable (x0 x1 : Vec Ideal S512x1024 .bf16) (x2 : Vec Ideal S512x1024 .f32) (x3 : Vec Ideal S512x256 .f32) (x4 x5 : Vec Ideal S1024x1024 .bf16)
  (x6 x7 : Vec Ideal S1024x2816 .bf16) (x8 : Vec Ideal S2816x1024 .bf16) (x9 : Vec Ideal S256x1024 .bf16) (x10 : Vec Ideal S1024x1024 .bf16) (x11 x12 x13 x14 : Vec Ideal S1x1024 .f32)

/-- The first normalised row of a block. -/
def rowOf (r : Fin 512) : Fin 1024 → EReal :=
  first (fun k => x0 (ix2 r k)) (fun k => x1 (ix2 r k)) (fun k => x2 (ix2 r k)) (fun k e => x4 (ix2 k e)) (fun k e => x5 (ix2 k e)) (fun e => x11 (ix2 0 e)) (fun e => x12 (ix2 0 e))

theorem pay6_at (r : Fin 512) (e : Fin 1024) : (k0_pay6 x0 x1 x2 x3 x4 x5 x6 x7 x8 x9 x10 x11 x12 x13 x14 (ix2 r e) : EReal) = k0_pay2 x0 x4 x1 x5 x2 x11 x12 (ix2 r e) := by
  unfold k0_pay6
  simp (disch := decide) only [View.ld_unit_lit']
  rfl

/-- The block a point writes, at an index. -/
theorem out_at (r : Fin 512) (e : Fin 1024) (hr : ∀ j, IsReal (vecmat (rowOf x0 x1 x2 x4 x5 x11 x12 r) (fun k j => x6 (ix2 k j)) j)) :
    (out0_15 x0 x1 x2 x3 x4 x5 x6 x7 x8 x9 x10 x11 x12 x13 x14 (ix2 r e) : EReal)
      = second (rowOf x0 x1 x2 x4 x5 x11 x12 r)
          (ffn (rowOf x0 x1 x2 x4 x5 x11 x12 r) (fun k j => x6 (ix2 k j)) (fun k j => x7 (ix2 k j)) (fun j e => x8 (ix2 j e)))
          (pemb (rowOf x0 x1 x2 x4 x5 x11 x12 r) (fun k => x3 (ix2 r k)) (fun k e => x9 (ix2 k e)) (fun k e => x10 (ix2 k e)))
          (fun e => x13 (ix2 0 e)) (fun e => x14 (ix2 0 e)) e := by
  have h2 : ∀ k, (k0_pay2 x0 x4 x1 x5 x2 x11 x12 (ix2 r k) : EReal) = rowOf x0 x1 x2 x4 x5 x11 x12 r k := fun k => pay2_at _ _ _ _ _ _ _ r k
  have h6 : ∀ k, (k0_pay6 x0 x1 x2 x3 x4 x5 x6 x7 x8 x9 x10 x11 x12 x13 x14 (ix2 r k) : EReal) = rowOf x0 x1 x2 x4 x5 x11 x12 r k := fun k => (pay6_at _ _ _ _ _ _ _ _ _ _ _ _ _ _ _ r k).trans (h2 k)
  have hc : out0_15 x0 x1 x2 x3 x4 x5 x6 x7 x8 x9 x10 x11 x12 x13 x14
      = k0_pay1 (k0_pay2 x0 x4 x1 x5 x2 x11 x12)
          (k0_pay4 (k0_pay6 x0 x1 x2 x3 x4 x5 x6 x7 x8 x9 x10 x11 x12 x13 x14) (View.ld x6 r0_3) (View.ld x7 r0_3) (View.ld x8 r0_4) (View.ld x6 r0_5) (View.ld x7 r0_5) (View.ld x8 r0_6))
          (k0_pay5 (k0_pay6 x0 x1 x2 x3 x4 x5 x6 x7 x8 x9 x10 x11 x12 x13 x14) x3 x9 x10) x13 x14 := by
    unfold out0_15
    simp (disch := decide) only [View.canon_cons_unit_lit', View.ld_unit_lit']
  generalize k0_pay6 x0 x1 x2 x3 x4 x5 x6 x7 x8 x9 x10 x11 x12 x13 x14 = w at h6 hc
  generalize rowOf x0 x1 x2 x4 x5 x11 x12 r = h at *
  have hf : ∀ k : Fin 1024, (k0_pay4 w (View.ld x6 r0_3) (View.ld x7 r0_3) (View.ld x8 r0_4) (View.ld x6 r0_5) (View.ld x7 r0_5) (View.ld x8 r0_6) (ix2 r k) : EReal)
      = ffn h (fun k j => x6 (ix2 k j)) (fun k j => x7 (ix2 k j)) (fun j e => x8 (ix2 j e)) k := fun k => by
    exact ffn_at w _ _ _ _ _ _ r k h6 (ld_gate_lo x6) (ld_gate_lo x7) (ld_out_lo x8) (ld_gate_hi x6) (ld_gate_hi x7) (ld_out_hi x8) hr
  have hp : ∀ k : Fin 1024, (k0_pay5 w x3 x9 x10 (ix2 r k) : EReal) = pemb h (fun k => x3 (ix2 r k)) (fun k e => x9 (ix2 k e)) (fun k e => x10 (ix2 k e)) k := fun k => by
    refine (pay5_at w _ _ _ r k).trans ?_
    simp only [h6]
  rw [hc]
  refine (pay1_at _ _ _ _ _ r e).trans ?_
  simp only [h2, hf, hp]

end

end Cert.Proof.Post

end
-- ==== Proof.PostRead.lean ====
module

public import proofs.«01_k».proof.Proof.PostMaths
public import proofs.«01_k».proof.Proof.Gen.PostReferenceIdeal
public import proofs.«01_k».proof.Proof.Gen.PostReferenceIdeal.Read
public import Idealize.ShloMosaic.Lib.Pointwise
public import Idealize.ShloMosaic.Lib.IdealHost

@[expose] public section

set_option maxRecDepth 16384

noncomputable section

namespace Cert.Proof.PostRead

open Cert.PostReferenceIdeal Cert.PostReferenceIdeal.Gen Cert.PostReferenceIdeal.Read
open Idealize.ShloMosaic Idealize.ShloMosaic.TcCoe Idealize.ShloMosaic.Tactic
open Cert.Proof.Post

variable {x0 x1 : (⟨S16384x1024, .bf16⟩ : BufTy).Contents (Elt Ideal)} {x2 : (⟨S16384x1024, .f32⟩ : BufTy).Contents (Elt Ideal)}
  {x3 : (⟨S16384x256, .f32⟩ : BufTy).Contents (Elt Ideal)} {x4 x5 : (⟨S1024x1024, .bf16⟩ : BufTy).Contents (Elt Ideal)}
  {x6 x7 : (⟨S1024x2816, .bf16⟩ : BufTy).Contents (Elt Ideal)} {x8 : (⟨S2816x1024, .bf16⟩ : BufTy).Contents (Elt Ideal)}
  {x9 : (⟨S256x1024, .bf16⟩ : BufTy).Contents (Elt Ideal)} {x10 : (⟨S1024x1024, .bf16⟩ : BufTy).Contents (Elt Ideal)}
  {x11 x12 x13 x14 : (⟨S1x1024, .f32⟩ : BufTy).Contents (Elt Ideal)}

/-! ## The joined weights and rows -/

theorem rows_lo (i : Fin 16384) (k : Fin 1024) : val_main_v8 (F := Ideal) x0 x1 (ix2 i (⟨k.val, by omega⟩ : Fin 2048)) = x0 (ix2 i k) := by
  pointwise [val_main_v8, val_main_v7]
theorem rows_hi (i : Fin 16384) (k : Fin 1024) : val_main_v8 (F := Ideal) x0 x1 (ix2 i (⟨1024 + k.val, by omega⟩ : Fin 2048)) = x1 (ix2 i k) := by
  pointwise [val_main_v8, val_main_v7]
theorem out_lo (k e : Fin 1024) : val_main_v2 (F := Ideal) x4 x5 (ix2 (⟨k.val, by omega⟩ : Fin 2048) e) = x4 (ix2 k e) := by
  pointwise [val_main_v2, val_main_v0]
theorem out_hi (k e : Fin 1024) : val_main_v2 (F := Ideal) x4 x5 (ix2 (⟨1024 + k.val, by omega⟩ : Fin 2048) e) = x5 (ix2 k e) := by
  pointwise [val_main_v2, val_main_v0]
theorem in_lo (k : Fin 1024) (j : Fin 2816) : val_main_v3 (F := Ideal) x6 x7 (ix2 k (⟨j.val, by omega⟩ : Fin 5632)) = x6 (ix2 k j) := by
  pointwise [val_main_v3, val_main_v1]
theorem in_hi (k : Fin 1024) (j : Fin 2816) : val_main_v3 (F := Ideal) x6 x7 (ix2 k (⟨2816 + j.val, by omega⟩ : Fin 5632)) = x7 (ix2 k j) := by
  pointwise [val_main_v3, val_main_v1]

/-! ## The first normalised row -/

theorem v9_at (i : Fin 16384) (e : Fin 1024) : (val_main_v9 (F := Ideal) x0 x1 x4 x5 (ix2 i e) : EReal)
    = vecmat (fun k => x0 (ix2 i k)) (fun k e => x4 (ix2 k e)) e + vecmat (fun k => x1 (ix2 i k)) (fun k e => x5 (ix2 k e)) e := by
  have h : (val_main_v9 (F := Ideal) x0 x1 x4 x5 (ix2 i e) : EReal)
      = ∑ k : Fin 2048, (val_main_v8 (F := Ideal) x0 x1 (ix2 i k) : EReal) * val_main_v2 (F := Ideal) x4 x5 (ix2 k e) := by
    pointwise [val_main_v9]
  rw [h, ← sum_two]
  simp only [rows_lo, rows_hi, out_lo, out_hi]
  rfl

theorem v12_at (i : Fin 16384) (e : Fin 1024) : (val_main_v12 (F := Ideal) x0 x1 x2 x4 x5 (ix2 i e) : EReal)
    = cAlpha * x2 (ix2 i e) + (val_main_v9 (F := Ideal) x0 x1 x4 x5 (ix2 i e) : EReal) := by
  pointwise [val_main_v12, val_main_v11, val_main_v10, val_main_cst]

theorem v38_norm (i : Fin 16384) (e : Fin 1024) : (val_main_v38 (F := Ideal) x0 x1 x2 x4 x5 x11 x12 (ix2 i e) : EReal)
    = lnorm (fun e => val_main_v12 (F := Ideal) x0 x1 x2 x4 x5 (ix2 i e)) (fun e => x11 (ix2 0 e)) (fun e => x12 (ix2 0 e)) e := by
  unfold lnorm mean
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_0, val_main_cst_1, val_main_cst_2, val_main_cst_3, val_main_cst_4]

theorem v38_at (i : Fin 16384) (e : Fin 1024) : (val_main_v38 (F := Ideal) x0 x1 x2 x4 x5 x11 x12 (ix2 i e) : EReal)
    = first (fun k => x0 (ix2 i k)) (fun k => x1 (ix2 i k)) (fun k => x2 (ix2 i k)) (fun k e => x4 (ix2 k e)) (fun k e => x5 (ix2 k e))
        (fun e => x11 (ix2 0 e)) (fun e => x12 (ix2 0 e)) e := by
  rw [v38_norm]
  simp only [v12_at, v9_at]
  rfl

/-! ## The feed-forward part -/

theorem gate_at (i : Fin 16384) (j : Fin 2816) : (val_main_v40 (F := Ideal) x0 x1 x2 x4 x5 x6 x7 x11 x12 (ix2 i j) : EReal)
    = vecmat (fun k => val_main_v38 (F := Ideal) x0 x1 x2 x4 x5 x11 x12 (ix2 i k)) (fun k j => x6 (ix2 k j)) j := by
  have h : (val_main_v40 (F := Ideal) x0 x1 x2 x4 x5 x6 x7 x11 x12 (ix2 i j) : EReal)
      = ∑ k : Fin 1024, (val_main_v38 (F := Ideal) x0 x1 x2 x4 x5 x11 x12 (ix2 i k) : EReal) * val_main_v3 (F := Ideal) x6 x7 (ix2 k (⟨j.val, by omega⟩ : Fin 5632)) := by
    pointwise [val_main_v40, val_main_v39]
  rw [h]
  simp only [in_lo]
  rfl

theorem up_at (i : Fin 16384) (j : Fin 2816) : (val_main_v41 (F := Ideal) x0 x1 x2 x4 x5 x6 x7 x11 x12 (ix2 i j) : EReal)
    = vecmat (fun k => val_main_v38 (F := Ideal) x0 x1 x2 x4 x5 x11 x12 (ix2 i k)) (fun k j => x7 (ix2 k j)) j := by
  have h : (val_main_v41 (F := Ideal) x0 x1 x2 x4 x5 x6 x7 x11 x12 (ix2 i j) : EReal)
      = ∑ k : Fin 1024, (val_main_v38 (F := Ideal) x0 x1 x2 x4 x5 x11 x12 (ix2 i k) : EReal) * val_main_v3 (F := Ideal) x6 x7 (ix2 k (⟨2816 + j.val, by omega⟩ : Fin 5632)) := by
    pointwise [val_main_v41, val_main_v39]
  rw [h]
  simp only [in_hi]
  rfl

theorem v43_at (i : Fin 16384) (j : Fin 2816) : (val_main_v43 (F := Ideal) x0 x1 x2 x4 x5 x6 x7 x11 x12 (ix2 i j) : EReal)
    = silu (val_main_v40 (F := Ideal) x0 x1 x2 x4 x5 x6 x7 x11 x12 (ix2 i j)) * (val_main_v41 (F := Ideal) x0 x1 x2 x4 x5 x6 x7 x11 x12 (ix2 i j) : EReal) := by
  unfold silu
  rw [← cOne_eq]
  pointwise [val_main_v43, val_main_v42, val_main_call0_v5, val_main_call0_v4, val_main_call0_v3, val_main_call0_v2, val_main_call0_v1, val_main_call0_v0, val_main_call0_cst, val_main_call0_cst_0]

theorem v44_at (i : Fin 16384) (e : Fin 1024) : (val_main_v44 (F := Ideal) x0 x1 x2 x4 x5 x6 x7 x8 x11 x12 (ix2 i e) : EReal)
    = ffn (fun k => val_main_v38 (F := Ideal) x0 x1 x2 x4 x5 x11 x12 (ix2 i k)) (fun k j => x6 (ix2 k j)) (fun k j => x7 (ix2 k j)) (fun j e => x8 (ix2 j e)) e := by
  have h : (val_main_v44 (F := Ideal) x0 x1 x2 x4 x5 x6 x7 x8 x11 x12 (ix2 i e) : EReal)
      = ∑ j : Fin 2816, (val_main_v43 (F := Ideal) x0 x1 x2 x4 x5 x6 x7 x11 x12 (ix2 i j) : EReal) * x8 (ix2 j e) := by
    pointwise [val_main_v44, val_main_v4]
  rw [h]
  simp only [v43_at, gate_at, up_at]
  rfl

/-! ## The prompt embedding -/

theorem v46_at (i : Fin 16384) (e : Fin 1024) : (val_main_v46 (F := Ideal) x0 x1 x2 x4 x5 x10 x11 x12 (ix2 i e) : EReal)
    = vecmat (fun k => val_main_v38 (F := Ideal) x0 x1 x2 x4 x5 x11 x12 (ix2 i k)) (fun k e => x10 (ix2 k e)) e := by
  unfold vecmat
  pointwise [val_main_v46, val_main_v6]

theorem v53_at (i : Fin 16384) (e : Fin 1024) : (val_main_v53 (F := Ideal) x0 x1 x2 x3 x4 x5 x9 x10 x11 x12 (ix2 i e) : EReal)
    = pemb (fun k => val_main_v38 (F := Ideal) x0 x1 x2 x4 x5 x11 x12 (ix2 i k)) (fun k => x3 (ix2 i k)) (fun k e => x9 (ix2 k e)) (fun k e => x10 (ix2 k e)) e := by
  unfold pemb
  rw [← v46_at]
  unfold Ideal.logistic vecmat
  rw [← cOne_eq]
  pointwise [val_main_v53, val_main_v52, val_main_v51, val_main_v50, val_main_v49, val_main_v48, val_main_v47, val_main_v45, val_main_v5, val_main_cst_5, val_main_cst_6]

/-! ## The second normalised row -/

theorem v57_at (i : Fin 16384) (e : Fin 1024) : (val_main_v57 (F := Ideal) x0 x1 x2 x3 x4 x5 x6 x7 x8 x9 x10 x11 x12 (ix2 i e) : EReal)
    = cAlpha * (val_main_v38 (F := Ideal) x0 x1 x2 x4 x5 x11 x12 (ix2 i e) : EReal) + (val_main_v44 (F := Ideal) x0 x1 x2 x4 x5 x6 x7 x8 x11 x12 (ix2 i e) : EReal)
      + (val_main_v53 (F := Ideal) x0 x1 x2 x3 x4 x5 x9 x10 x11 x12 (ix2 i e) : EReal) := by
  pointwise [val_main_v57, val_main_v56, val_main_v55, val_main_v54, val_main_cst_7]

theorem v83_norm (i : Fin 16384) (e : Fin 1024) : (val_main_v83 (F := Ideal) x0 x1 x2 x3 x4 x5 x6 x7 x8 x9 x10 x11 x12 x13 x14 (ix2 i e) : EReal)
    = lnorm (fun e => val_main_v57 (F := Ideal) x0 x1 x2 x3 x4 x5 x6 x7 x8 x9 x10 x11 x12 (ix2 i e)) (fun e => x13 (ix2 0 e)) (fun e => x14 (ix2 0 e)) e := by
  unfold lnorm mean
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_cst_8, val_main_cst_9, val_main_cst_10, val_main_cst_11, val_main_cst_12]

/-- The reference's result, at an index. -/
theorem v83_at (i : Fin 16384) (e : Fin 1024) : (val_main_v83 (F := Ideal) x0 x1 x2 x3 x4 x5 x6 x7 x8 x9 x10 x11 x12 x13 x14 (ix2 i e) : EReal)
    = second (first (fun k => x0 (ix2 i k)) (fun k => x1 (ix2 i k)) (fun k => x2 (ix2 i k)) (fun k e => x4 (ix2 k e)) (fun k e => x5 (ix2 k e)) (fun e => x11 (ix2 0 e)) (fun e => x12 (ix2 0 e)))
        (ffn (first (fun k => x0 (ix2 i k)) (fun k => x1 (ix2 i k)) (fun k => x2 (ix2 i k)) (fun k e => x4 (ix2 k e)) (fun k e => x5 (ix2 k e)) (fun e => x11 (ix2 0 e)) (fun e => x12 (ix2 0 e)))
          (fun k j => x6 (ix2 k j)) (fun k j => x7 (ix2 k j)) (fun j e => x8 (ix2 j e)))
        (pemb (first (fun k => x0 (ix2 i k)) (fun k => x1 (ix2 i k)) (fun k => x2 (ix2 i k)) (fun k e => x4 (ix2 k e)) (fun k e => x5 (ix2 k e)) (fun e => x11 (ix2 0 e)) (fun e => x12 (ix2 0 e)))
          (fun k => x3 (ix2 i k)) (fun k e => x9 (ix2 k e)) (fun k e => x10 (ix2 k e)))
        (fun e => x13 (ix2 0 e)) (fun e => x14 (ix2 0 e)) e := by
  rw [v83_norm]
  simp only [v57_at, v44_at, v53_at, v38_at]
  rfl

end Cert.Proof.PostRead

end
-- ==== Proof.PostArr.lean ====
module

public import proofs.«01_k».proof.Proof.PostOut
public import proofs.«01_k».proof.Proof.PostRead
public import Idealize.ShloMosaic.Lib.Pipeline.ValueKit.Geometry
public import Idealize.ShloMosaic.Lib.Pipeline.Value

@[expose] public section

set_option maxRecDepth 16384

noncomputable section

namespace Cert.Proof.Post

open Cert.PostIdeal Cert.PostIdeal.Gen
open Idealize.ShloMosaic Idealize.ShloMosaic.TcCoe Idealize.ShloMosaic.Tactic
open Idealize.ShloMosaic.Pipeline (Dat Cfg Window)

/-! ## The blocks of the arrays -/

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_9 : ∀ t : Fin cfg0.N, win0_9.index t = ![0, 0] := (by decide +kernel : ∀ t : Fin grid0.N, win0_9.index t = ![0, 0])
theorem ix_10 : ∀ t : Fin cfg0.N, win0_10.index t = ![0, 0] := (by decide +kernel : ∀ t : Fin grid0.N, win0_10.index t = ![0, 0])
theorem ix_11 : ∀ t : Fin cfg0.N, win0_11.index t = ![0, 0] := (by decide +kernel : ∀ t : Fin grid0.N, win0_11.index t = ![0, 0])
theorem ix_12 : ∀ t : Fin cfg0.N, win0_12.index t = ![0, 0] := (by decide +kernel : ∀ t : Fin grid0.N, win0_12.index t = ![0, 0])
theorem ix_13 : ∀ t : Fin cfg0.N, win0_13.index t = ![0, 0] := (by decide +kernel : ∀ t : Fin grid0.N, win0_13.index t = ![0, 0])
theorem ix_14 : ∀ t : Fin cfg0.N, win0_14.index t = ![0, 0] := (by decide +kernel : ∀ t : Fin grid0.N, win0_14.index t = ![0, 0])
theorem ix_15 : ∀ t : Fin cfg0.N, win0_15.index t = ![t.val, 0] := (by decide +kernel : ∀ t : Fin grid0.N, win0_15.index t = ![t.val, 0])
theorem lim (t : Fin cfg0.N) : t.val < 32 := t.isLt

variable (m : (ℓ : Loc nD τ sig) → Buf (Elt Ideal) ℓ) (c : Dev nD)

theorem blk_0 (t : Fin cfg0.N) (r : Fin 512) (d : Fin 1024) : iblk m c 0 t (ix2 r d) = m ((c.tc : Thread nD τ).loc main_arg0) (ix2 (⟨t.val * 512 + r.val, by have := lim t; omega⟩ : Fin 16384) d) := by
  blk_ext [iblk, V_main_arg0, ix_0]
theorem blk_1 (t : Fin cfg0.N) (r : Fin 512) (d : Fin 1024) : iblk m c 1 t (ix2 r d) = m ((c.tc : Thread nD τ).loc main_arg1) (ix2 (⟨t.val * 512 + r.val, by have := lim t; omega⟩ : Fin 16384) d) := by
  blk_ext [iblk, V_main_arg1, ix_1]
theorem blk_2 (t : Fin cfg0.N) (r : Fin 512) (d : Fin 1024) : iblk m c 2 t (ix2 r d) = m ((c.tc : Thread nD τ).loc main_arg2) (ix2 (⟨t.val * 512 + r.val, by have := lim t; omega⟩ : Fin 16384) d) := by
  blk_ext [iblk, V_main_arg2, ix_2]
theorem blk_3 (t : Fin cfg0.N) (r : Fin 512) (d : Fin 256) : iblk m c 3 t (ix2 r d) = m ((c.tc : Thread nD τ).loc main_arg3) (ix2 (⟨t.val * 512 + r.val, by have := lim t; omega⟩ : Fin 16384) d) := by
  blk_ext [iblk, V_main_arg3, ix_3]
theorem blk_4 (t : Fin cfg0.N) (r : Fin 1024) (d : Fin 1024) : iblk m c 4 t (ix2 r d) = m ((c.tc : Thread nD τ).loc main_arg4) (ix2 r d) := by
  blk_ext [iblk, V_main_arg4, ix_4]
theorem blk_5 (t : Fin cfg0.N) (r : Fin 1024) (d : Fin 1024) : iblk m c 5 t (ix2 r d) = m ((c.tc : Thread nD τ).loc main_arg5) (ix2 r d) := by
  blk_ext [iblk, V_main_arg5, ix_5]
theorem blk_6 (t : Fin cfg0.N) (r : Fin 1024) (d : Fin 2816) : iblk m c 6 t (ix2 r d) = m ((c.tc : Thread nD τ).loc main_arg6) (ix2 r d) := by
  blk_ext [iblk, V_main_arg6, ix_6]
theorem blk_7 (t : Fin cfg0.N) (r : Fin 1024) (d : Fin 2816) : iblk m c 7 t (ix2 r d) = m ((c.tc : Thread nD τ).loc main_arg7) (ix2 r d) := by
  blk_ext [iblk, V_main_arg7, ix_7]
theorem blk_8 (t : Fin cfg0.N) (r : Fin 2816) (d : Fin 1024) : iblk m c 8 t (ix2 r d) = m ((c.tc : Thread nD τ).loc main_arg8) (ix2 r d) := by
  blk_ext [iblk, V_main_arg8, ix_8]
theorem blk_9 (t : Fin cfg0.N) (r : Fin 256) (d : Fin 1024) : iblk m c 9 t (ix2 r d) = m ((c.tc : Thread nD τ).loc main_arg9) (ix2 r d) := by
  blk_ext [iblk, V_main_arg9, ix_9]
theorem blk_10 (t : Fin cfg0.N) (r : Fin 1024) (d : Fin 1024) : iblk m c 10 t (ix2 r d) = m ((c.tc : Thread nD τ).loc main_arg10) (ix2 r d) := by
  blk_ext [iblk, V_main_arg10, ix_10]
theorem blk_11 (t : Fin cfg0.N) (d : Fin 1024) : iblk m c 11 t (ix2 0 d) = m ((c.tc : Thread nD τ).loc main_arg11) (ix2 0 d) := by
  blk_ext [iblk, V_main_arg11, ix_11]
theorem blk_12 (t : Fin cfg0.N) (d : Fin 1024) : iblk m c 12 t (ix2 0 d) = m ((c.tc : Thread nD τ).loc main_arg12) (ix2 0 d) := by
  blk_ext [iblk, V_main_arg12, ix_12]
theorem blk_13 (t : Fin cfg0.N) (d : Fin 1024) : iblk m c 13 t (ix2 0 d) = m ((c.tc : Thread nD τ).loc main_arg13) (ix2 0 d) := by
  blk_ext [iblk, V_main_arg13, ix_13]
theorem blk_14 (t : Fin cfg0.N) (d : Fin 1024) : iblk m c 14 t (ix2 0 d) = m ((c.tc : Thread nD τ).loc main_arg14) (ix2 0 d) := by
  blk_ext [iblk, V_main_arg14, ix_14]

/-! ## The array the kernel leaves -/

/-- The array the kernel leaves is the reference's result. -/
theorem arr_eq
    (h0 : ∀ i, IsReal (m ((c.tc : Thread nD τ).loc main_arg0) i))
    (h1 : ∀ i, IsReal (m ((c.tc : Thread nD τ).loc main_arg1) i))
    (h2 : ∀ i, IsReal (m ((c.tc : Thread nD τ).loc main_arg2) i))
    (h4 : ∀ i, IsReal (m ((c.tc : Thread nD τ).loc main_arg4) i))
    (h5 : ∀ i, IsReal (m ((c.tc : Thread nD τ).loc main_arg5) i))
    (h6 : ∀ i, IsReal (m ((c.tc : Thread nD τ).loc main_arg6) i))
    (h11 : ∀ i, IsReal (m ((c.tc : Thread nD τ).loc main_arg11) i))
    (h12 : ∀ i, IsReal (m ((c.tc : Thread nD τ).loc main_arg12) i)) :
    (dats m 0 c).arrAt 15 cfg0.N = Cert.PostReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (dats m 0 c).arrAt_eq_of_covers 15 _ (by decide +kernel) fun t hf y => ?_
  rw [after0_15]
  obtain ⟨r, e, rfl⟩ : ∃ (r : Fin 512) (e : Fin 1024), y = ix2 r e := ⟨y 0, y 1, eq_ix2 y⟩
  have ht := lim t
  have hrow : rowOf (iblk m c 0 t) (iblk m c 1 t) (iblk m c 2 t) (iblk m c 4 t) (iblk m c 5 t) (iblk m c 11 t) (iblk m c 12 t) r
      = first (fun k => m ((c.tc : Thread nD τ).loc main_arg0) (ix2 (⟨t.val * 512 + r.val, by omega⟩ : Fin 16384) k)) (fun k => m ((c.tc : Thread nD τ).loc main_arg1) (ix2 (⟨t.val * 512 + r.val, by omega⟩ : Fin 16384) k))
          (fun k => m ((c.tc : Thread nD τ).loc main_arg2) (ix2 (⟨t.val * 512 + r.val, by omega⟩ : Fin 16384) k)) (fun k e => m ((c.tc : Thread nD τ).loc main_arg4) (ix2 k e)) (fun k e => m ((c.tc : Thread nD τ).loc main_arg5) (ix2 k e))
          (fun e => m ((c.tc : Thread nD τ).loc main_arg11) (ix2 0 e)) (fun e => m ((c.tc : Thread nD τ).loc main_arg12) (ix2 0 e)) := by
    unfold rowOf
    simp only [blk_0, blk_1, blk_2, blk_4, blk_5, blk_11, blk_12]
  have hreal : ∀ j, IsReal (vecmat (rowOf (iblk m c 0 t) (iblk m c 1 t) (iblk m c 2 t) (iblk m c 4 t) (iblk m c 5 t) (iblk m c 11 t) (iblk m c 12 t) r) (fun k j => iblk m c 6 t (ix2 k j)) j) := fun j => by
    rw [hrow]
    refine IsReal.vecmat (fun k => first_real (fun k => h0 _) (fun k => h1 _) (fun k => h2 _) (fun k e => h4 _) (fun k e => h5 _) (fun k => h11 _) (fun k => h12 _) k) (fun k e => ?_) j
    exact blk_6 m c t k e ▸ h6 _
  have hout := out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r e hreal
  rw [hrow] at hout
  simp only [blk_3, blk_6, blk_7, blk_8, blk_9, blk_10, blk_13, blk_14] at hout
  have hemb : ((cfg0.win 15).blk t).view.emb (ix2 r e) = ix2 (⟨t.val * 512 + r.val, by omega⟩ : Fin 16384) e := funext fun a => by
    fin_cases a
    · exact Fin.ext (by show _ = t.val * 512 + r.val; blk_simp [ix_15]; try rfl)
    · exact Fin.ext (by show _ = e.val; blk_simp [ix_15]; try rfl)
  have href := Cert.Proof.PostRead.v83_at (x0 := m ((c.tc : Thread nD τ).loc main_arg0)) (x1 := m ((c.tc : Thread nD τ).loc main_arg1)) (x2 := m ((c.tc : Thread nD τ).loc main_arg2)) (x3 := m ((c.tc : Thread nD τ).loc main_arg3)) (x4 := m ((c.tc : Thread nD τ).loc main_arg4)) (x5 := m ((c.tc : Thread nD τ).loc main_arg5)) (x6 := m ((c.tc : Thread nD τ).loc main_arg6)) (x7 := m ((c.tc : Thread nD τ).loc main_arg7)) (x8 := m ((c.tc : Thread nD τ).loc main_arg8)) (x9 := m ((c.tc : Thread nD τ).loc main_arg9)) (x10 := m ((c.tc : Thread nD τ).loc main_arg10)) (x11 := m ((c.tc : Thread nD τ).loc main_arg11)) (x12 := m ((c.tc : Thread nD τ).loc main_arg12)) (x13 := m ((c.tc : Thread nD τ).loc main_arg13)) (x14 := m ((c.tc : Thread nD τ).loc main_arg14)) (⟨t.val * 512 + r.val, by omega⟩ : Fin 16384) e
  have hall : ∀ i : S16384x1024.Idx, i = ix2 (⟨t.val * 512 + r.val, by omega⟩ : Fin 16384) e →
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)
        = Cert.PostReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) i := fun i hi => by
    subst hi
    exact hout.trans href.symm
  clear hout href hrow hreal
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = o at hall ⊢
  generalize Cert.PostReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = w at hall ⊢
  exact hall _ hemb

end Cert.Proof.Post

end
-- ==== Proof.lean ====
/- The input projections of prompts and samples, the attention over prompts and the layer's end: every program runs to an end with its arguments kept, the idealized ones differ from the printed ones by the named constants alone, and they compute what their references do, the attention and the end on real inputs. -/
module

public import proofs.«01_k».proof.Defs
public import proofs.«01_k».proof.Proof.Ref
public import proofs.«01_k».proof.Proof.Pre
public import proofs.«01_k».proof.Proof.KerOut
public import proofs.«01_k».proof.Proof.PostRef
public import proofs.«01_k».proof.Proof.InRef
public import proofs.«01_k».proof.Proof.InVal
public import proofs.«01_k».proof.Proof.SaRef
public import proofs.«01_k».proof.Proof.SaVal
public import proofs.«01_k».proof.Proof.PostPre
public import proofs.«01_k».proof.Proof.PostArr
public import proofs.«01_k».proof.Proof.FrameKernel
public import proofs.«01_k».proof.Proof.FrameKernelIdeal
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe Idealize.ShloMosaic.Tactic

/-- Queries or keys of real entries, as a function of row and column. -/
theorem exists_rows (x : FVec Ideal Cert.KernelIdeal.S16384x1024 .bf16) (h : ∀ i, ∃ r : ℝ, (x i : EReal) = (r : EReal)) :
    ∃ Q : ℕ → ℕ → ℝ, ∀ i, (x i : EReal) = ((Q (i 0).val (i 1).val : ℝ) : EReal) := by
  choose f hf using h
  refine ⟨fun a b => if h : a < 16384 ∧ b < 1024 then f (ix2 ⟨a, h.1⟩ ⟨b, h.2⟩) else 0, fun i => ?_⟩
  have hi : (i 0).val < 16384 ∧ (i 1).val < 1024 := ⟨(i 0).isLt, (i 1).isLt⟩
  beta_reduce
  rw [dif_pos hi]
  exact (congrArg _ (eq_ix2 i)).trans (hf _)

/-- Values of real entries, as a function of batch, key and column. -/
theorem exists_vals (x : FVec Ideal Cert.KernelIdeal.S2x32x1024x256 .bf16) (h : ∀ i, ∃ r : ℝ, (x i : EReal) = (r : EReal)) :
    ∃ V : ℕ → ℕ → ℕ → ℝ, ∀ i, (x i : EReal) = ((V (i 0).val (256 * (i 1).val + (i 3).val) (i 2).val : ℝ) : EReal) := by
  choose f hf using h
  refine ⟨fun b key c => if h : b < 2 ∧ key < 8192 ∧ c < 1024 then
    f (ix4 ⟨b, h.1⟩ ⟨key / 256, by omega⟩ ⟨c, h.2.2⟩ ⟨key % 256, by omega⟩) else 0, fun i => ?_⟩
  have h0 : (i 0).val < 2 := (i 0).isLt
  have h1 : (i 1).val < 32 := (i 1).isLt
  have h2 : (i 2).val < 1024 := (i 2).isLt
  have h3 : (i 3).val < 256 := (i 3).isLt
  have hi : (i 0).val < 2 ∧ 256 * (i 1).val + (i 3).val < 8192 ∧ (i 2).val < 1024 := ⟨h0, by omega, h2⟩
  beta_reduce
  rw [dif_pos hi]
  have e : i = ix4 ⟨(i 0).val, h0⟩ ⟨(256 * (i 1).val + (i 3).val) / 256, by omega⟩ ⟨(i 2).val, h2⟩ ⟨(256 * (i 1).val + (i 3).val) % 256, by omega⟩ := by
    refine (eq_ix4 i).trans ?_
    congr 1
    · exact Fin.ext (by show (i 1).val = (256 * (i 1).val + (i 3).val) / 256; omega)
    · exact Fin.ext (by show (i 3).val = (256 * (i 1).val + (i 3).val) % 256; omega)
  exact (congrArg _ e).trans (hf _)

/-- The reference runs to an end, its arguments kept and every counter at zero. -/
theorem ref_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, sem_eq_zero_of_no_sems rfl r.2⟩) (Cert.ReferenceIdeal.Value.run m g)

/-- On real inputs the idealized kernel and the idealized reference end with one result. -/
theorem value : Cert.algebraic_KernelIdeal_ReferenceIdeal_pre_finite := by
  intro m g m' g' hpre heq
  have hval : ∀ c : Dev Cert.KernelIdeal.nD, (Cert.Proof.KernelIdeal.dats m 0 c).arrAt 8 Cert.KernelIdeal.cfg0.N
      = Cert.ReferenceIdeal.Read.val_main_v65 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
    intro c
    obtain ⟨h0, h1, h2, h3, h4, h5, h6⟩ := Cert.Proof.Pre.real_args _ _ _ _ _ _ _ _ (hpre c)
    obtain ⟨Q, hQ⟩ := exists_rows _ h0
    obtain ⟨K, hK⟩ := exists_rows _ h1
    obtain ⟨V, hV⟩ := exists_vals _ h2
    obtain ⟨L, hL⟩ := Cert.Proof.Maths.lam_real (fun j => h3 (ix2 0 j)) (fun j => h4 (ix2 0 j)) (fun j => h5 (ix2 0 j)) (fun j => h6 (ix2 0 j))
    exact Cert.Proof.KernelIdeal.arr_eq hQ hK hV hL
  refine ⟨fun c => (Cert.Proof.KernelIdeal.dats m 0 c).arrAt 8 Cert.KernelIdeal.cfg0.N, ?_, ?_⟩
  · exact (θ_run Cert.KernelIdeal.defs _ _).mono (fun r h c => ⟨h.1.1.out_eq c 8, h.2 c⟩)
      (θ_run_and (Cert.Proof.KernelIdeal.run_all m g) (Cert.Proof.KernelIdeal.args_kept m g))
  · refine (θ_run Cert.ReferenceIdeal.defs _ _).mono (fun r h c => ⟨?_, (h c).2⟩) (Cert.ReferenceIdeal.Value.run m' g')
    obtain ⟨e0, e1, e2, e3, e4, e5, e6, e7⟩ := heq c
    refine (h c).1.trans ((Cert.ReferenceIdeal.Read.val_main_v65_eq m' c).trans (Eq.trans ?_ (hval c).symm))
    rw [e0, e1, e2, e3, e4, e5, e6, e7]

/-- The second call's reference runs to an end, its arguments kept and every counter at zero. -/
theorem post_ref_quiet (m : (ℓ : Loc Cert.PostReferenceIdeal.nD Cert.PostReferenceIdeal.τ Cert.PostReferenceIdeal.sig) → Buf (Elt Ideal) ℓ) (g : Dev Cert.PostReferenceIdeal.nD → PrngReg) :
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14))
      ∧ r.2.sem = fun _ => 0) :=
  (θ_run Cert.PostReferenceIdeal.defs _ _).mono (fun r h => ⟨fun c => (h c).2, sem_eq_zero_of_no_sems rfl r.2⟩) (Cert.PostReferenceIdeal.Value.run m g)

/-- Where the gates are real, the second call and its reference end with one result. -/
theorem post_value : Cert.algebraic_PostIdeal_PostReferenceIdeal_pre_finite_post := by
  intro m g m' g' hpre heq
  have hval : ∀ c : Dev Cert.PostIdeal.nD, (Cert.PostIdeal.Gen.dats m 0 c).arrAt 15 Cert.PostIdeal.cfg0.N
      = Cert.PostReferenceIdeal.Read.val_main_v83 (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14)) := by
    intro c
    obtain ⟨h0, h1, h2, h4, h5, h6, h11, h12⟩ := Cert.Proof.PostPre.real_args _ _ _ _ _ _ _ _ _ _ _ _ _ _ _ (hpre c)
    exact Cert.Proof.Post.arr_eq m c h0 h1 h2 h4 h5 h6 h11 h12
  refine ⟨fun c => (Cert.PostIdeal.Gen.dats m 0 c).arrAt 15 Cert.PostIdeal.cfg0.N, Cert.PostIdeal.Value.run_blocks m g, ?_⟩
  refine (θ_run Cert.PostReferenceIdeal.defs _ _).mono (fun r h c => ⟨?_, (h c).2⟩) (Cert.PostReferenceIdeal.Value.run m' g')
  obtain ⟨e0, e1, e2, e3, e4, e5, e6, e7, e8, e9, e10, e11, e12, e13, e14⟩ := heq c
  refine (h c).1.trans ((Cert.PostReferenceIdeal.Read.val_main_v83_eq (Idealize.ShloMosaic.StableHlo.launchContents m' c)).trans (Eq.trans ?_ (hval c).symm))
  show Cert.PostReferenceIdeal.Read.val_main_v83 (F := Ideal) (m' ((c.tc : Thread Cert.PostReferenceIdeal.nD Cert.PostReferenceIdeal.τ).loc Cert.PostReferenceIdeal.main_arg0)) (m' ((c.tc : Thread Cert.PostReferenceIdeal.nD Cert.PostReferenceIdeal.τ).loc Cert.PostReferenceIdeal.main_arg1)) (m' ((c.tc : Thread Cert.PostReferenceIdeal.nD Cert.PostReferenceIdeal.τ).loc Cert.PostReferenceIdeal.main_arg2)) (m' ((c.tc : Thread Cert.PostReferenceIdeal.nD Cert.PostReferenceIdeal.τ).loc Cert.PostReferenceIdeal.main_arg3)) (m' ((c.tc : Thread Cert.PostReferenceIdeal.nD Cert.PostReferenceIdeal.τ).loc Cert.PostReferenceIdeal.main_arg4)) (m' ((c.tc : Thread Cert.PostReferenceIdeal.nD Cert.PostReferenceIdeal.τ).loc Cert.PostReferenceIdeal.main_arg5)) (m' ((c.tc : Thread Cert.PostReferenceIdeal.nD Cert.PostReferenceIdeal.τ).loc Cert.PostReferenceIdeal.main_arg6)) (m' ((c.tc : Thread Cert.PostReferenceIdeal.nD Cert.PostReferenceIdeal.τ).loc Cert.PostReferenceIdeal.main_arg7)) (m' ((c.tc : Thread Cert.PostReferenceIdeal.nD Cert.PostReferenceIdeal.τ).loc Cert.PostReferenceIdeal.main_arg8)) (m' ((c.tc : Thread Cert.PostReferenceIdeal.nD Cert.PostReferenceIdeal.τ).loc Cert.PostReferenceIdeal.main_arg9)) (m' ((c.tc : Thread Cert.PostReferenceIdeal.nD Cert.PostReferenceIdeal.τ).loc Cert.PostReferenceIdeal.main_arg10)) (m' ((c.tc : Thread Cert.PostReferenceIdeal.nD Cert.PostReferenceIdeal.τ).loc Cert.PostReferenceIdeal.main_arg11)) (m' ((c.tc : Thread Cert.PostReferenceIdeal.nD Cert.PostReferenceIdeal.τ).loc Cert.PostReferenceIdeal.main_arg12)) (m' ((c.tc : Thread Cert.PostReferenceIdeal.nD Cert.PostReferenceIdeal.τ).loc Cert.PostReferenceIdeal.main_arg13)) (m' ((c.tc : Thread Cert.PostReferenceIdeal.nD Cert.PostReferenceIdeal.τ).loc Cert.PostReferenceIdeal.main_arg14)) = _
  rw [e0, e1, e2, e3, e4, e5, e6, e7, e8, e9, e10, e11, e12, e13, e14]

/-- The third call's reference runs to an end, its arguments kept and every counter at zero. -/
theorem in_ref_quiet (m : (ℓ : Loc Cert.InprojReferenceIdeal.nD Cert.InprojReferenceIdeal.τ Cert.InprojReferenceIdeal.sig) → Buf (Elt Ideal) ℓ) (g : Dev Cert.InprojReferenceIdeal.nD → PrngReg) :
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1))
      ∧ r.2.sem = fun _ => 0) :=
  (θ_run Cert.InprojReferenceIdeal.defs _ _).mono (fun r h => ⟨fun c => (h c).2.2.2.2.2.2.2.2.2.2.2, sem_eq_zero_of_no_sems rfl r.2⟩) (Cert.InprojReferenceIdeal.Value.run m g)

set_option maxHeartbeats 2000000 in
/-- The third call and its reference end with the same eleven results, whatever the arguments. -/
theorem in_value : Cert.algebraic_InprojIdeal_InprojReferenceIdeal := by
  intro m g m' g' _ heq
  refine ⟨fun c => Cert.InprojReferenceIdeal.Read.val_main_v88 (F := Ideal) (Cert.Proof.In.aX m c) (Cert.Proof.In.aW m c),
    fun c => Cert.InprojReferenceIdeal.Read.val_main_v84 (F := Ideal) (Cert.Proof.In.aX m c) (Cert.Proof.In.aW m c),
    fun c => Cert.InprojReferenceIdeal.Read.val_main_v3 (F := Ideal) (Cert.Proof.In.aX m c) (Cert.Proof.In.aW m c),
    fun c => Cert.InprojReferenceIdeal.Read.val_main_v4 (F := Ideal) (Cert.Proof.In.aX m c) (Cert.Proof.In.aW m c),
    fun c => Cert.InprojReferenceIdeal.Read.val_main_v5 (F := Ideal) (Cert.Proof.In.aX m c) (Cert.Proof.In.aW m c),
    fun c => Cert.InprojReferenceIdeal.Read.val_main_v87 (F := Ideal) (Cert.Proof.In.aX m c) (Cert.Proof.In.aW m c),
    fun c => Cert.InprojReferenceIdeal.Read.val_main_v89 (F := Ideal) (Cert.Proof.In.aX m c) (Cert.Proof.In.aW m c),
    fun c => Cert.InprojReferenceIdeal.Read.val_main_v90 (F := Ideal) (Cert.Proof.In.aX m c) (Cert.Proof.In.aW m c),
    fun c => Cert.InprojReferenceIdeal.Read.val_main_v81 (F := Ideal) (Cert.Proof.In.aX m c) (Cert.Proof.In.aW m c),
    fun c => Cert.InprojReferenceIdeal.Read.val_main_v91 (F := Ideal) (Cert.Proof.In.aX m c) (Cert.Proof.In.aW m c),
    fun c => Cert.InprojReferenceIdeal.Read.val_main_v93 (F := Ideal) (Cert.Proof.In.aX m c) (Cert.Proof.In.aW m c),
    Cert.Proof.In.run m g, ?_⟩
  refine (θ_run Cert.InprojReferenceIdeal.defs _ _).mono (fun r h c => ?_) (Cert.InprojReferenceIdeal.Value.run m' g')
  obtain ⟨h0, h1, h2, h3, h4, h5, h6, h7, h8, h9, h10, k⟩ := h c
  obtain ⟨e0, e1⟩ := heq c
  have r0 := (h0.trans (Cert.InprojReferenceIdeal.Read.val_main_v88_eq m' c)).trans (congrArg₂ (Cert.InprojReferenceIdeal.Read.val_main_v88 (F := Ideal)) e0 e1)
  clear h0
  have r1 := (h1.trans (Cert.InprojReferenceIdeal.Read.val_main_v84_eq m' c)).trans (congrArg₂ (Cert.InprojReferenceIdeal.Read.val_main_v84 (F := Ideal)) e0 e1)
  clear h1
  have r2 := (h2.trans (Cert.InprojReferenceIdeal.Read.val_main_v3_eq _ _)).trans (congrArg₂ (Cert.InprojReferenceIdeal.Read.val_main_v3 (F := Ideal)) e0 e1)
  clear h2
  have r3 := (h3.trans (Cert.InprojReferenceIdeal.Read.val_main_v4_eq _ _)).trans (congrArg₂ (Cert.InprojReferenceIdeal.Read.val_main_v4 (F := Ideal)) e0 e1)
  clear h3
  have r4 := (h4.trans (Cert.InprojReferenceIdeal.Read.val_main_v5_eq _ _)).trans (congrArg₂ (Cert.InprojReferenceIdeal.Read.val_main_v5 (F := Ideal)) e0 e1)
  clear h4
  have r5 := (h5.trans (Cert.InprojReferenceIdeal.Read.val_main_v87_eq _ _)).trans (congrArg₂ (Cert.InprojReferenceIdeal.Read.val_main_v87 (F := Ideal)) e0 e1)
  clear h5
  have r6 := (h6.trans (Cert.InprojReferenceIdeal.Read.val_main_v89_eq m' c)).trans (congrArg₂ (Cert.InprojReferenceIdeal.Read.val_main_v89 (F := Ideal)) e0 e1)
  clear h6
  have r7 := (h7.trans (Cert.InprojReferenceIdeal.Read.val_main_v90_eq _ _)).trans (congrArg₂ (Cert.InprojReferenceIdeal.Read.val_main_v90 (F := Ideal)) e0 e1)
  clear h7
  have r8 := (h8.trans (Cert.InprojReferenceIdeal.Read.val_main_v81_eq m' c)).trans (congrArg₂ (Cert.InprojReferenceIdeal.Read.val_main_v81 (F := Ideal)) e0 e1)
  clear h8
  have r9 := (h9.trans (Cert.InprojReferenceIdeal.Read.val_main_v91_eq _ _)).trans (congrArg₂ (Cert.InprojReferenceIdeal.Read.val_main_v91 (F := Ideal)) e0 e1)
  clear h9
  have r10 := (h10.trans (Cert.InprojReferenceIdeal.Read.val_main_v93_eq _ _)).trans (congrArg₂ (Cert.InprojReferenceIdeal.Read.val_main_v93 (F := Ideal)) e0 e1)
  clear h10
  exact ⟨r0, r1, r2, r3, r4, r5, r6, r7, r8, r9, r10, k⟩

/-- The samples' reference runs to an end, its arguments kept and every counter at zero. -/
theorem sa_ref_quiet (m : (ℓ : Loc Cert.SampleReferenceIdeal.nD Cert.SampleReferenceIdeal.τ Cert.SampleReferenceIdeal.sig) → Buf (Elt Ideal) ℓ) (g : Dev Cert.SampleReferenceIdeal.nD → PrngReg) :
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0) :=
  (θ_run Cert.SampleReferenceIdeal.defs _ _).mono (fun r h => ⟨fun c => (h c).2.2.2, sem_eq_zero_of_no_sems rfl r.2⟩) (Cert.SampleReferenceIdeal.Value.run m g)

set_option maxHeartbeats 2000000 in
/-- The samples' call and its reference end with the same three results, whatever the arguments. -/
theorem sa_value : Cert.algebraic_SampleIdeal_SampleReferenceIdeal := by
  intro m g m' g' _ heq
  refine ⟨fun c => Cert.SampleReferenceIdeal.Read.val_main_v42 (F := Ideal) (Cert.Proof.Sa.aX m c) (Cert.Proof.Sa.aW m c),
    fun c => Cert.SampleReferenceIdeal.Read.val_main_v43 (F := Ideal) (Cert.Proof.Sa.aX m c) (Cert.Proof.Sa.aW m c),
    fun c => Cert.SampleReferenceIdeal.Read.val_main_v44 (F := Ideal) (Cert.Proof.Sa.aX m c) (Cert.Proof.Sa.aW m c),
    Cert.Proof.Sa.run m g, ?_⟩
  refine (θ_run Cert.SampleReferenceIdeal.defs _ _).mono (fun r h c => ?_) (Cert.SampleReferenceIdeal.Value.run m' g')
  obtain ⟨h0, h1, h2, k⟩ := h c
  obtain ⟨e0, e1⟩ := heq c
  have r0 := (h0.trans (Cert.SampleReferenceIdeal.Read.val_main_v42_eq m' c)).trans (congrArg₂ (Cert.SampleReferenceIdeal.Read.val_main_v42 (F := Ideal)) e0 e1)
  clear h0
  have r1 := (h1.trans (Cert.SampleReferenceIdeal.Read.val_main_v43_eq _ _)).trans (congrArg₂ (Cert.SampleReferenceIdeal.Read.val_main_v43 (F := Ideal)) e0 e1)
  clear h1
  have r2 := (h2.trans (Cert.SampleReferenceIdeal.Read.val_main_v44_eq _ _)).trans (congrArg₂ (Cert.SampleReferenceIdeal.Read.val_main_v44 (F := Ideal)) e0 e1)
  clear h2
  exact ⟨r0, r1, r2, k⟩

/-- Every claim of the certificate. -/
theorem claim : Cert.Claim :=
  ⟨Cert.Kernel.Gen.facts, Cert.KernelIdeal.Gen.facts, Cert.ReferenceIdeal.Gen.facts, Cert.Post.Gen.facts, Cert.PostIdeal.Gen.facts, Cert.PostReferenceIdeal.Gen.facts, Cert.Inproj.Gen.facts, Cert.InprojIdeal.Gen.facts, Cert.InprojReferenceIdeal.Gen.facts, Cert.Sample.Gen.facts, Cert.SampleIdeal.Gen.facts, Cert.SampleReferenceIdeal.Gen.facts, Cert.Pre_finite.Gen.facts, Cert.Pre_finite_post.Gen.facts,
    fun m g _ => Cert.Proof.Kernel.quiet m g, fun m g _ => Cert.Proof.KernelIdeal.quiet m g, fun m g _ => Cert.Proof.KernelIdeal.quiet m g,
    fun m g _ => ref_quiet m g, fun m g _ => ref_quiet m g,
    fun m g _ => Cert.Post.Gen.frame m g, fun m g _ => Cert.PostIdeal.Gen.frame m g, fun m g _ => Cert.PostIdeal.Gen.frame m g,
    fun m g _ => post_ref_quiet m g, fun m g _ => post_ref_quiet m g,
    fun m g _ => Cert.Inproj.Gen.frame m g, fun m g _ => Cert.InprojIdeal.Gen.frame m g, fun m g _ => in_ref_quiet m g,
    fun m g _ => Cert.Sample.Gen.frame m g, fun m g _ => Cert.SampleIdeal.Gen.frame m g, fun m g _ => sa_ref_quiet m g,
    IdealRules.named_const.statement Cert.KernelIdeal.κ "mask" .f32 0xF149F2CA#32 ⊥ rfl, value, trivial, post_value,
    IdealRules.named_const.statement Cert.InprojIdeal.κ "qscale" .f32 0x3E38AA3B#32 ((8⁻¹ * (Real.log 2)⁻¹ : ℝ) : EReal) rfl, in_value,
    IdealRules.named_const.statement Cert.SampleIdeal.κ "qscale" .f32 0x3E38AA3B#32 ((8⁻¹ * (Real.log 2)⁻¹ : ℝ) : EReal) rfl, sa_value⟩

end Cert.Proof

end
